-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradGate (m : (ℓ : Loc Cert.GradGate.nD Cert.GradGate.τ Cert.GradGate.sig) → Buf (Elt Bits) ℓ) : Prop :=
  True

def Pre_GradGateIdeal (m : (ℓ : Loc Cert.GradGateIdeal.nD Cert.GradGateIdeal.τ Cert.GradGateIdeal.sig) → Buf (Elt Ideal) ℓ) : Prop :=
  True

def Pre_GradGateRefIdeal (m : (ℓ : Loc Cert.GradGateRefIdeal.nD Cert.GradGateRefIdeal.τ Cert.GradGateRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamLora (m : (ℓ : Loc Cert.AdamLora.nD Cert.AdamLora.τ Cert.AdamLora.sig) → Buf (Elt Bits) ℓ) : Prop :=
  True

def Pre_AdamLoraIdeal (m : (ℓ : Loc Cert.AdamLoraIdeal.nD Cert.AdamLoraIdeal.τ Cert.AdamLoraIdeal.sig) → Buf (Elt Ideal) ℓ) : Prop :=
  True

def Pre_AdamLoraRefIdeal (m : (ℓ : Loc Cert.AdamLoraRefIdeal.nD Cert.AdamLoraRefIdeal.τ Cert.AdamLoraRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_GradGate [hGradGate : Cert.GradGate.Facts] : Prop :=
  ∀ (m : (ℓ : Loc Cert.GradGate.nD Cert.GradGate.τ Cert.GradGate.sig) → Buf (Elt Bits) ℓ) (g : Dev Cert.GradGate.nD → PrngReg), Pre_GradGate m →
    θ_run (Cert.GradGate.defs (F := Bits)) (onTc (τ := Cert.GradGate.τ) (Cert.GradGate.main (F := Bits))) ⟨m, fun _ => 0, g⟩ (fun r => (∀ c : Dev Cert.GradGate.nD,
      r.2.mem ((c.tc : Thread Cert.GradGate.nD Cert.GradGate.τ).loc Cert.GradGate.main_arg0) = m ((c.tc : Thread Cert.GradGate.nD Cert.GradGate.τ).loc Cert.GradGate.main_arg0)
      ∧ r.2.mem ((c.tc : Thread Cert.GradGate.nD Cert.GradGate.τ).loc Cert.GradGate.main_arg1) = m ((c.tc : Thread Cert.GradGate.nD Cert.GradGate.τ).loc Cert.GradGate.main_arg1))
      ∧ r.2.sem = fun _ => 0)

def quiescent_GradGateIdeal [hGradGateIdeal : Cert.GradGateIdeal.Facts] : Prop :=
  ∀ (m : (ℓ : Loc Cert.GradGateIdeal.nD Cert.GradGateIdeal.τ Cert.GradGateIdeal.sig) → Buf (Elt Ideal) ℓ) (g : Dev Cert.GradGateIdeal.nD → PrngReg), Pre_GradGateIdeal m →
    θ_run (Cert.GradGateIdeal.defs (F := Ideal)) (onTc (τ := Cert.GradGateIdeal.τ) (Cert.GradGateIdeal.main (F := Ideal))) ⟨m, fun _ => 0, g⟩ (fun r => (∀ c : Dev Cert.GradGateIdeal.nD,
      r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
      ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ r.2.sem = fun _ => 0)

def quiescent_GradGateRefIdeal [hGradGateRefIdeal : Cert.GradGateRefIdeal.Facts] : Prop :=
  ∀ (m : (ℓ : Loc Cert.GradGateRefIdeal.nD Cert.GradGateRefIdeal.τ Cert.GradGateRefIdeal.sig) → Buf (Elt Ideal) ℓ) (g : Dev Cert.GradGateRefIdeal.nD → PrngReg), Pre_GradGateRefIdeal m →
    θ_run (Cert.GradGateRefIdeal.defs (F := Ideal)) (onTc (τ := Cert.GradGateRefIdeal.τ) (Cert.GradGateRefIdeal.main (F := Ideal))) ⟨m, fun _ => 0, g⟩ (fun r => (∀ c : Dev Cert.GradGateRefIdeal.nD,
      r.2.mem ((c.tc : Thread Cert.GradGateRefIdeal.nD Cert.GradGateRefIdeal.τ).loc Cert.GradGateRefIdeal.main_arg0) = m ((c.tc : Thread Cert.GradGateRefIdeal.nD Cert.GradGateRefIdeal.τ).loc Cert.GradGateRefIdeal.main_arg0)
      ∧ r.2.mem ((c.tc : Thread Cert.GradGateRefIdeal.nD Cert.GradGateRefIdeal.τ).loc Cert.GradGateRefIdeal.main_arg1) = m ((c.tc : Thread Cert.GradGateRefIdeal.nD Cert.GradGateRefIdeal.τ).loc Cert.GradGateRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamLora [hAdamLora : Cert.AdamLora.Facts] : Prop :=
  ∀ (m : (ℓ : Loc Cert.AdamLora.nD Cert.AdamLora.τ Cert.AdamLora.sig) → Buf (Elt Bits) ℓ) (g : Dev Cert.AdamLora.nD → PrngReg), Pre_AdamLora m →
    θ_run (Cert.AdamLora.defs (F := Bits)) (onTc (τ := Cert.AdamLora.τ) (Cert.AdamLora.main (F := Bits))) ⟨m, fun _ => 0, g⟩ (fun r => (∀ c : Dev Cert.AdamLora.nD,
      r.2.mem ((c.tc : Thread Cert.AdamLora.nD Cert.AdamLora.τ).loc Cert.AdamLora.main_arg0) = m ((c.tc : Thread Cert.AdamLora.nD Cert.AdamLora.τ).loc Cert.AdamLora.main_arg0)
      ∧ r.2.mem ((c.tc : Thread Cert.AdamLora.nD Cert.AdamLora.τ).loc Cert.AdamLora.main_arg1) = m ((c.tc : Thread Cert.AdamLora.nD Cert.AdamLora.τ).loc Cert.AdamLora.main_arg1)
      ∧ r.2.mem ((c.tc : Thread Cert.AdamLora.nD Cert.AdamLora.τ).loc Cert.AdamLora.main_arg2) = m ((c.tc : Thread Cert.AdamLora.nD Cert.AdamLora.τ).loc Cert.AdamLora.main_arg2)
      ∧ r.2.mem ((c.tc : Thread Cert.AdamLora.nD Cert.AdamLora.τ).loc Cert.AdamLora.main_arg3) = m ((c.tc : Thread Cert.AdamLora.nD Cert.AdamLora.τ).loc Cert.AdamLora.main_arg3)
      ∧ r.2.mem ((c.tc : Thread Cert.AdamLora.nD Cert.AdamLora.τ).loc Cert.AdamLora.main_arg4) = m ((c.tc : Thread Cert.AdamLora.nD Cert.AdamLora.τ).loc Cert.AdamLora.main_arg4)
      ∧ r.2.mem ((c.tc : Thread Cert.AdamLora.nD Cert.AdamLora.τ).loc Cert.AdamLora.main_arg5) = m ((c.tc : Thread Cert.AdamLora.nD Cert.AdamLora.τ).loc Cert.AdamLora.main_arg5)
      ∧ r.2.mem ((c.tc : Thread Cert.AdamLora.nD Cert.AdamLora.τ).loc Cert.AdamLora.main_arg6) = m ((c.tc : Thread Cert.AdamLora.nD Cert.AdamLora.τ).loc Cert.AdamLora.main_arg6)
      ∧ r.2.mem ((c.tc : Thread Cert.AdamLora.nD Cert.AdamLora.τ).loc Cert.AdamLora.main_arg7) = m ((c.tc : Thread Cert.AdamLora.nD Cert.AdamLora.τ).loc Cert.AdamLora.main_arg7)
      ∧ r.2.mem ((c.tc : Thread Cert.AdamLora.nD Cert.AdamLora.τ).loc Cert.AdamLora.main_arg8) = m ((c.tc : Thread Cert.AdamLora.nD Cert.AdamLora.τ).loc Cert.AdamLora.main_arg8)
      ∧ r.2.mem ((c.tc : Thread Cert.AdamLora.nD Cert.AdamLora.τ).loc Cert.AdamLora.main_arg9) = m ((c.tc : Thread Cert.AdamLora.nD Cert.AdamLora.τ).loc Cert.AdamLora.main_arg9)
      ∧ r.2.mem ((c.tc : Thread Cert.AdamLora.nD Cert.AdamLora.τ).loc Cert.AdamLora.main_arg10) = m ((c.tc : Thread Cert.AdamLora.nD Cert.AdamLora.τ).loc Cert.AdamLora.main_arg10)
      ∧ r.2.mem ((c.tc : Thread Cert.AdamLora.nD Cert.AdamLora.τ).loc Cert.AdamLora.main_arg11) = m ((c.tc : Thread Cert.AdamLora.nD Cert.AdamLora.τ).loc Cert.AdamLora.main_arg11))
      ∧ r.2.sem = fun _ => 0)

def quiescent_AdamLoraIdeal [hAdamLoraIdeal : Cert.AdamLoraIdeal.Facts] : Prop :=
  ∀ (m : (ℓ : Loc Cert.AdamLoraIdeal.nD Cert.AdamLoraIdeal.τ Cert.AdamLoraIdeal.sig) → Buf (Elt Ideal) ℓ) (g : Dev Cert.AdamLoraIdeal.nD → PrngReg), Pre_AdamLoraIdeal m →
    θ_run (Cert.AdamLoraIdeal.defs (F := Ideal)) (onTc (τ := Cert.AdamLoraIdeal.τ) (Cert.AdamLoraIdeal.main (F := Ideal))) ⟨m, fun _ => 0, g⟩ (fun r => (∀ c : Dev Cert.AdamLoraIdeal.nD,
      r.2.mem ((c.tc : Thread Cert.AdamLoraIdeal.nD Cert.AdamLoraIdeal.τ).loc Cert.AdamLoraIdeal.main_arg0) = m ((c.tc : Thread Cert.AdamLoraIdeal.nD Cert.AdamLoraIdeal.τ).loc Cert.AdamLoraIdeal.main_arg0)
      ∧ r.2.mem ((c.tc : Thread Cert.AdamLoraIdeal.nD Cert.AdamLoraIdeal.τ).loc Cert.AdamLoraIdeal.main_arg1) = m ((c.tc : Thread Cert.AdamLoraIdeal.nD Cert.AdamLoraIdeal.τ).loc Cert.AdamLoraIdeal.main_arg1)
      ∧ r.2.mem ((c.tc : Thread Cert.AdamLoraIdeal.nD Cert.AdamLoraIdeal.τ).loc Cert.AdamLoraIdeal.main_arg2) = m ((c.tc : Thread Cert.AdamLoraIdeal.nD Cert.AdamLoraIdeal.τ).loc Cert.AdamLoraIdeal.main_arg2)
      ∧ r.2.mem ((c.tc : Thread Cert.AdamLoraIdeal.nD Cert.AdamLoraIdeal.τ).loc Cert.AdamLoraIdeal.main_arg3) = m ((c.tc : Thread Cert.AdamLoraIdeal.nD Cert.AdamLoraIdeal.τ).loc Cert.AdamLoraIdeal.main_arg3)
      ∧ r.2.mem ((c.tc : Thread Cert.AdamLoraIdeal.nD Cert.AdamLoraIdeal.τ).loc Cert.AdamLoraIdeal.main_arg4) = m ((c.tc : Thread Cert.AdamLoraIdeal.nD Cert.AdamLoraIdeal.τ).loc Cert.AdamLoraIdeal.main_arg4)
      ∧ r.2.mem ((c.tc : Thread Cert.AdamLoraIdeal.nD Cert.AdamLoraIdeal.τ).loc Cert.AdamLoraIdeal.main_arg5) = m ((c.tc : Thread Cert.AdamLoraIdeal.nD Cert.AdamLoraIdeal.τ).loc Cert.AdamLoraIdeal.main_arg5)
      ∧ r.2.mem ((c.tc : Thread Cert.AdamLoraIdeal.nD Cert.AdamLoraIdeal.τ).loc Cert.AdamLoraIdeal.main_arg6) = m ((c.tc : Thread Cert.AdamLoraIdeal.nD Cert.AdamLoraIdeal.τ).loc Cert.AdamLoraIdeal.main_arg6)
      ∧ r.2.mem ((c.tc : Thread Cert.AdamLoraIdeal.nD Cert.AdamLoraIdeal.τ).loc Cert.AdamLoraIdeal.main_arg7) = m ((c.tc : Thread Cert.AdamLoraIdeal.nD Cert.AdamLoraIdeal.τ).loc Cert.AdamLoraIdeal.main_arg7)
      ∧ r.2.mem ((c.tc : Thread Cert.AdamLoraIdeal.nD Cert.AdamLoraIdeal.τ).loc Cert.AdamLoraIdeal.main_arg8) = m ((c.tc : Thread Cert.AdamLoraIdeal.nD Cert.AdamLoraIdeal.τ).loc Cert.AdamLoraIdeal.main_arg8)
      ∧ r.2.mem ((c.tc : Thread Cert.AdamLoraIdeal.nD Cert.AdamLoraIdeal.τ).loc Cert.AdamLoraIdeal.main_arg9) = m ((c.tc : Thread Cert.AdamLoraIdeal.nD Cert.AdamLoraIdeal.τ).loc Cert.AdamLoraIdeal.main_arg9)
      ∧ r.2.mem ((c.tc : Thread Cert.AdamLoraIdeal.nD Cert.AdamLoraIdeal.τ).loc Cert.AdamLoraIdeal.main_arg10) = m ((c.tc : Thread Cert.AdamLoraIdeal.nD Cert.AdamLoraIdeal.τ).loc Cert.AdamLoraIdeal.main_arg10)
      ∧ r.2.mem ((c.tc : Thread Cert.AdamLoraIdeal.nD Cert.AdamLoraIdeal.τ).loc Cert.AdamLoraIdeal.main_arg11) = m ((c.tc : Thread Cert.AdamLoraIdeal.nD Cert.AdamLoraIdeal.τ).loc Cert.AdamLoraIdeal.main_arg11))
      ∧ r.2.sem = fun _ => 0)

def quiescent_AdamLoraRefIdeal [hAdamLoraRefIdeal : Cert.AdamLoraRefIdeal.Facts] : Prop :=
  ∀ (m : (ℓ : Loc Cert.AdamLoraRefIdeal.nD Cert.AdamLoraRefIdeal.τ Cert.AdamLoraRefIdeal.sig) → Buf (Elt Ideal) ℓ) (g : Dev Cert.AdamLoraRefIdeal.nD → PrngReg), Pre_AdamLoraRefIdeal m →
    θ_run (Cert.AdamLoraRefIdeal.defs (F := Ideal)) (onTc (τ := Cert.AdamLoraRefIdeal.τ) (Cert.AdamLoraRefIdeal.main (F := Ideal))) ⟨m, fun _ => 0, g⟩ (fun r => (∀ c : Dev Cert.AdamLoraRefIdeal.nD,
      r.2.mem ((c.tc : Thread Cert.AdamLoraRefIdeal.nD Cert.AdamLoraRefIdeal.τ).loc Cert.AdamLoraRefIdeal.main_arg0) = m ((c.tc : Thread Cert.AdamLoraRefIdeal.nD Cert.AdamLoraRefIdeal.τ).loc Cert.AdamLoraRefIdeal.main_arg0)
      ∧ r.2.mem ((c.tc : Thread Cert.AdamLoraRefIdeal.nD Cert.AdamLoraRefIdeal.τ).loc Cert.AdamLoraRefIdeal.main_arg1) = m ((c.tc : Thread Cert.AdamLoraRefIdeal.nD Cert.AdamLoraRefIdeal.τ).loc Cert.AdamLoraRefIdeal.main_arg1)
      ∧ r.2.mem ((c.tc : Thread Cert.AdamLoraRefIdeal.nD Cert.AdamLoraRefIdeal.τ).loc Cert.AdamLoraRefIdeal.main_arg2) = m ((c.tc : Thread Cert.AdamLoraRefIdeal.nD Cert.AdamLoraRefIdeal.τ).loc Cert.AdamLoraRefIdeal.main_arg2)
      ∧ r.2.mem ((c.tc : Thread Cert.AdamLoraRefIdeal.nD Cert.AdamLoraRefIdeal.τ).loc Cert.AdamLoraRefIdeal.main_arg3) = m ((c.tc : Thread Cert.AdamLoraRefIdeal.nD Cert.AdamLoraRefIdeal.τ).loc Cert.AdamLoraRefIdeal.main_arg3)
      ∧ r.2.mem ((c.tc : Thread Cert.AdamLoraRefIdeal.nD Cert.AdamLoraRefIdeal.τ).loc Cert.AdamLoraRefIdeal.main_arg4) = m ((c.tc : Thread Cert.AdamLoraRefIdeal.nD Cert.AdamLoraRefIdeal.τ).loc Cert.AdamLoraRefIdeal.main_arg4)
      ∧ r.2.mem ((c.tc : Thread Cert.AdamLoraRefIdeal.nD Cert.AdamLoraRefIdeal.τ).loc Cert.AdamLoraRefIdeal.main_arg5) = m ((c.tc : Thread Cert.AdamLoraRefIdeal.nD Cert.AdamLoraRefIdeal.τ).loc Cert.AdamLoraRefIdeal.main_arg5)
      ∧ r.2.mem ((c.tc : Thread Cert.AdamLoraRefIdeal.nD Cert.AdamLoraRefIdeal.τ).loc Cert.AdamLoraRefIdeal.main_arg6) = m ((c.tc : Thread Cert.AdamLoraRefIdeal.nD Cert.AdamLoraRefIdeal.τ).loc Cert.AdamLoraRefIdeal.main_arg6)
      ∧ r.2.mem ((c.tc : Thread Cert.AdamLoraRefIdeal.nD Cert.AdamLoraRefIdeal.τ).loc Cert.AdamLoraRefIdeal.main_arg7) = m ((c.tc : Thread Cert.AdamLoraRefIdeal.nD Cert.AdamLoraRefIdeal.τ).loc Cert.AdamLoraRefIdeal.main_arg7)
      ∧ r.2.mem ((c.tc : Thread Cert.AdamLoraRefIdeal.nD Cert.AdamLoraRefIdeal.τ).loc Cert.AdamLoraRefIdeal.main_arg8) = m ((c.tc : Thread Cert.AdamLoraRefIdeal.nD Cert.AdamLoraRefIdeal.τ).loc Cert.AdamLoraRefIdeal.main_arg8)
      ∧ r.2.mem ((c.tc : Thread Cert.AdamLoraRefIdeal.nD Cert.AdamLoraRefIdeal.τ).loc Cert.AdamLoraRefIdeal.main_arg9) = m ((c.tc : Thread Cert.AdamLoraRefIdeal.nD Cert.AdamLoraRefIdeal.τ).loc Cert.AdamLoraRefIdeal.main_arg9)
      ∧ r.2.mem ((c.tc : Thread Cert.AdamLoraRefIdeal.nD Cert.AdamLoraRefIdeal.τ).loc Cert.AdamLoraRefIdeal.main_arg10) = m ((c.tc : Thread Cert.AdamLoraRefIdeal.nD Cert.AdamLoraRefIdeal.τ).loc Cert.AdamLoraRefIdeal.main_arg10)
      ∧ r.2.mem ((c.tc : Thread Cert.AdamLoraRefIdeal.nD Cert.AdamLoraRefIdeal.τ).loc Cert.AdamLoraRefIdeal.main_arg11) = m ((c.tc : Thread Cert.AdamLoraRefIdeal.nD Cert.AdamLoraRefIdeal.τ).loc Cert.AdamLoraRefIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)) (v6 : (c : Dev Cert.KernelIdeal.nD) → Buf (Elt Ideal) ((c.tc : Thread Cert.KernelIdeal.nD Cert.KernelIdeal.τ).loc Cert.KernelIdeal.main_v9_6)) (v7 : (c : Dev Cert.KernelIdeal.nD) → Buf (Elt Ideal) ((c.tc : Thread Cert.KernelIdeal.nD Cert.KernelIdeal.τ).loc Cert.KernelIdeal.main_v9_7)) (v8 : (c : Dev Cert.KernelIdeal.nD) → Buf (Elt Ideal) ((c.tc : Thread Cert.KernelIdeal.nD Cert.KernelIdeal.τ).loc Cert.KernelIdeal.main_v9_8)) (v9 : (c : Dev Cert.KernelIdeal.nD) → Buf (Elt Ideal) ((c.tc : Thread Cert.KernelIdeal.nD Cert.KernelIdeal.τ).loc Cert.KernelIdeal.main_v9_9)) (v10 : (c : Dev Cert.KernelIdeal.nD) → Buf (Elt Ideal) ((c.tc : Thread Cert.KernelIdeal.nD Cert.KernelIdeal.τ).loc Cert.KernelIdeal.main_v9_10)) (v11 : (c : Dev Cert.KernelIdeal.nD) → Buf (Elt Ideal) ((c.tc : Thread Cert.KernelIdeal.nD Cert.KernelIdeal.τ).loc Cert.KernelIdeal.main_v9_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_v9_6) = v6 c
          ∧ r.2.mem ((c.tc : Thread Cert.KernelIdeal.nD Cert.KernelIdeal.τ).loc Cert.KernelIdeal.main_v9_7) = v7 c
          ∧ r.2.mem ((c.tc : Thread Cert.KernelIdeal.nD Cert.KernelIdeal.τ).loc Cert.KernelIdeal.main_v9_8) = v8 c
          ∧ r.2.mem ((c.tc : Thread Cert.KernelIdeal.nD Cert.KernelIdeal.τ).loc Cert.KernelIdeal.main_v9_9) = v9 c
          ∧ r.2.mem ((c.tc : Thread Cert.KernelIdeal.nD Cert.KernelIdeal.τ).loc Cert.KernelIdeal.main_v9_10) = v10 c
          ∧ r.2.mem ((c.tc : Thread Cert.KernelIdeal.nD Cert.KernelIdeal.τ).loc Cert.KernelIdeal.main_v9_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v104) = v4 c
          ∧ r.2.mem ((c.tc : Thread Cert.ReferenceIdeal.nD Cert.ReferenceIdeal.τ).loc Cert.ReferenceIdeal.main_v105) = v5 c
          ∧ r.2.mem ((c.tc : Thread Cert.ReferenceIdeal.nD Cert.ReferenceIdeal.τ).loc Cert.ReferenceIdeal.main_v98) = v6 c
          ∧ r.2.mem ((c.tc : Thread Cert.ReferenceIdeal.nD Cert.ReferenceIdeal.τ).loc Cert.ReferenceIdeal.main_v106) = v7 c
          ∧ r.2.mem ((c.tc : Thread Cert.ReferenceIdeal.nD Cert.ReferenceIdeal.τ).loc Cert.ReferenceIdeal.main_v107) = v8 c
          ∧ r.2.mem ((c.tc : Thread Cert.ReferenceIdeal.nD Cert.ReferenceIdeal.τ).loc Cert.ReferenceIdeal.main_v111) = v9 c
          ∧ r.2.mem ((c.tc : Thread Cert.ReferenceIdeal.nD Cert.ReferenceIdeal.τ).loc Cert.ReferenceIdeal.main_v113) = v10 c
          ∧ r.2.mem ((c.tc : Thread Cert.ReferenceIdeal.nD Cert.ReferenceIdeal.τ).loc Cert.ReferenceIdeal.main_v115) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v2)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v2) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v4) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_GradGate_GradGateIdeal : Prop :=
  True

def algebraic_GradGateIdeal_GradGateRefIdeal [hGradGateIdeal : Cert.GradGateIdeal.Facts] [hGradGateRefIdeal : Cert.GradGateRefIdeal.Facts] : Prop :=
  ∀ (m : (ℓ : Loc Cert.GradGateIdeal.nD Cert.GradGateIdeal.τ Cert.GradGateIdeal.sig) → Buf (Elt Ideal) ℓ) (g : Dev Cert.GradGateIdeal.nD → PrngReg)
    (m' : (ℓ : Loc Cert.GradGateRefIdeal.nD Cert.GradGateRefIdeal.τ Cert.GradGateRefIdeal.sig) → Buf (Elt Ideal) ℓ) (g' : Dev Cert.GradGateRefIdeal.nD → PrngReg), Pre_GradGateIdeal m →
    (∀ c : Dev Cert.GradGateIdeal.nD,
      m' ((c.tc : Thread Cert.GradGateRefIdeal.nD Cert.GradGateRefIdeal.τ).loc Cert.GradGateRefIdeal.main_arg0) = m ((c.tc : Thread Cert.GradGateIdeal.nD Cert.GradGateIdeal.τ).loc Cert.GradGateIdeal.main_arg0)
      ∧ m' ((c.tc : Thread Cert.GradGateRefIdeal.nD Cert.GradGateRefIdeal.τ).loc Cert.GradGateRefIdeal.main_arg1) = m ((c.tc : Thread Cert.GradGateIdeal.nD Cert.GradGateIdeal.τ).loc Cert.GradGateIdeal.main_arg1)) →
    ∃ (v0 : (c : Dev Cert.GradGateIdeal.nD) → Buf (Elt Ideal) ((c.tc : Thread Cert.GradGateIdeal.nD Cert.GradGateIdeal.τ).loc Cert.GradGateIdeal.main_v2)),
      θ_run (Cert.GradGateIdeal.defs (F := Ideal)) (onTc (τ := Cert.GradGateIdeal.τ) (Cert.GradGateIdeal.main (F := Ideal))) ⟨m, fun _ => 0, g⟩ (fun r => ∀ c : Dev Cert.GradGateIdeal.nD,
          r.2.mem ((c.tc : Thread Cert.GradGateIdeal.nD Cert.GradGateIdeal.τ).loc Cert.GradGateIdeal.main_v2) = v0 c
          ∧ r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
          ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ θ_run (Cert.GradGateRefIdeal.defs (F := Ideal)) (onTc (τ := Cert.GradGateRefIdeal.τ) (Cert.GradGateRefIdeal.main (F := Ideal))) ⟨m', fun _ => 0, g'⟩ (fun r => ∀ c : Dev Cert.GradGateRefIdeal.nD,
          r.2.mem ((c.tc : Thread Cert.GradGateRefIdeal.nD Cert.GradGateRefIdeal.τ).loc Cert.GradGateRefIdeal.main_v6) = v0 c
          ∧ r.2.mem ((c.tc : Thread Cert.GradGateRefIdeal.nD Cert.GradGateRefIdeal.τ).loc Cert.GradGateRefIdeal.main_arg0) = m' ((c.tc : Thread Cert.GradGateRefIdeal.nD Cert.GradGateRefIdeal.τ).loc Cert.GradGateRefIdeal.main_arg0)
          ∧ r.2.mem ((c.tc : Thread Cert.GradGateRefIdeal.nD Cert.GradGateRefIdeal.τ).loc Cert.GradGateRefIdeal.main_arg1) = m' ((c.tc : Thread Cert.GradGateRefIdeal.nD Cert.GradGateRefIdeal.τ).loc Cert.GradGateRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v2)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v2) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v4) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v2)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v2) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v6) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v10_0)) (v1 : (c : Dev Cert.AdamInIdeal.nD) → Buf (Elt Ideal) ((c.tc : Thread Cert.AdamInIdeal.nD Cert.AdamInIdeal.τ).loc Cert.AdamInIdeal.main_v10_1)) (v2 : (c : Dev Cert.AdamInIdeal.nD) → Buf (Elt Ideal) ((c.tc : Thread Cert.AdamInIdeal.nD Cert.AdamInIdeal.τ).loc Cert.AdamInIdeal.main_v10_2)) (v3 : (c : Dev Cert.AdamInIdeal.nD) → Buf (Elt Ideal) ((c.tc : Thread Cert.AdamInIdeal.nD Cert.AdamInIdeal.τ).loc Cert.AdamInIdeal.main_v10_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v10_0) = v0 c
          ∧ r.2.mem ((c.tc : Thread Cert.AdamInIdeal.nD Cert.AdamInIdeal.τ).loc Cert.AdamInIdeal.main_v10_1) = v1 c
          ∧ r.2.mem ((c.tc : Thread Cert.AdamInIdeal.nD Cert.AdamInIdeal.τ).loc Cert.AdamInIdeal.main_v10_2) = v2 c
          ∧ r.2.mem ((c.tc : Thread Cert.AdamInIdeal.nD Cert.AdamInIdeal.τ).loc Cert.AdamInIdeal.main_v10_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v25) = v0 c
          ∧ r.2.mem ((c.tc : Thread Cert.AdamInRefIdeal.nD Cert.AdamInRefIdeal.τ).loc Cert.AdamInRefIdeal.main_v26) = v1 c
          ∧ r.2.mem ((c.tc : Thread Cert.AdamInRefIdeal.nD Cert.AdamInRefIdeal.τ).loc Cert.AdamInRefIdeal.main_v27) = v2 c
          ∧ r.2.mem ((c.tc : Thread Cert.AdamInRefIdeal.nD Cert.AdamInRefIdeal.τ).loc Cert.AdamInRefIdeal.main_v28) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v10_0)) (v1 : (c : Dev Cert.AdamGateIdeal.nD) → Buf (Elt Ideal) ((c.tc : Thread Cert.AdamGateIdeal.nD Cert.AdamGateIdeal.τ).loc Cert.AdamGateIdeal.main_v10_1)) (v2 : (c : Dev Cert.AdamGateIdeal.nD) → Buf (Elt Ideal) ((c.tc : Thread Cert.AdamGateIdeal.nD Cert.AdamGateIdeal.τ).loc Cert.AdamGateIdeal.main_v10_2)) (v3 : (c : Dev Cert.AdamGateIdeal.nD) → Buf (Elt Ideal) ((c.tc : Thread Cert.AdamGateIdeal.nD Cert.AdamGateIdeal.τ).loc Cert.AdamGateIdeal.main_v10_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v10_0) = v0 c
          ∧ r.2.mem ((c.tc : Thread Cert.AdamGateIdeal.nD Cert.AdamGateIdeal.τ).loc Cert.AdamGateIdeal.main_v10_1) = v1 c
          ∧ r.2.mem ((c.tc : Thread Cert.AdamGateIdeal.nD Cert.AdamGateIdeal.τ).loc Cert.AdamGateIdeal.main_v10_2) = v2 c
          ∧ r.2.mem ((c.tc : Thread Cert.AdamGateIdeal.nD Cert.AdamGateIdeal.τ).loc Cert.AdamGateIdeal.main_v10_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v25) = v0 c
          ∧ r.2.mem ((c.tc : Thread Cert.AdamGateRefIdeal.nD Cert.AdamGateRefIdeal.τ).loc Cert.AdamGateRefIdeal.main_v26) = v1 c
          ∧ r.2.mem ((c.tc : Thread Cert.AdamGateRefIdeal.nD Cert.AdamGateRefIdeal.τ).loc Cert.AdamGateRefIdeal.main_v27) = v2 c
          ∧ r.2.mem ((c.tc : Thread Cert.AdamGateRefIdeal.nD Cert.AdamGateRefIdeal.τ).loc Cert.AdamGateRefIdeal.main_v28) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v24) = v1 c
          ∧ r.2.mem ((c.tc : Thread Cert.AdamDownRefIdeal.nD Cert.AdamDownRefIdeal.τ).loc Cert.AdamDownRefIdeal.main_v5) = v2 c
          ∧ r.2.mem ((c.tc : Thread Cert.AdamDownRefIdeal.nD Cert.AdamDownRefIdeal.τ).loc Cert.AdamDownRefIdeal.main_v11) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamLora_AdamLoraIdeal : Prop :=
  True

def algebraic_AdamLoraIdeal_AdamLoraRefIdeal [hAdamLoraIdeal : Cert.AdamLoraIdeal.Facts] [hAdamLoraRefIdeal : Cert.AdamLoraRefIdeal.Facts] : Prop :=
  ∀ (m : (ℓ : Loc Cert.AdamLoraIdeal.nD Cert.AdamLoraIdeal.τ Cert.AdamLoraIdeal.sig) → Buf (Elt Ideal) ℓ) (g : Dev Cert.AdamLoraIdeal.nD → PrngReg)
    (m' : (ℓ : Loc Cert.AdamLoraRefIdeal.nD Cert.AdamLoraRefIdeal.τ Cert.AdamLoraRefIdeal.sig) → Buf (Elt Ideal) ℓ) (g' : Dev Cert.AdamLoraRefIdeal.nD → PrngReg), Pre_AdamLoraIdeal m →
    (∀ c : Dev Cert.AdamLoraIdeal.nD,
      m' ((c.tc : Thread Cert.AdamLoraRefIdeal.nD Cert.AdamLoraRefIdeal.τ).loc Cert.AdamLoraRefIdeal.main_arg0) = m ((c.tc : Thread Cert.AdamLoraIdeal.nD Cert.AdamLoraIdeal.τ).loc Cert.AdamLoraIdeal.main_arg0)
      ∧ m' ((c.tc : Thread Cert.AdamLoraRefIdeal.nD Cert.AdamLoraRefIdeal.τ).loc Cert.AdamLoraRefIdeal.main_arg1) = m ((c.tc : Thread Cert.AdamLoraIdeal.nD Cert.AdamLoraIdeal.τ).loc Cert.AdamLoraIdeal.main_arg1)
      ∧ m' ((c.tc : Thread Cert.AdamLoraRefIdeal.nD Cert.AdamLoraRefIdeal.τ).loc Cert.AdamLoraRefIdeal.main_arg2) = m ((c.tc : Thread Cert.AdamLoraIdeal.nD Cert.AdamLoraIdeal.τ).loc Cert.AdamLoraIdeal.main_arg2)
      ∧ m' ((c.tc : Thread Cert.AdamLoraRefIdeal.nD Cert.AdamLoraRefIdeal.τ).loc Cert.AdamLoraRefIdeal.main_arg3) = m ((c.tc : Thread Cert.AdamLoraIdeal.nD Cert.AdamLoraIdeal.τ).loc Cert.AdamLoraIdeal.main_arg3)
      ∧ m' ((c.tc : Thread Cert.AdamLoraRefIdeal.nD Cert.AdamLoraRefIdeal.τ).loc Cert.AdamLoraRefIdeal.main_arg4) = m ((c.tc : Thread Cert.AdamLoraIdeal.nD Cert.AdamLoraIdeal.τ).loc Cert.AdamLoraIdeal.main_arg4)
      ∧ m' ((c.tc : Thread Cert.AdamLoraRefIdeal.nD Cert.AdamLoraRefIdeal.τ).loc Cert.AdamLoraRefIdeal.main_arg5) = m ((c.tc : Thread Cert.AdamLoraIdeal.nD Cert.AdamLoraIdeal.τ).loc Cert.AdamLoraIdeal.main_arg5)
      ∧ m' ((c.tc : Thread Cert.AdamLoraRefIdeal.nD Cert.AdamLoraRefIdeal.τ).loc Cert.AdamLoraRefIdeal.main_arg6) = m ((c.tc : Thread Cert.AdamLoraIdeal.nD Cert.AdamLoraIdeal.τ).loc Cert.AdamLoraIdeal.main_arg6)
      ∧ m' ((c.tc : Thread Cert.AdamLoraRefIdeal.nD Cert.AdamLoraRefIdeal.τ).loc Cert.AdamLoraRefIdeal.main_arg7) = m ((c.tc : Thread Cert.AdamLoraIdeal.nD Cert.AdamLoraIdeal.τ).loc Cert.AdamLoraIdeal.main_arg7)
      ∧ m' ((c.tc : Thread Cert.AdamLoraRefIdeal.nD Cert.AdamLoraRefIdeal.τ).loc Cert.AdamLoraRefIdeal.main_arg8) = m ((c.tc : Thread Cert.AdamLoraIdeal.nD Cert.AdamLoraIdeal.τ).loc Cert.AdamLoraIdeal.main_arg8)
      ∧ m' ((c.tc : Thread Cert.AdamLoraRefIdeal.nD Cert.AdamLoraRefIdeal.τ).loc Cert.AdamLoraRefIdeal.main_arg9) = m ((c.tc : Thread Cert.AdamLoraIdeal.nD Cert.AdamLoraIdeal.τ).loc Cert.AdamLoraIdeal.main_arg9)
      ∧ m' ((c.tc : Thread Cert.AdamLoraRefIdeal.nD Cert.AdamLoraRefIdeal.τ).loc Cert.AdamLoraRefIdeal.main_arg10) = m ((c.tc : Thread Cert.AdamLoraIdeal.nD Cert.AdamLoraIdeal.τ).loc Cert.AdamLoraIdeal.main_arg10)
      ∧ m' ((c.tc : Thread Cert.AdamLoraRefIdeal.nD Cert.AdamLoraRefIdeal.τ).loc Cert.AdamLoraRefIdeal.main_arg11) = m ((c.tc : Thread Cert.AdamLoraIdeal.nD Cert.AdamLoraIdeal.τ).loc Cert.AdamLoraIdeal.main_arg11)) →
    ∃ (v0 : (c : Dev Cert.AdamLoraIdeal.nD) → Buf (Elt Ideal) ((c.tc : Thread Cert.AdamLoraIdeal.nD Cert.AdamLoraIdeal.τ).loc Cert.AdamLoraIdeal.main_v1_0)) (v1 : (c : Dev Cert.AdamLoraIdeal.nD) → Buf (Elt Ideal) ((c.tc : Thread Cert.AdamLoraIdeal.nD Cert.AdamLoraIdeal.τ).loc Cert.AdamLoraIdeal.main_v1_1)) (v2 : (c : Dev Cert.AdamLoraIdeal.nD) → Buf (Elt Ideal) ((c.tc : Thread Cert.AdamLoraIdeal.nD Cert.AdamLoraIdeal.τ).loc Cert.AdamLoraIdeal.main_v1_2)) (v3 : (c : Dev Cert.AdamLoraIdeal.nD) → Buf (Elt Ideal) ((c.tc : Thread Cert.AdamLoraIdeal.nD Cert.AdamLoraIdeal.τ).loc Cert.AdamLoraIdeal.main_v1_3)) (v4 : (c : Dev Cert.AdamLoraIdeal.nD) → Buf (Elt Ideal) ((c.tc : Thread Cert.AdamLoraIdeal.nD Cert.AdamLoraIdeal.τ).loc Cert.AdamLoraIdeal.main_v1_4)) (v5 : (c : Dev Cert.AdamLoraIdeal.nD) → Buf (Elt Ideal) ((c.tc : Thread Cert.AdamLoraIdeal.nD Cert.AdamLoraIdeal.τ).loc Cert.AdamLoraIdeal.main_v1_5)) (v6 : (c : Dev Cert.AdamLoraIdeal.nD) → Buf (Elt Ideal) ((c.tc : Thread Cert.AdamLoraIdeal.nD Cert.AdamLoraIdeal.τ).loc Cert.AdamLoraIdeal.main_v1_6)) (v7 : (c : Dev Cert.AdamLoraIdeal.nD) → Buf (Elt Ideal) ((c.tc : Thread Cert.AdamLoraIdeal.nD Cert.AdamLoraIdeal.τ).loc Cert.AdamLoraIdeal.main_v1_7)) (v8 : (c : Dev Cert.AdamLoraIdeal.nD) → Buf (Elt Ideal) ((c.tc : Thread Cert.AdamLoraIdeal.nD Cert.AdamLoraIdeal.τ).loc Cert.AdamLoraIdeal.main_v1_8)) (v9 : (c : Dev Cert.AdamLoraIdeal.nD) → Buf (Elt Ideal) ((c.tc : Thread Cert.AdamLoraIdeal.nD Cert.AdamLoraIdeal.τ).loc Cert.AdamLoraIdeal.main_v1_9)) (v10 : (c : Dev Cert.AdamLoraIdeal.nD) → Buf (Elt Ideal) ((c.tc : Thread Cert.AdamLoraIdeal.nD Cert.AdamLoraIdeal.τ).loc Cert.AdamLoraIdeal.main_v1_10)) (v11 : (c : Dev Cert.AdamLoraIdeal.nD) → Buf (Elt Ideal) ((c.tc : Thread Cert.AdamLoraIdeal.nD Cert.AdamLoraIdeal.τ).loc Cert.AdamLoraIdeal.main_v1_11)),
      θ_run (Cert.AdamLoraIdeal.defs (F := Ideal)) (onTc (τ := Cert.AdamLoraIdeal.τ) (Cert.AdamLoraIdeal.main (F := Ideal))) ⟨m, fun _ => 0, g⟩ (fun r => ∀ c : Dev Cert.AdamLoraIdeal.nD,
          r.2.mem ((c.tc : Thread Cert.AdamLoraIdeal.nD Cert.AdamLoraIdeal.τ).loc Cert.AdamLoraIdeal.main_v1_0) = v0 c
          ∧ r.2.mem ((c.tc : Thread Cert.AdamLoraIdeal.nD Cert.AdamLoraIdeal.τ).loc Cert.AdamLoraIdeal.main_v1_1) = v1 c
          ∧ r.2.mem ((c.tc : Thread Cert.AdamLoraIdeal.nD Cert.AdamLoraIdeal.τ).loc Cert.AdamLoraIdeal.main_v1_2) = v2 c
          ∧ r.2.mem ((c.tc : Thread Cert.AdamLoraIdeal.nD Cert.AdamLoraIdeal.τ).loc Cert.AdamLoraIdeal.main_v1_3) = v3 c
          ∧ r.2.mem ((c.tc : Thread Cert.AdamLoraIdeal.nD Cert.AdamLoraIdeal.τ).loc Cert.AdamLoraIdeal.main_v1_4) = v4 c
          ∧ r.2.mem ((c.tc : Thread Cert.AdamLoraIdeal.nD Cert.AdamLoraIdeal.τ).loc Cert.AdamLoraIdeal.main_v1_5) = v5 c
          ∧ r.2.mem ((c.tc : Thread Cert.AdamLoraIdeal.nD Cert.AdamLoraIdeal.τ).loc Cert.AdamLoraIdeal.main_v1_6) = v6 c
          ∧ r.2.mem ((c.tc : Thread Cert.AdamLoraIdeal.nD Cert.AdamLoraIdeal.τ).loc Cert.AdamLoraIdeal.main_v1_7) = v7 c
          ∧ r.2.mem ((c.tc : Thread Cert.AdamLoraIdeal.nD Cert.AdamLoraIdeal.τ).loc Cert.AdamLoraIdeal.main_v1_8) = v8 c
          ∧ r.2.mem ((c.tc : Thread Cert.AdamLoraIdeal.nD Cert.AdamLoraIdeal.τ).loc Cert.AdamLoraIdeal.main_v1_9) = v9 c
          ∧ r.2.mem ((c.tc : Thread Cert.AdamLoraIdeal.nD Cert.AdamLoraIdeal.τ).loc Cert.AdamLoraIdeal.main_v1_10) = v10 c
          ∧ r.2.mem ((c.tc : Thread Cert.AdamLoraIdeal.nD Cert.AdamLoraIdeal.τ).loc Cert.AdamLoraIdeal.main_v1_11) = v11 c
          ∧ r.2.mem ((c.tc : Thread Cert.AdamLoraIdeal.nD Cert.AdamLoraIdeal.τ).loc Cert.AdamLoraIdeal.main_arg0) = m ((c.tc : Thread Cert.AdamLoraIdeal.nD Cert.AdamLoraIdeal.τ).loc Cert.AdamLoraIdeal.main_arg0)
          ∧ r.2.mem ((c.tc : Thread Cert.AdamLoraIdeal.nD Cert.AdamLoraIdeal.τ).loc Cert.AdamLoraIdeal.main_arg1) = m ((c.tc : Thread Cert.AdamLoraIdeal.nD Cert.AdamLoraIdeal.τ).loc Cert.AdamLoraIdeal.main_arg1)
          ∧ r.2.mem ((c.tc : Thread Cert.AdamLoraIdeal.nD Cert.AdamLoraIdeal.τ).loc Cert.AdamLoraIdeal.main_arg2) = m ((c.tc : Thread Cert.AdamLoraIdeal.nD Cert.AdamLoraIdeal.τ).loc Cert.AdamLoraIdeal.main_arg2)
          ∧ r.2.mem ((c.tc : Thread Cert.AdamLoraIdeal.nD Cert.AdamLoraIdeal.τ).loc Cert.AdamLoraIdeal.main_arg3) = m ((c.tc : Thread Cert.AdamLoraIdeal.nD Cert.AdamLoraIdeal.τ).loc Cert.AdamLoraIdeal.main_arg3)
          ∧ r.2.mem ((c.tc : Thread Cert.AdamLoraIdeal.nD Cert.AdamLoraIdeal.τ).loc Cert.AdamLoraIdeal.main_arg4) = m ((c.tc : Thread Cert.AdamLoraIdeal.nD Cert.AdamLoraIdeal.τ).loc Cert.AdamLoraIdeal.main_arg4)
          ∧ r.2.mem ((c.tc : Thread Cert.AdamLoraIdeal.nD Cert.AdamLoraIdeal.τ).loc Cert.AdamLoraIdeal.main_arg5) = m ((c.tc : Thread Cert.AdamLoraIdeal.nD Cert.AdamLoraIdeal.τ).loc Cert.AdamLoraIdeal.main_arg5)
          ∧ r.2.mem ((c.tc : Thread Cert.AdamLoraIdeal.nD Cert.AdamLoraIdeal.τ).loc Cert.AdamLoraIdeal.main_arg6) = m ((c.tc : Thread Cert.AdamLoraIdeal.nD Cert.AdamLoraIdeal.τ).loc Cert.AdamLoraIdeal.main_arg6)
          ∧ r.2.mem ((c.tc : Thread Cert.AdamLoraIdeal.nD Cert.AdamLoraIdeal.τ).loc Cert.AdamLoraIdeal.main_arg7) = m ((c.tc : Thread Cert.AdamLoraIdeal.nD Cert.AdamLoraIdeal.τ).loc Cert.AdamLoraIdeal.main_arg7)
          ∧ r.2.mem ((c.tc : Thread Cert.AdamLoraIdeal.nD Cert.AdamLoraIdeal.τ).loc Cert.AdamLoraIdeal.main_arg8) = m ((c.tc : Thread Cert.AdamLoraIdeal.nD Cert.AdamLoraIdeal.τ).loc Cert.AdamLoraIdeal.main_arg8)
          ∧ r.2.mem ((c.tc : Thread Cert.AdamLoraIdeal.nD Cert.AdamLoraIdeal.τ).loc Cert.AdamLoraIdeal.main_arg9) = m ((c.tc : Thread Cert.AdamLoraIdeal.nD Cert.AdamLoraIdeal.τ).loc Cert.AdamLoraIdeal.main_arg9)
          ∧ r.2.mem ((c.tc : Thread Cert.AdamLoraIdeal.nD Cert.AdamLoraIdeal.τ).loc Cert.AdamLoraIdeal.main_arg10) = m ((c.tc : Thread Cert.AdamLoraIdeal.nD Cert.AdamLoraIdeal.τ).loc Cert.AdamLoraIdeal.main_arg10)
          ∧ r.2.mem ((c.tc : Thread Cert.AdamLoraIdeal.nD Cert.AdamLoraIdeal.τ).loc Cert.AdamLoraIdeal.main_arg11) = m ((c.tc : Thread Cert.AdamLoraIdeal.nD Cert.AdamLoraIdeal.τ).loc Cert.AdamLoraIdeal.main_arg11))
      ∧ θ_run (Cert.AdamLoraRefIdeal.defs (F := Ideal)) (onTc (τ := Cert.AdamLoraRefIdeal.τ) (Cert.AdamLoraRefIdeal.main (F := Ideal))) ⟨m', fun _ => 0, g'⟩ (fun r => ∀ c : Dev Cert.AdamLoraRefIdeal.nD,
          r.2.mem ((c.tc : Thread Cert.AdamLoraRefIdeal.nD Cert.AdamLoraRefIdeal.τ).loc Cert.AdamLoraRefIdeal.main_v0) = v0 c
          ∧ r.2.mem ((c.tc : Thread Cert.AdamLoraRefIdeal.nD Cert.AdamLoraRefIdeal.τ).loc Cert.AdamLoraRefIdeal.main_v25) = v1 c
          ∧ r.2.mem ((c.tc : Thread Cert.AdamLoraRefIdeal.nD Cert.AdamLoraRefIdeal.τ).loc Cert.AdamLoraRefIdeal.main_v50) = v2 c
          ∧ r.2.mem ((c.tc : Thread Cert.AdamLoraRefIdeal.nD Cert.AdamLoraRefIdeal.τ).loc Cert.AdamLoraRefIdeal.main_v24) = v3 c
          ∧ r.2.mem ((c.tc : Thread Cert.AdamLoraRefIdeal.nD Cert.AdamLoraRefIdeal.τ).loc Cert.AdamLoraRefIdeal.main_v49) = v4 c
          ∧ r.2.mem ((c.tc : Thread Cert.AdamLoraRefIdeal.nD Cert.AdamLoraRefIdeal.τ).loc Cert.AdamLoraRefIdeal.main_v74) = v5 c
          ∧ r.2.mem ((c.tc : Thread Cert.AdamLoraRefIdeal.nD Cert.AdamLoraRefIdeal.τ).loc Cert.AdamLoraRefIdeal.main_v5) = v6 c
          ∧ r.2.mem ((c.tc : Thread Cert.AdamLoraRefIdeal.nD Cert.AdamLoraRefIdeal.τ).loc Cert.AdamLoraRefIdeal.main_v30) = v7 c
          ∧ r.2.mem ((c.tc : Thread Cert.AdamLoraRefIdeal.nD Cert.AdamLoraRefIdeal.τ).loc Cert.AdamLoraRefIdeal.main_v55) = v8 c
          ∧ r.2.mem ((c.tc : Thread Cert.AdamLoraRefIdeal.nD Cert.AdamLoraRefIdeal.τ).loc Cert.AdamLoraRefIdeal.main_v11) = v9 c
          ∧ r.2.mem ((c.tc : Thread Cert.AdamLoraRefIdeal.nD Cert.AdamLoraRefIdeal.τ).loc Cert.AdamLoraRefIdeal.main_v36) = v10 c
          ∧ r.2.mem ((c.tc : Thread Cert.AdamLoraRefIdeal.nD Cert.AdamLoraRefIdeal.τ).loc Cert.AdamLoraRefIdeal.main_v61) = v11 c
          ∧ r.2.mem ((c.tc : Thread Cert.AdamLoraRefIdeal.nD Cert.AdamLoraRefIdeal.τ).loc Cert.AdamLoraRefIdeal.main_arg0) = m' ((c.tc : Thread Cert.AdamLoraRefIdeal.nD Cert.AdamLoraRefIdeal.τ).loc Cert.AdamLoraRefIdeal.main_arg0)
          ∧ r.2.mem ((c.tc : Thread Cert.AdamLoraRefIdeal.nD Cert.AdamLoraRefIdeal.τ).loc Cert.AdamLoraRefIdeal.main_arg1) = m' ((c.tc : Thread Cert.AdamLoraRefIdeal.nD Cert.AdamLoraRefIdeal.τ).loc Cert.AdamLoraRefIdeal.main_arg1)
          ∧ r.2.mem ((c.tc : Thread Cert.AdamLoraRefIdeal.nD Cert.AdamLoraRefIdeal.τ).loc Cert.AdamLoraRefIdeal.main_arg2) = m' ((c.tc : Thread Cert.AdamLoraRefIdeal.nD Cert.AdamLoraRefIdeal.τ).loc Cert.AdamLoraRefIdeal.main_arg2)
          ∧ r.2.mem ((c.tc : Thread Cert.AdamLoraRefIdeal.nD Cert.AdamLoraRefIdeal.τ).loc Cert.AdamLoraRefIdeal.main_arg3) = m' ((c.tc : Thread Cert.AdamLoraRefIdeal.nD Cert.AdamLoraRefIdeal.τ).loc Cert.AdamLoraRefIdeal.main_arg3)
          ∧ r.2.mem ((c.tc : Thread Cert.AdamLoraRefIdeal.nD Cert.AdamLoraRefIdeal.τ).loc Cert.AdamLoraRefIdeal.main_arg4) = m' ((c.tc : Thread Cert.AdamLoraRefIdeal.nD Cert.AdamLoraRefIdeal.τ).loc Cert.AdamLoraRefIdeal.main_arg4)
          ∧ r.2.mem ((c.tc : Thread Cert.AdamLoraRefIdeal.nD Cert.AdamLoraRefIdeal.τ).loc Cert.AdamLoraRefIdeal.main_arg5) = m' ((c.tc : Thread Cert.AdamLoraRefIdeal.nD Cert.AdamLoraRefIdeal.τ).loc Cert.AdamLoraRefIdeal.main_arg5)
          ∧ r.2.mem ((c.tc : Thread Cert.AdamLoraRefIdeal.nD Cert.AdamLoraRefIdeal.τ).loc Cert.AdamLoraRefIdeal.main_arg6) = m' ((c.tc : Thread Cert.AdamLoraRefIdeal.nD Cert.AdamLoraRefIdeal.τ).loc Cert.AdamLoraRefIdeal.main_arg6)
          ∧ r.2.mem ((c.tc : Thread Cert.AdamLoraRefIdeal.nD Cert.AdamLoraRefIdeal.τ).loc Cert.AdamLoraRefIdeal.main_arg7) = m' ((c.tc : Thread Cert.AdamLoraRefIdeal.nD Cert.AdamLoraRefIdeal.τ).loc Cert.AdamLoraRefIdeal.main_arg7)
          ∧ r.2.mem ((c.tc : Thread Cert.AdamLoraRefIdeal.nD Cert.AdamLoraRefIdeal.τ).loc Cert.AdamLoraRefIdeal.main_arg8) = m' ((c.tc : Thread Cert.AdamLoraRefIdeal.nD Cert.AdamLoraRefIdeal.τ).loc Cert.AdamLoraRefIdeal.main_arg8)
          ∧ r.2.mem ((c.tc : Thread Cert.AdamLoraRefIdeal.nD Cert.AdamLoraRefIdeal.τ).loc Cert.AdamLoraRefIdeal.main_arg9) = m' ((c.tc : Thread Cert.AdamLoraRefIdeal.nD Cert.AdamLoraRefIdeal.τ).loc Cert.AdamLoraRefIdeal.main_arg9)
          ∧ r.2.mem ((c.tc : Thread Cert.AdamLoraRefIdeal.nD Cert.AdamLoraRefIdeal.τ).loc Cert.AdamLoraRefIdeal.main_arg10) = m' ((c.tc : Thread Cert.AdamLoraRefIdeal.nD Cert.AdamLoraRefIdeal.τ).loc Cert.AdamLoraRefIdeal.main_arg10)
          ∧ r.2.mem ((c.tc : Thread Cert.AdamLoraRefIdeal.nD Cert.AdamLoraRefIdeal.τ).loc Cert.AdamLoraRefIdeal.main_arg11) = m' ((c.tc : Thread Cert.AdamLoraRefIdeal.nD Cert.AdamLoraRefIdeal.τ).loc Cert.AdamLoraRefIdeal.main_arg11))

def Claim : Prop :=
  ∃ (hKernel : Cert.Kernel.Facts) (hKernelIdeal : Cert.KernelIdeal.Facts) (hReferenceIdeal : Cert.ReferenceIdeal.Facts) (hGradDown : Cert.GradDown.Facts) (hGradDownIdeal : Cert.GradDownIdeal.Facts) (hGradDownRefIdeal : Cert.GradDownRefIdeal.Facts) (hGradGate : Cert.GradGate.Facts) (hGradGateIdeal : Cert.GradGateIdeal.Facts) (hGradGateRefIdeal : Cert.GradGateRefIdeal.Facts) (hGradOut : Cert.GradOut.Facts) (hGradOutIdeal : Cert.GradOutIdeal.Facts) (hGradOutRefIdeal : Cert.GradOutRefIdeal.Facts) (hGradIn : Cert.GradIn.Facts) (hGradInIdeal : Cert.GradInIdeal.Facts) (hGradInRefIdeal : Cert.GradInRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamGate : Cert.AdamGate.Facts) (hAdamGateIdeal : Cert.AdamGateIdeal.Facts) (hAdamGateRefIdeal : Cert.AdamGateRefIdeal.Facts) (hAdamDown : Cert.AdamDown.Facts) (hAdamDownIdeal : Cert.AdamDownIdeal.Facts) (hAdamDownRefIdeal : Cert.AdamDownRefIdeal.Facts) (hAdamLora : Cert.AdamLora.Facts) (hAdamLoraIdeal : Cert.AdamLoraIdeal.Facts) (hAdamLoraRefIdeal : Cert.AdamLoraRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradGate (hGradGate := hGradGate)
    ∧ quiescent_GradGateIdeal (hGradGateIdeal := hGradGateIdeal)
    ∧ quiescent_GradGateRefIdeal (hGradGateRefIdeal := hGradGateRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamLora (hAdamLora := hAdamLora)
    ∧ quiescent_AdamLoraIdeal (hAdamLoraIdeal := hAdamLoraIdeal)
    ∧ quiescent_AdamLoraRefIdeal (hAdamLoraRefIdeal := hAdamLoraRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GradDown_GradDownIdeal
    ∧ algebraic_GradDownIdeal_GradDownRefIdeal (hGradDownIdeal := hGradDownIdeal) (hGradDownRefIdeal := hGradDownRefIdeal)
    ∧ preserves_GradGate_GradGateIdeal
    ∧ algebraic_GradGateIdeal_GradGateRefIdeal (hGradGateIdeal := hGradGateIdeal) (hGradGateRefIdeal := hGradGateRefIdeal)
    ∧ preserves_GradOut_GradOutIdeal
    ∧ algebraic_GradOutIdeal_GradOutRefIdeal (hGradOutIdeal := hGradOutIdeal) (hGradOutRefIdeal := hGradOutRefIdeal)
    ∧ preserves_GradIn_GradInIdeal
    ∧ algebraic_GradInIdeal_GradInRefIdeal (hGradInIdeal := hGradInIdeal) (hGradInRefIdeal := hGradInRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamLora_AdamLoraIdeal
    ∧ algebraic_AdamLoraIdeal_AdamLoraRefIdeal (hAdamLoraIdeal := hAdamLoraIdeal) (hAdamLoraRefIdeal := hAdamLoraRefIdeal)
-- ==== Pre_finite.lean ====
abbrev S2048x1024 : Shape := ⟨2, ![2048, 1024]⟩
abbrev S1024x2816 : Shape := ⟨2, ![1024, 2816]⟩
abbrev S2816x1024 : Shape := ⟨2, ![2816, 1024]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_arg6 : FVec F S1024 .f32) (main_arg7 : FVec F S1024 .f32) (main_arg8 : FVec F S2048x1024 .f32) (main_v2 : IVec S2048x1024 1) (main_v5 : IVec S2048x1024 1) (main_v8 : IVec S1024x2816 1) (main_v11 : IVec S1024x2816 1) (main_v14 : IVec S2816x1024 1) (main_v17 : IVec S1024x1024 1) : IVec S2048x1024 1 × IVec S2048x1024 1 × IVec S1024x2816 1 × IVec S1024x2816 1 × IVec S2816x1024 1 × IVec S1024x1024 1 × IVec S1024 1 × IVec S1024 1 × IVec S2048x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S2048x1024 .f32 := Host.absf main_arg8
  let main_cst_7 : FVec F S_ .f32 := constant S_ .f32 0x7F800000#32
  let main_v25 : FVec F S2048x1024 .f32 := broadcastInDim S2048x1024 ![] bcast_S_S2048x1024 main_cst_7
  let main_v26 : IVec S2048x1024 1 := cmpf .olt main_v24 main_v25
  (main_v2, main_v5, main_v8, main_v11, main_v14, main_v17, main_v20, main_v23, main_v26)

def fn {F : FTy → Type} [FloatOps F] (main_arg0 : FVec F S2048x1024 .f32) (main_arg1 : FVec F S2048x1024 .f32) (main_arg2 : FVec F S1024x2816 .f32) (main_arg3 : FVec F S1024x2816 .f32) (main_arg4 : FVec F S2816x1024 .f32) (main_arg5 : FVec F S1024x1024 .f32) (main_arg6 : FVec F S1024 .f32) (main_arg7 : FVec F S1024 .f32) (main_arg8 : FVec F S2048x1024 .f32) : IVec S2048x1024 1 × IVec S2048x1024 1 × IVec S1024x2816 1 × IVec S1024x2816 1 × IVec S2816x1024 1 × IVec S1024x1024 1 × IVec S1024 1 × IVec S1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_arg8 main_v2 main_v5 main_v8 main_v11 main_v14 main_v17
-- ==== Kernel.lean ====
abbrev S2048x1024 : Shape := ⟨2, ![2048, 1024]⟩
abbrev S1024x2816 : Shape := ⟨2, ![1024, 2816]⟩
abbrev S2816x1024 : Shape := ⟨2, ![2816, 1024]⟩
abbrev S1024x1024 : Shape := ⟨2, ![1024, 1024]⟩
abbrev S1024 : Shape := ⟨1, ![1024]⟩
abbrev S1x1024 : Shape := ⟨2, ![1, 1024]⟩
abbrev S2048x2816 : Shape := ⟨2, ![2048, 2816]⟩
abbrev S2048x512 : Shape := ⟨2, ![2048, 512]⟩
abbrev S8x128 : Shape := ⟨2, ![8, 128]⟩
abbrev S8x1024 : Shape := ⟨2, ![8, 1024]⟩
abbrev S256x1024 : Shape := ⟨2, ![256, 1024]⟩
abbrev S256x2816 : Shape := ⟨2, ![256, 2816]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S32x8x1024 : Shape := ⟨3, ![32, 8, 1024]⟩
abbrev S8 : Shape := ⟨1, ![8]⟩
abbrev S8x1 : Shape := ⟨2, ![8, 1]⟩

abbrev nBuf : Space → Nat
  | .hbm => 30
  | .vmem => 35
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S2048x1024, .f32⟩
  | .hbm, ⟨9, _⟩ => ⟨S2048x1024, .bf16⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S2816x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S2048x1024, .bf16⟩
  | .hbm, ⟨19, _⟩ => ⟨S2048x2816, .bf16⟩
  | .hbm, ⟨20, _⟩ => ⟨S2048x1024, .bf16⟩
  | .hbm, ⟨21, _⟩ => ⟨S2048x2816, .bf16⟩
  | .hbm, ⟨22, _⟩ => ⟨S2048x2816, .bf16⟩
  | .hbm, ⟨23, _⟩ => ⟨S2048x1024, .bf16⟩
  | .hbm, ⟨24, _⟩ => ⟨S2048x1024, .f32⟩
  | .hbm, ⟨25, _⟩ => ⟨S2048x512, .f32⟩
  | .hbm, ⟨26, _⟩ => ⟨S2048x512, .f32⟩
  | .hbm, ⟨27, _⟩ => ⟨S8x128, .f32⟩
  | .hbm, ⟨28, _⟩ => ⟨S8x1024, .f32⟩
  | .hbm, ⟨29, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x2816, .bf16⟩
  | .local _ .vmem, ⟨15, _⟩ => ⟨S256x2816, .bf16⟩
  | .local _ .vmem, ⟨16, _⟩ => ⟨S256x1024, .bf16⟩
  | .local _ .vmem, ⟨17, _⟩ => ⟨S256x1024, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S8x128, .f32⟩
  | .local _ .vmem, ⟨31, _⟩ => ⟨S8x1024, .f32⟩
  | .local _ .vmem, ⟨32, _⟩ => ⟨S8x1024, .f32⟩
  | .local _ .vmem, ⟨33, _⟩ => ⟨S256x2816, .bf16⟩
  | .local _ .vmem, ⟨34, _⟩ => ⟨S256x2816, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev main_v9_6 : Ref sig .tc := ⟨.hbm, 24, rfl⟩
abbrev main_v9_7 : Ref sig .tc := ⟨.hbm, 25, rfl⟩
abbrev main_v9_8 : Ref sig .tc := ⟨.hbm, 26, rfl⟩
abbrev main_v9_9 : Ref sig .tc := ⟨.hbm, 27, rfl⟩
abbrev main_v9_10 : Ref sig .tc := ⟨.hbm, 28, rfl⟩
abbrev main_v9_11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem19_0 : DmaSem sig := 31
abbrev cc0_sem20_0 : DmaSem sig := 32

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v332 : BitVec 32 := Scalar.extui v0
  let c0_i32_183 : BitVec 32 := 0#32
  let v333 : BitVec 1 := Scalar.cmpi .ne v332 c0_i32_183
  v333

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v334 : BitVec 1 := Scalar.xori v0 v_true
  let v335 : BitVec 32 := Scalar.extui v334
  let c0_i32_184 : BitVec 32 := 0#32
  let v336 : BitVec 1 := Scalar.cmpi .ne v335 c0_i32_184
  v336

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v364 : BitVec 32 := Scalar.extui v0
  let c0_i32_192 : BitVec 32 := 0#32
  let v365 : BitVec 1 := Scalar.cmpi .ne v364 c0_i32_192
  v365

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_193 : BitVec 1 := 1#1
  let v366 : BitVec 1 := Scalar.xori v0 true_193
  let v367 : BitVec 32 := Scalar.extui v366
  let c0_i32_194 : BitVec 32 := 0#32
  let v368 : BitVec 1 := Scalar.cmpi .ne v367 c0_i32_194
  v368

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v717 : BitVec 32 := Scalar.extui v0
  let c0_i32_391 : BitVec 32 := 0#32
  let v718 : BitVec 1 := Scalar.cmpi .ne v717 c0_i32_391
  v718

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_392 : BitVec 1 := 1#1
  let v719 : BitVec 1 := Scalar.xori v0 true_392
  let v720 : BitVec 32 := Scalar.extui v719
  let c0_i32_393 : BitVec 32 := 0#32
  let v721 : BitVec 1 := Scalar.cmpi .ne v720 c0_i32_393
  v721

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S2048x1024 : Shape := ⟨2, ![2048, 1024]⟩
abbrev S1024x2816 : Shape := ⟨2, ![1024, 2816]⟩
abbrev S2816x1024 : Shape := ⟨2, ![2816, 1024]⟩
abbrev S1024x1024 : Shape := ⟨2, ![1024, 1024]⟩
abbrev S1024 : Shape := ⟨1, ![1024]⟩
abbrev S_ : Shape := ⟨0, ![]⟩
abbrev S2048x2816 : Shape := ⟨2, ![2048, 2816]⟩
abbrev S2048 : Shape := ⟨1, ![2048]⟩
abbrev S2048x1 : Shape := ⟨2, ![2048, 1]⟩
abbrev S2048x512 : Shape := ⟨2, ![2048, 512]⟩
abbrev S256x8 : Shape := ⟨2, ![256, 8]⟩
abbrev S8 : Shape := ⟨1, ![8]⟩
abbrev S8x1 : Shape := ⟨2, ![8, 1]⟩
abbrev S8x128 : Shape := ⟨2, ![8, 128]⟩
abbrev S256x8x1024 : Shape := ⟨3, ![256, 8, 1024]⟩
abbrev S8x1024 : Shape := ⟨2, ![8, 1024]⟩

abbrev nBuf : Space → Nat
  | .hbm => 166
  | .vmem => 0
  | .smem => 0
  | _ => 0

abbrev hbmTy0_0 (i : Nat) : BufTy := match i % 128 with
  | 0 => ⟨S2048x1024, .f32⟩
  | 1 => ⟨S2048x1024, .f32⟩
  | 2 => ⟨S1024x2816, .f32⟩
  | 3 => ⟨S1024x2816, .f32⟩
  | 4 => ⟨S2816x1024, .f32⟩
  | 5 => ⟨S1024x1024, .f32⟩
  | 6 => ⟨S1024, .f32⟩
  | 7 => ⟨S1024, .f32⟩
  | 8 => ⟨S2048x1024, .f32⟩
  | 9 => ⟨S_, .f32⟩
  | 10 => ⟨S2048x2816, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S2048x1024, .f32⟩
  | 17 => ⟨S2048x1024, .f32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S_, .f32⟩
  | 25 => ⟨S2048x1, .f32⟩
  | 26 => ⟨S2048x1, .f32⟩
  | 27 => ⟨S2048x1, .f32⟩
  | 28 => ⟨S2048x1, .f32⟩
  | 29 => ⟨S_, .f32⟩
  | 30 => ⟨S2048x1, .f32⟩
  | 31 => ⟨S2048x1, .f32⟩
  | 32 => ⟨S2048x1024, .f32⟩
  | 33 => ⟨S2048x1024, .f32⟩
  | 34 => ⟨S2048x1024, .f32⟩
  | 35 => ⟨S2048x2816, .f32⟩
  | 36 => ⟨S2048x2816, .f32⟩
  | 37 => ⟨S2048x2816, .f32⟩
  | 38 => ⟨S2048x2816, .f32⟩
  | 39 => ⟨S2048x2816, .f32⟩
  | 40 => ⟨S2048x2816, .f32⟩
  | 41 => ⟨S_, .f32⟩
  | 42 => ⟨S2048x2816, .f32⟩
  | 43 => ⟨S2048x2816, .f32⟩
  | 44 => ⟨S_, .f32⟩
  | 45 => ⟨S2048x2816, .f32⟩
  | 46 => ⟨S2048x2816, .f32⟩
  | 47 => ⟨S_, .f32⟩
  | 48 => ⟨S2048x2816, .f32⟩
  | 49 => ⟨S2048x2816, .f32⟩
  | 50 => ⟨S2048x2816, .f32⟩
  | 51 => ⟨S2048x2816, .f32⟩
  | 52 => ⟨S2048x2816, .f32⟩
  | 53 => ⟨S2048x1024, .f32⟩
  | 54 => ⟨S2048x1024, .f32⟩
  | 55 => ⟨S2048x1024, .f32⟩
  | 56 => ⟨S2048x1024, .f32⟩
  | 57 => ⟨S_, .f32⟩
  | 58 => ⟨S2048, .f32⟩
  | 59 => ⟨S2048x1, .f32⟩
  | 60 => ⟨S_, .f32⟩
  | 61 => ⟨S2048x1, .f32⟩
  | 62 => ⟨S2048x1, .f32⟩
  | 63 => ⟨S_, .f32⟩
  | 64 => ⟨S2048x1, .f32⟩
  | 65 => ⟨S2048x1, .f32⟩
  | 66 => ⟨S2048x1, .f32⟩
  | 67 => ⟨S2048x1, .f32⟩
  | 68 => ⟨S_, .f32⟩
  | 69 => ⟨S2048x1, .f32⟩
  | 70 => ⟨S2048x1, .f32⟩
  | 71 => ⟨S2048x1024, .f32⟩
  | 72 => ⟨S2048x1024, .f32⟩
  | 73 => ⟨S2048x1024, .f32⟩
  | 74 => ⟨S2048x1024, .f32⟩
  | 75 => ⟨S2048x1024, .f32⟩
  | 76 => ⟨S_, .f32⟩
  | 77 => ⟨S2048x1024, .f32⟩
  | 78 => ⟨S2048x1024, .f32⟩
  | 79 => ⟨S_, .f32⟩
  | 80 => ⟨S2048, .f32⟩
  | 81 => ⟨S_, .f32⟩
  | 82 => ⟨S2048, .f32⟩
  | 83 => ⟨S2048, .f32⟩
  | 84 => ⟨S_, .f32⟩
  | 85 => ⟨S2048, .f32⟩
  | 86 => ⟨S2048, .f32⟩
  | 87 => ⟨S_, .f32⟩
  | 88 => ⟨S2048, .f32⟩
  | 89 => ⟨S_, .f32⟩
  | 90 => ⟨S2048, .f32⟩
  | 91 => ⟨S2048, .f32⟩
  | 92 => ⟨S_, .f32⟩
  | 93 => ⟨S2048, .f32⟩
  | 94 => ⟨S2048, .f32⟩
  | 95 => ⟨S2048x1024, .f32⟩
  | 96 => ⟨S2048x1024, .f32⟩
  | 97 => ⟨S2048x1024, .f32⟩
  | 98 => ⟨S2048x1024, .f32⟩
  | 99 => ⟨S2048x1024, .f32⟩
  | 100 => ⟨S_, .f32⟩
  | 101 => ⟨S2048, .f32⟩
  | 102 => ⟨S2048x1, .f32⟩
  | 103 => ⟨S2048x1024, .f32⟩
  | 104 => ⟨S2048x1024, .f32⟩
  | 105 => ⟨S2048x1, .f32⟩
  | 106 => ⟨S_, .f32⟩
  | 107 => ⟨S2048x1, .f32⟩
  | 108 => ⟨S2048x1, .f32⟩
  | 109 => ⟨S_, .f32⟩
  | 110 => ⟨S2048, .f32⟩
  | 111 => ⟨S2048x1024, .f32⟩
  | 112 => ⟨S2048x1024, .f32⟩
  | 113 => ⟨S2048x1024, .f32⟩
  | 114 => ⟨S2048x1024, .f32⟩
  | 115 => ⟨S2048x1024, .f32⟩
  | 116 => ⟨S2048x2816, .f32⟩
  | 117 => ⟨S2048x2816, .f32⟩
  | 118 => ⟨S2048x2816, .f32⟩
  | 119 => ⟨S2048x2816, .f32⟩
  | 120 => ⟨S2048x2816, .f32⟩
  | 121 => ⟨S2048x2816, .f32⟩
  | 122 => ⟨S2048x2816, .f32⟩
  | 123 => ⟨S2048x1024, .f32⟩
  | 124 => ⟨S2048x1024, .f32⟩
  | 125 => ⟨S2048x1024, .f32⟩
  | 126 => ⟨S2048x1024, .f32⟩
  | 127 => ⟨S2048x1024, .f32⟩
  | _ => ⟨S2048x1024, .f32⟩

abbrev hbmTy0_1 (i : Nat) : BufTy := match i % 128 with
  | 0 => ⟨S2048x1024, .f32⟩
  | 1 => ⟨S_, .f32⟩
  | 2 => ⟨S2048, .f32⟩
  | 3 => ⟨S2048x1, .f32⟩
  | 4 => ⟨S2048x1024, .f32⟩
  | 5 => ⟨S2048x1024, .f32⟩
  | 6 => ⟨S2048x1024, .f32⟩
  | 7 => ⟨S2048x1, .f32⟩
  | 8 => ⟨S_, .f32⟩
  | 9 => ⟨S2048x1, .f32⟩
  | 10 => ⟨S2048x1, .f32⟩
  | 11 => ⟨S_, .f32⟩
  | 12 => ⟨S2048, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S2048x1024, .bf16⟩
  | 20 => ⟨S2048x2816, .bf16⟩
  | 21 => ⟨S2048x1024, .bf16⟩
  | 22 => ⟨S2048x2816, .bf16⟩
  | 23 => ⟨S2048x2816, .bf16⟩
  | 24 => ⟨S2048x1024, .bf16⟩
  | 25 => ⟨S2048x512, .f32⟩
  | 26 => ⟨S2048x512, .f32⟩
  | 27 => ⟨S256x8, .f32⟩
  | 28 => ⟨S_, .f32⟩
  | 29 => ⟨S8, .f32⟩
  | 30 => ⟨S8x1, .f32⟩
  | 31 => ⟨S8x128, .f32⟩
  | 32 => ⟨S256x8x1024, .f32⟩
  | 33 => ⟨S_, .f32⟩
  | 34 => ⟨S8x1024, .f32⟩
  | 35 => ⟨S256x8x1024, .f32⟩
  | 36 => ⟨S_, .f32⟩
  | 37 => ⟨S8x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v24_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v24_1 : Ref sig .tc := ⟨.hbm, 50, rfl⟩
abbrev main_v24_0 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_cst_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_cst_11 : Ref sig .tc := ⟨.hbm, 81, rfl⟩
abbrev main_v48 : Ref sig .tc := ⟨.hbm, 82, rfl⟩
abbrev main_v49 : Ref sig .tc := ⟨.hbm, 83, rfl⟩
abbrev main_cst_12 : Ref sig .tc := ⟨.hbm, 84, rfl⟩
abbrev main_v50 : Ref sig .tc := ⟨.hbm, 85, rfl⟩
abbrev main_v51 : Ref sig .tc := ⟨.hbm, 86, rfl⟩
abbrev main_cst_13 : Ref sig .tc := ⟨.hbm, 87, rfl⟩
abbrev main_v52 : Ref sig .tc := ⟨.hbm, 88, rfl⟩
abbrev main_cst_14 : Ref sig .tc := ⟨.hbm, 89, rfl⟩
abbrev main_v53 : Ref sig .tc := ⟨.hbm, 90, rfl⟩
abbrev main_v54 : Ref sig .tc := ⟨.hbm, 91, rfl⟩
abbrev main_cst_15 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_16 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_17 : Ref sig .tc := ⟨.hbm, 106, rfl⟩
abbrev main_v67 : Ref sig .tc := ⟨.hbm, 107, rfl⟩
abbrev main_v68 : Ref sig .tc := ⟨.hbm, 108, rfl⟩
abbrev main_cst_18 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_19 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_20 : Ref sig .tc := ⟨.hbm, 136, rfl⟩
abbrev main_v91 : Ref sig .tc := ⟨.hbm, 137, rfl⟩
abbrev main_v92 : Ref sig .tc := ⟨.hbm, 138, rfl⟩
abbrev main_cst_21 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_22 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_23 : Ref sig .tc := ⟨.hbm, 161, rfl⟩
abbrev main_v113 : Ref sig .tc := ⟨.hbm, 162, rfl⟩
abbrev main_v114 : Ref sig .tc := ⟨.hbm, 163, rfl⟩
abbrev main_cst_24 : Ref sig .tc := ⟨.hbm, 164, rfl⟩
abbrev main_v115 : Ref sig .tc := ⟨.hbm, 165, rfl⟩

abbrev nD : Nat := 1
abbrev τ : Topo := Topo.v7x

variable {F : FTy → Type} [FloatOps F]
-- ==== GradDown.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x2816, .bf16⟩
  | .hbm, ⟨3, _⟩ => ⟨S2048x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GradDownRefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradGate.lean ====
abbrev S2048x1024 : Shape := ⟨2, ![2048, 1024]⟩
abbrev S2048x2816 : Shape := ⟨2, ![2048, 2816]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .bf16⟩
  | .hbm, ⟨3, _⟩ => ⟨S2048x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GradGateRefIdeal.lean ====
abbrev S2048x1024 : Shape := ⟨2, ![2048, 1024]⟩
abbrev S2048x2816 : Shape := ⟨2, ![2048, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S_, .f32⟩
  | .hbm, ⟨3, _⟩ => ⟨S2816x1024, .f32⟩
  | .hbm, ⟨4, _⟩ => ⟨S1024x2816, .f32⟩
  | .hbm, ⟨5, _⟩ => ⟨S2048x2816, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradOut.lean ====
abbrev S2048x1024 : Shape := ⟨2, ![2048, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== GradOutRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradIn.lean ====
abbrev S2048x1024 : Shape := ⟨2, ![2048, 1024]⟩
abbrev S2048x3328 : Shape := ⟨2, ![2048, 3328]⟩
abbrev S3328x1024 : Shape := ⟨2, ![3328, 1024]⟩
abbrev S2048x1664 : Shape := ⟨2, ![2048, 1664]⟩
abbrev S1664x1024 : Shape := ⟨2, ![1664, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x3328, .f32⟩
  | .hbm, ⟨2, _⟩ => ⟨S2048x3328, .bf16⟩
  | .hbm, ⟨3, _⟩ => ⟨S2048x1024, .bf16⟩
  | .hbm, ⟨4, _⟩ => ⟨S3328x1024, .bf16⟩
  | .local _ .vmem, ⟨0, _⟩ => ⟨S2048x1664, .bf16⟩
  | .local _ .vmem, ⟨1, _⟩ => ⟨S2048x1664, .bf16⟩
  | .local _ .vmem, ⟨2, _⟩ => ⟨S2048x1024, .bf16⟩
  | .local _ .vmem, ⟨3, _⟩ => ⟨S1664x1024, .bf16⟩
  | .local _ .vmem, ⟨4, _⟩ => ⟨S1664x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GradInRefIdeal.lean ====
abbrev S2048x1024 : Shape := ⟨2, ![2048, 1024]⟩
abbrev S2048x3328 : Shape := ⟨2, ![2048, 3328]⟩
abbrev S_ : Shape := ⟨0, ![]⟩
abbrev S3328x1024 : Shape := ⟨2, ![3328, 1024]⟩
abbrev S1024x3328 : Shape := ⟨2, ![1024, 3328]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x3328, .f32⟩
  | .hbm, ⟨2, _⟩ => ⟨S_, .f32⟩
  | .hbm, ⟨3, _⟩ => ⟨S3328x1024, .f32⟩
  | .hbm, ⟨4, _⟩ => ⟨S1024x3328, .f32⟩
  | .hbm, ⟨5, _⟩ => ⟨S2048x3328, .f32⟩
  | .hbm, ⟨6, _⟩ => ⟨S3328x1024, .f32⟩
  | .hbm, ⟨7, _⟩ => ⟨S1024x3328, .f32⟩
  | .hbm, ⟨8, _⟩ => ⟨S3328x1024, .f32⟩
  | .hbm, ⟨9, _⟩ => ⟨S3328x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamIn.lean ====
abbrev S1024x832 : Shape := ⟨2, ![1024, 832]⟩
abbrev S1x1024x832 : Shape := ⟨3, ![1, 1024, 832]⟩
abbrev S832x1024 : Shape := ⟨2, ![832, 1024]⟩
abbrev S1x832x1024 : Shape := ⟨3, ![1, 832, 1024]⟩
abbrev S208x1024 : Shape := ⟨2, ![208, 1024]⟩
abbrev S1x208x1024 : Shape := ⟨3, ![1, 208, 1024]⟩

abbrev nBuf : Space → Nat
  | .hbm => 18
  | .vmem => 16
  | .smem => 0
  | _ => 0

abbrev bufTy : (tb : Table) → Fin (tcTables nBuf tb) → BufTy
  | .hbm, ⟨0, _⟩ => ⟨S1024x832, .f32⟩
  | .hbm, ⟨1, _⟩ => ⟨S1x1024x832, .f32⟩
  | .hbm, ⟨2, _⟩ => ⟨S1x1024x832, .f32⟩
  | .hbm, ⟨3, _⟩ => ⟨S1x1024x832, .f32⟩
  | .hbm, ⟨4, _⟩ => ⟨S832x1024, .f32⟩
  | .hbm, ⟨5, _⟩ => ⟨S1024x832, .f32⟩
  | .hbm, ⟨6, _⟩ => ⟨S832x1024, .f32⟩
  | .hbm, ⟨7, _⟩ => ⟨S1x832x1024, .f32⟩
  | .hbm, ⟨8, _⟩ => ⟨S1024x832, .f32⟩
  | .hbm, ⟨9, _⟩ => ⟨S832x1024, .f32⟩
  | .hbm, ⟨10, _⟩ => ⟨S1x832x1024, .f32⟩
  | .hbm, ⟨11, _⟩ => ⟨S1024x832, .f32⟩
  | .hbm, ⟨12, _⟩ => ⟨S832x1024, .f32⟩
  | .hbm, ⟨13, _⟩ => ⟨S1x832x1024, .f32⟩
  | .hbm, ⟨14, _⟩ => ⟨S1x832x1024, .f32⟩
  | .hbm, ⟨15, _⟩ => ⟨S1x832x1024, .f32⟩
  | .hbm, ⟨16, _⟩ => ⟨S1x832x1024, .f32⟩
  | .hbm, ⟨17, _⟩ => ⟨S1x832x1024, .f32⟩
  | .local _ .vmem, ⟨0, _⟩ => ⟨S208x1024, .f32⟩
  | .local _ .vmem, ⟨1, _⟩ => ⟨S208x1024, .f32⟩
  | .local _ .vmem, ⟨2, _⟩ => ⟨S1x208x1024, .f32⟩
  | .local _ .vmem, ⟨3, _⟩ => ⟨S1x208x1024, .f32⟩
  | .local _ .vmem, ⟨4, _⟩ => ⟨S1x208x1024, .f32⟩
  | .local _ .vmem, ⟨5, _⟩ => ⟨S1x208x1024, .f32⟩
  | .local _ .vmem, ⟨6, _⟩ => ⟨S1x208x1024, .f32⟩
  | .local _ .vmem, ⟨7, _⟩ => ⟨S1x208x1024, .f32⟩
  | .local _ .vmem, ⟨8, _⟩ => ⟨S1x208x1024, .f32⟩
  | .local _ .vmem, ⟨9, _⟩ => ⟨S1x208x1024, .f32⟩
  | .local _ .vmem, ⟨10, _⟩ => ⟨S1x208x1024, .f32⟩
  | .local _ .vmem, ⟨11, _⟩ => ⟨S1x208x1024, .f32⟩
  | .local _ .vmem, ⟨12, _⟩ => ⟨S1x208x1024, .f32⟩
  | .local _ .vmem, ⟨13, _⟩ => ⟨S1x208x1024, .f32⟩
  | .local _ .vmem, ⟨14, _⟩ => ⟨S1x208x1024, .f32⟩
  | .local _ .vmem, ⟨15, _⟩ => ⟨S1x208x1024, .f32⟩
  | _, _ => ⟨S1024x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v10_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S208x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S1024x832 : Shape := ⟨2, ![1024, 832]⟩
abbrev S1x1024x832 : Shape := ⟨3, ![1, 1024, 832]⟩
abbrev S_ : Shape := ⟨0, ![]⟩
abbrev S1x832x1024 : Shape := ⟨3, ![1, 832, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1024x832, .f32⟩
  | .hbm, ⟨1, _⟩ => ⟨S1x1024x832, .f32⟩
  | .hbm, ⟨2, _⟩ => ⟨S1x1024x832, .f32⟩
  | .hbm, ⟨3, _⟩ => ⟨S1x1024x832, .f32⟩
  | .hbm, ⟨4, _⟩ => ⟨S1x1024x832, .f32⟩
  | .hbm, ⟨5, _⟩ => ⟨S_, .f32⟩
  | .hbm, ⟨6, _⟩ => ⟨S1x1024x832, .f32⟩
  | .hbm, ⟨7, _⟩ => ⟨S1x1024x832, .f32⟩
  | .hbm, ⟨8, _⟩ => ⟨S_, .f32⟩
  | .hbm, ⟨9, _⟩ => ⟨S1x1024x832, .f32⟩
  | .hbm, ⟨10, _⟩ => ⟨S1x1024x832, .f32⟩
  | .hbm, ⟨11, _⟩ => ⟨S1x1024x832, .f32⟩
  | .hbm, ⟨12, _⟩ => ⟨S_, .f32⟩
  | .hbm, ⟨13, _⟩ => ⟨S1x1024x832, .f32⟩
  | .hbm, ⟨14, _⟩ => ⟨S1x1024x832, .f32⟩
  | .hbm, ⟨15, _⟩ => ⟨S1x1024x832, .f32⟩
  | .hbm, ⟨16, _⟩ => ⟨S_, .f32⟩
  | .hbm, ⟨17, _⟩ => ⟨S1x1024x832, .f32⟩
  | .hbm, ⟨18, _⟩ => ⟨S1x1024x832, .f32⟩
  | .hbm, ⟨19, _⟩ => ⟨S1x1024x832, .f32⟩
  | .hbm, ⟨20, _⟩ => ⟨S_, .f32⟩
  | .hbm, ⟨21, _⟩ => ⟨S1x1024x832, .f32⟩
  | .hbm, ⟨22, _⟩ => ⟨S1x1024x832, .f32⟩
  | .hbm, ⟨23, _⟩ => ⟨S_, .f32⟩
  | .hbm, ⟨24, _⟩ => ⟨S1x1024x832, .f32⟩
  | .hbm, ⟨25, _⟩ => ⟨S1x1024x832, .f32⟩
  | .hbm, ⟨26, _⟩ => ⟨S1x1024x832, .f32⟩
  | .hbm, ⟨27, _⟩ => ⟨S_, .f32⟩
  | .hbm, ⟨28, _⟩ => ⟨S1x1024x832, .f32⟩
  | .hbm, ⟨29, _⟩ => ⟨S1x1024x832, .f32⟩
  | .hbm, ⟨30, _⟩ => ⟨S1x1024x832, .f32⟩
  | .hbm, ⟨31, _⟩ => ⟨S_, .f32⟩
  | .hbm, ⟨32, _⟩ => ⟨S1x1024x832, .f32⟩
  | .hbm, ⟨33, _⟩ => ⟨S1x1024x832, .f32⟩
  | .hbm, ⟨34, _⟩ => ⟨S1x1024x832, .f32⟩
  | .hbm, ⟨35, _⟩ => ⟨S_, .f32⟩
  | .hbm, ⟨36, _⟩ => ⟨S1x1024x832, .f32⟩
  | .hbm, ⟨37, _⟩ => ⟨S1x1024x832, .f32⟩
  | .hbm, ⟨38, _⟩ => ⟨S1x832x1024, .f32⟩
  | .hbm, ⟨39, _⟩ => ⟨S1x832x1024, .f32⟩
  | .hbm, ⟨40, _⟩ => ⟨S1x832x1024, .f32⟩
  | .hbm, ⟨41, _⟩ => ⟨S1x832x1024, .f32⟩
  | _, _ => ⟨S1024x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== AdamOut.lean ====
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S256x1024 : Shape := ⟨2, ![256, 1024]⟩
abbrev S1x256x1024 : Shape := ⟨3, ![1, 256, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamGate.lean ====
abbrev S1024x704 : Shape := ⟨2, ![1024, 704]⟩
abbrev S1x1024x704 : Shape := ⟨3, ![1, 1024, 704]⟩
abbrev S704x1024 : Shape := ⟨2, ![704, 1024]⟩
abbrev S1x704x1024 : Shape := ⟨3, ![1, 704, 1024]⟩
abbrev S176x1024 : Shape := ⟨2, ![176, 1024]⟩
abbrev S1x176x1024 : Shape := ⟨3, ![1, 176, 1024]⟩

abbrev nBuf : Space → Nat
  | .hbm => 18
  | .vmem => 16
  | .smem => 0
  | _ => 0

abbrev bufTy : (tb : Table) → Fin (tcTables nBuf tb) → BufTy
  | .hbm, ⟨0, _⟩ => ⟨S1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S704x1024, .f32⟩
  | .hbm, ⟨5, _⟩ => ⟨S1024x704, .f32⟩
  | .hbm, ⟨6, _⟩ => ⟨S704x1024, .f32⟩
  | .hbm, ⟨7, _⟩ => ⟨S1x704x1024, .f32⟩
  | .hbm, ⟨8, _⟩ => ⟨S1024x704, .f32⟩
  | .hbm, ⟨9, _⟩ => ⟨S704x1024, .f32⟩
  | .hbm, ⟨10, _⟩ => ⟨S1x704x1024, .f32⟩
  | .hbm, ⟨11, _⟩ => ⟨S1024x704, .f32⟩
  | .hbm, ⟨12, _⟩ => ⟨S704x1024, .f32⟩
  | .hbm, ⟨13, _⟩ => ⟨S1x704x1024, .f32⟩
  | .hbm, ⟨14, _⟩ => ⟨S1x704x1024, .f32⟩
  | .hbm, ⟨15, _⟩ => ⟨S1x704x1024, .f32⟩
  | .hbm, ⟨16, _⟩ => ⟨S1x704x1024, .f32⟩
  | .hbm, ⟨17, _⟩ => ⟨S1x704x1024, .f32⟩
  | .local _ .vmem, ⟨0, _⟩ => ⟨S176x1024, .f32⟩
  | .local _ .vmem, ⟨1, _⟩ => ⟨S176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v10_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateRefIdeal.lean ====
abbrev S1024x704 : Shape := ⟨2, ![1024, 704]⟩
abbrev S1x1024x704 : Shape := ⟨3, ![1, 1024, 704]⟩
abbrev S_ : Shape := ⟨0, ![]⟩
abbrev S1x704x1024 : Shape := ⟨3, ![1, 704, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S_, .f32⟩
  | .hbm, ⟨6, _⟩ => ⟨S1x1024x704, .f32⟩
  | .hbm, ⟨7, _⟩ => ⟨S1x1024x704, .f32⟩
  | .hbm, ⟨8, _⟩ => ⟨S_, .f32⟩
  | .hbm, ⟨9, _⟩ => ⟨S1x1024x704, .f32⟩
  | .hbm, ⟨10, _⟩ => ⟨S1x1024x704, .f32⟩
  | .hbm, ⟨11, _⟩ => ⟨S1x1024x704, .f32⟩
  | .hbm, ⟨12, _⟩ => ⟨S_, .f32⟩
  | .hbm, ⟨13, _⟩ => ⟨S1x1024x704, .f32⟩
  | .hbm, ⟨14, _⟩ => ⟨S1x1024x704, .f32⟩
  | .hbm, ⟨15, _⟩ => ⟨S1x1024x704, .f32⟩
  | .hbm, ⟨16, _⟩ => ⟨S_, .f32⟩
  | .hbm, ⟨17, _⟩ => ⟨S1x1024x704, .f32⟩
  | .hbm, ⟨18, _⟩ => ⟨S1x1024x704, .f32⟩
  | .hbm, ⟨19, _⟩ => ⟨S1x1024x704, .f32⟩
  | .hbm, ⟨20, _⟩ => ⟨S_, .f32⟩
  | .hbm, ⟨21, _⟩ => ⟨S1x1024x704, .f32⟩
  | .hbm, ⟨22, _⟩ => ⟨S1x1024x704, .f32⟩
  | .hbm, ⟨23, _⟩ => ⟨S_, .f32⟩
  | .hbm, ⟨24, _⟩ => ⟨S1x1024x704, .f32⟩
  | .hbm, ⟨25, _⟩ => ⟨S1x1024x704, .f32⟩
  | .hbm, ⟨26, _⟩ => ⟨S1x1024x704, .f32⟩
  | .hbm, ⟨27, _⟩ => ⟨S_, .f32⟩
  | .hbm, ⟨28, _⟩ => ⟨S1x1024x704, .f32⟩
  | .hbm, ⟨29, _⟩ => ⟨S1x1024x704, .f32⟩
  | .hbm, ⟨30, _⟩ => ⟨S1x1024x704, .f32⟩
  | .hbm, ⟨31, _⟩ => ⟨S_, .f32⟩
  | .hbm, ⟨32, _⟩ => ⟨S1x1024x704, .f32⟩
  | .hbm, ⟨33, _⟩ => ⟨S1x1024x704, .f32⟩
  | .hbm, ⟨34, _⟩ => ⟨S1x1024x704, .f32⟩
  | .hbm, ⟨35, _⟩ => ⟨S_, .f32⟩
  | .hbm, ⟨36, _⟩ => ⟨S1x1024x704, .f32⟩
  | .hbm, ⟨37, _⟩ => ⟨S1x1024x704, .f32⟩
  | .hbm, ⟨38, _⟩ => ⟨S1x704x1024, .f32⟩
  | .hbm, ⟨39, _⟩ => ⟨S1x704x1024, .f32⟩
  | .hbm, ⟨40, _⟩ => ⟨S1x704x1024, .f32⟩
  | .hbm, ⟨41, _⟩ => ⟨S1x704x1024, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== AdamDown.lean ====
abbrev S704x1024 : Shape := ⟨2, ![704, 1024]⟩
abbrev S1x704x1024 : Shape := ⟨3, ![1, 704, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .local _ .vmem, ⟨0, _⟩ => ⟨S176x1024, .f32⟩
  | .local _ .vmem, ⟨1, _⟩ => ⟨S176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S704x1024 : Shape := ⟨2, ![704, 1024]⟩
abbrev S1x704x1024 : Shape := ⟨3, ![1, 704, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S_, .f32⟩
  | .hbm, ⟨6, _⟩ => ⟨S1x704x1024, .f32⟩
  | .hbm, ⟨7, _⟩ => ⟨S1x704x1024, .f32⟩
  | .hbm, ⟨8, _⟩ => ⟨S_, .f32⟩
  | .hbm, ⟨9, _⟩ => ⟨S1x704x1024, .f32⟩
  | .hbm, ⟨10, _⟩ => ⟨S1x704x1024, .f32⟩
  | .hbm, ⟨11, _⟩ => ⟨S1x704x1024, .f32⟩
  | .hbm, ⟨12, _⟩ => ⟨S_, .f32⟩
  | .hbm, ⟨13, _⟩ => ⟨S1x704x1024, .f32⟩
  | .hbm, ⟨14, _⟩ => ⟨S1x704x1024, .f32⟩
  | .hbm, ⟨15, _⟩ => ⟨S1x704x1024, .f32⟩
  | .hbm, ⟨16, _⟩ => ⟨S_, .f32⟩
  | .hbm, ⟨17, _⟩ => ⟨S1x704x1024, .f32⟩
  | .hbm, ⟨18, _⟩ => ⟨S1x704x1024, .f32⟩
  | .hbm, ⟨19, _⟩ => ⟨S1x704x1024, .f32⟩
  | .hbm, ⟨20, _⟩ => ⟨S_, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S1x704x1024, .f32⟩
  | .hbm, ⟨27, _⟩ => ⟨S_, .f32⟩
  | .hbm, ⟨28, _⟩ => ⟨S1x704x1024, .f32⟩
  | .hbm, ⟨29, _⟩ => ⟨S1x704x1024, .f32⟩
  | .hbm, ⟨30, _⟩ => ⟨S1x704x1024, .f32⟩
  | .hbm, ⟨31, _⟩ => ⟨S_, .f32⟩
  | .hbm, ⟨32, _⟩ => ⟨S1x704x1024, .f32⟩
  | .hbm, ⟨33, _⟩ => ⟨S1x704x1024, .f32⟩
  | .hbm, ⟨34, _⟩ => ⟨S1x704x1024, .f32⟩
  | .hbm, ⟨35, _⟩ => ⟨S_, .f32⟩
  | .hbm, ⟨36, _⟩ => ⟨S1x704x1024, .f32⟩
  | .hbm, ⟨37, _⟩ => ⟨S1x704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamLora.lean ====
abbrev S64x128 : Shape := ⟨2, ![64, 128]⟩
abbrev S128x128 : Shape := ⟨2, ![128, 128]⟩
abbrev S1x64x128 : Shape := ⟨3, ![1, 64, 128]⟩
abbrev S1x128x128 : Shape := ⟨3, ![1, 128, 128]⟩
abbrev S256x128 : Shape := ⟨2, ![256, 128]⟩

abbrev nBuf : Space → Nat
  | .hbm => 25
  | .vmem => 22
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S128x128, .f32⟩
  | .hbm, ⟨3, _⟩ => ⟨S1x64x128, .f32⟩
  | .hbm, ⟨4, _⟩ => ⟨S1x64x128, .f32⟩
  | .hbm, ⟨5, _⟩ => ⟨S1x128x128, .f32⟩
  | .hbm, ⟨6, _⟩ => ⟨S1x64x128, .f32⟩
  | .hbm, ⟨7, _⟩ => ⟨S1x64x128, .f32⟩
  | .hbm, ⟨8, _⟩ => ⟨S1x128x128, .f32⟩
  | .hbm, ⟨9, _⟩ => ⟨S1x64x128, .f32⟩
  | .hbm, ⟨10, _⟩ => ⟨S1x64x128, .f32⟩
  | .hbm, ⟨11, _⟩ => ⟨S1x128x128, .f32⟩
  | .hbm, ⟨12, _⟩ => ⟨S256x128, .f32⟩
  | .hbm, ⟨13, _⟩ => ⟨S1x64x128, .f32⟩
  | .hbm, ⟨14, _⟩ => ⟨S1x64x128, .f32⟩
  | .hbm, ⟨15, _⟩ => ⟨S1x128x128, .f32⟩
  | .hbm, ⟨16, _⟩ => ⟨S1x64x128, .f32⟩
  | .hbm, ⟨17, _⟩ => ⟨S1x64x128, .f32⟩
  | .hbm, ⟨18, _⟩ => ⟨S1x128x128, .f32⟩
  | .hbm, ⟨19, _⟩ => ⟨S1x64x128, .f32⟩
  | .hbm, ⟨20, _⟩ => ⟨S1x64x128, .f32⟩
  | .hbm, ⟨21, _⟩ => ⟨S1x128x128, .f32⟩
  | .hbm, ⟨22, _⟩ => ⟨S1x64x128, .f32⟩
  | .hbm, ⟨23, _⟩ => ⟨S1x64x128, .f32⟩
  | .hbm, ⟨24, _⟩ => ⟨S1x128x128, .f32⟩
  | .local _ .vmem, ⟨0, _⟩ => ⟨S256x128, .f32⟩
  | .local _ .vmem, ⟨1, _⟩ => ⟨S1x64x128, .f32⟩
  | .local _ .vmem, ⟨2, _⟩ => ⟨S1x64x128, .f32⟩
  | .local _ .vmem, ⟨3, _⟩ => ⟨S1x128x128, .f32⟩
  | .local _ .vmem, ⟨4, _⟩ => ⟨S1x64x128, .f32⟩
  | .local _ .vmem, ⟨5, _⟩ => ⟨S1x64x128, .f32⟩
  | .local _ .vmem, ⟨6, _⟩ => ⟨S1x128x128, .f32⟩
  | .local _ .vmem, ⟨7, _⟩ => ⟨S1x64x128, .f32⟩
  | .local _ .vmem, ⟨8, _⟩ => ⟨S1x64x128, .f32⟩
  | .local _ .vmem, ⟨9, _⟩ => ⟨S1x128x128, .f32⟩
  | .local _ .vmem, ⟨10, _⟩ => ⟨S1x64x128, .f32⟩
  | .local _ .vmem, ⟨11, _⟩ => ⟨S1x64x128, .f32⟩
  | .local _ .vmem, ⟨12, _⟩ => ⟨S1x128x128, .f32⟩
  | .local _ .vmem, ⟨13, _⟩ => ⟨S1x64x128, .f32⟩
  | .local _ .vmem, ⟨14, _⟩ => ⟨S1x64x128, .f32⟩
  | .local _ .vmem, ⟨15, _⟩ => ⟨S1x128x128, .f32⟩
  | .local _ .vmem, ⟨16, _⟩ => ⟨S1x64x128, .f32⟩
  | .local _ .vmem, ⟨17, _⟩ => ⟨S1x64x128, .f32⟩
  | .local _ .vmem, ⟨18, _⟩ => ⟨S1x128x128, .f32⟩
  | .local _ .vmem, ⟨19, _⟩ => ⟨S1x64x128, .f32⟩
  | .local _ .vmem, ⟨20, _⟩ => ⟨S1x64x128, .f32⟩
  | .local _ .vmem, ⟨21, _⟩ => ⟨S1x128x128, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v1_4 : Ref sig .tc := ⟨.hbm, 17, rfl⟩
abbrev main_v1_5 : Ref sig .tc := ⟨.hbm, 18, rfl⟩
abbrev main_v1_6 : Ref sig .tc := ⟨.hbm, 19, rfl⟩
abbrev main_v1_7 : Ref sig .tc := ⟨.hbm, 20, rfl⟩
abbrev main_v1_8 : Ref sig .tc := ⟨.hbm, 21, rfl⟩
abbrev main_v1_9 : Ref sig .tc := ⟨.hbm, 22, rfl⟩
abbrev main_v1_10 : Ref sig .tc := ⟨.hbm, 23, rfl⟩
abbrev main_v1_11 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x64x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x64x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x64x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x64x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== AdamLoraRefIdeal.lean ====
abbrev S64x128 : Shape := ⟨2, ![64, 128]⟩
abbrev S128x128 : Shape := ⟨2, ![128, 128]⟩
abbrev S1x64x128 : Shape := ⟨3, ![1, 64, 128]⟩
abbrev S1x128x128 : Shape := ⟨3, ![1, 128, 128]⟩
abbrev S_ : Shape := ⟨0, ![]⟩

abbrev nBuf : Space → Nat
  | .hbm => 114
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S128x128, .f32⟩
  | .hbm, ⟨3, _⟩ => ⟨S1x64x128, .f32⟩
  | .hbm, ⟨4, _⟩ => ⟨S1x64x128, .f32⟩
  | .hbm, ⟨5, _⟩ => ⟨S1x128x128, .f32⟩
  | .hbm, ⟨6, _⟩ => ⟨S1x64x128, .f32⟩
  | .hbm, ⟨7, _⟩ => ⟨S1x64x128, .f32⟩
  | .hbm, ⟨8, _⟩ => ⟨S1x128x128, .f32⟩
  | .hbm, ⟨9, _⟩ => ⟨S1x64x128, .f32⟩
  | .hbm, ⟨10, _⟩ => ⟨S1x64x128, .f32⟩
  | .hbm, ⟨11, _⟩ => ⟨S1x128x128, .f32⟩
  | .hbm, ⟨12, _⟩ => ⟨S1x64x128, .f32⟩
  | .hbm, ⟨13, _⟩ => ⟨S_, .f32⟩
  | .hbm, ⟨14, _⟩ => ⟨S1x64x128, .f32⟩
  | .hbm, ⟨15, _⟩ => ⟨S1x64x128, .f32⟩
  | .hbm, ⟨16, _⟩ => ⟨S_, .f32⟩
  | .hbm, ⟨17, _⟩ => ⟨S1x64x128, .f32⟩
  | .hbm, ⟨18, _⟩ => ⟨S1x64x128, .f32⟩
  | .hbm, ⟨19, _⟩ => ⟨S1x64x128, .f32⟩
  | .hbm, ⟨20, _⟩ => ⟨S_, .f32⟩
  | .hbm, ⟨21, _⟩ => ⟨S1x64x128, .f32⟩
  | .hbm, ⟨22, _⟩ => ⟨S1x64x128, .f32⟩
  | .hbm, ⟨23, _⟩ => ⟨S1x64x128, .f32⟩
  | .hbm, ⟨24, _⟩ => ⟨S_, .f32⟩
  | .hbm, ⟨25, _⟩ => ⟨S1x64x128, .f32⟩
  | .hbm, ⟨26, _⟩ => ⟨S1x64x128, .f32⟩
  | .hbm, ⟨27, _⟩ => ⟨S1x64x128, .f32⟩
  | .hbm, ⟨28, _⟩ => ⟨S_, .f32⟩
  | .hbm, ⟨29, _⟩ => ⟨S1x64x128, .f32⟩
  | .hbm, ⟨30, _⟩ => ⟨S1x64x128, .f32⟩
  | .hbm, ⟨31, _⟩ => ⟨S_, .f32⟩
  | .hbm, ⟨32, _⟩ => ⟨S1x64x128, .f32⟩
  | .hbm, ⟨33, _⟩ => ⟨S1x64x128, .f32⟩
  | .hbm, ⟨34, _⟩ => ⟨S1x64x128, .f32⟩
  | .hbm, ⟨35, _⟩ => ⟨S_, .f32⟩
  | .hbm, ⟨36, _⟩ => ⟨S1x64x128, .f32⟩
  | .hbm, ⟨37, _⟩ => ⟨S1x64x128, .f32⟩
  | .hbm, ⟨38, _⟩ => ⟨S1x64x128, .f32⟩
  | .hbm, ⟨39, _⟩ => ⟨S_, .f32⟩
  | .hbm, ⟨40, _⟩ => ⟨S1x64x128, .f32⟩
  | .hbm, ⟨41, _⟩ => ⟨S1x64x128, .f32⟩
  | .hbm, ⟨42, _⟩ => ⟨S1x64x128, .f32⟩
  | .hbm, ⟨43, _⟩ => ⟨S_, .f32⟩
  | .hbm, ⟨44, _⟩ => ⟨S1x64x128, .f32⟩
  | .hbm, ⟨45, _⟩ => ⟨S1x64x128, .f32⟩
  | .hbm, ⟨46, _⟩ => ⟨S1x64x128, .f32⟩
  | .hbm, ⟨47, _⟩ => ⟨S_, .f32⟩
  | .hbm, ⟨48, _⟩ => ⟨S1x64x128, .f32⟩
  | .hbm, ⟨49, _⟩ => ⟨S1x64x128, .f32⟩
  | .hbm, ⟨50, _⟩ => ⟨S_, .f32⟩
  | .hbm, ⟨51, _⟩ => ⟨S1x64x128, .f32⟩
  | .hbm, ⟨52, _⟩ => ⟨S1x64x128, .f32⟩
  | .hbm, ⟨53, _⟩ => ⟨S1x64x128, .f32⟩
  | .hbm, ⟨54, _⟩ => ⟨S_, .f32⟩
  | .hbm, ⟨55, _⟩ => ⟨S1x64x128, .f32⟩
  | .hbm, ⟨56, _⟩ => ⟨S1x64x128, .f32⟩
  | .hbm, ⟨57, _⟩ => ⟨S1x64x128, .f32⟩
  | .hbm, ⟨58, _⟩ => ⟨S_, .f32⟩
  | .hbm, ⟨59, _⟩ => ⟨S1x64x128, .f32⟩
  | .hbm, ⟨60, _⟩ => ⟨S1x64x128, .f32⟩
  | .hbm, ⟨61, _⟩ => ⟨S1x64x128, .f32⟩
  | .hbm, ⟨62, _⟩ => ⟨S_, .f32⟩
  | .hbm, ⟨63, _⟩ => ⟨S1x64x128, .f32⟩
  | .hbm, ⟨64, _⟩ => ⟨S1x64x128, .f32⟩
  | .hbm, ⟨65, _⟩ => ⟨S_, .f32⟩
  | .hbm, ⟨66, _⟩ => ⟨S1x64x128, .f32⟩
  | .hbm, ⟨67, _⟩ => ⟨S1x64x128, .f32⟩
  | .hbm, ⟨68, _⟩ => ⟨S1x64x128, .f32⟩
  | .hbm, ⟨69, _⟩ => ⟨S_, .f32⟩
  | .hbm, ⟨70, _⟩ => ⟨S1x64x128, .f32⟩
  | .hbm, ⟨71, _⟩ => ⟨S1x64x128, .f32⟩
  | .hbm, ⟨72, _⟩ => ⟨S1x64x128, .f32⟩
  | .hbm, ⟨73, _⟩ => ⟨S_, .f32⟩
  | .hbm, ⟨74, _⟩ => ⟨S1x64x128, .f32⟩
  | .hbm, ⟨75, _⟩ => ⟨S1x64x128, .f32⟩
  | .hbm, ⟨76, _⟩ => ⟨S1x64x128, .f32⟩
  | .hbm, ⟨77, _⟩ => ⟨S_, .f32⟩
  | .hbm, ⟨78, _⟩ => ⟨S1x64x128, .f32⟩
  | .hbm, ⟨79, _⟩ => ⟨S1x64x128, .f32⟩
  | .hbm, ⟨80, _⟩ => ⟨S1x128x128, .f32⟩
  | .hbm, ⟨81, _⟩ => ⟨S_, .f32⟩
  | .hbm, ⟨82, _⟩ => ⟨S1x128x128, .f32⟩
  | .hbm, ⟨83, _⟩ => ⟨S1x128x128, .f32⟩
  | .hbm, ⟨84, _⟩ => ⟨S_, .f32⟩
  | .hbm, ⟨85, _⟩ => ⟨S1x128x128, .f32⟩
  | .hbm, ⟨86, _⟩ => ⟨S1x128x128, .f32⟩
  | .hbm, ⟨87, _⟩ => ⟨S1x128x128, .f32⟩
  | .hbm, ⟨88, _⟩ => ⟨S_, .f32⟩
  | .hbm, ⟨89, _⟩ => ⟨S1x128x128, .f32⟩
  | .hbm, ⟨90, _⟩ => ⟨S1x128x128, .f32⟩
  | .hbm, ⟨91, _⟩ => ⟨S1x128x128, .f32⟩
  | .hbm, ⟨92, _⟩ => ⟨S_, .f32⟩
  | .hbm, ⟨93, _⟩ => ⟨S1x128x128, .f32⟩
  | .hbm, ⟨94, _⟩ => ⟨S1x128x128, .f32⟩
  | .hbm, ⟨95, _⟩ => ⟨S1x128x128, .f32⟩
  | .hbm, ⟨96, _⟩ => ⟨S_, .f32⟩
  | .hbm, ⟨97, _⟩ => ⟨S1x128x128, .f32⟩
  | .hbm, ⟨98, _⟩ => ⟨S1x128x128, .f32⟩
  | .hbm, ⟨99, _⟩ => ⟨S_, .f32⟩
  | .hbm, ⟨100, _⟩ => ⟨S1x128x128, .f32⟩
  | .hbm, ⟨101, _⟩ => ⟨S1x128x128, .f32⟩
  | .hbm, ⟨102, _⟩ => ⟨S1x128x128, .f32⟩
  | .hbm, ⟨103, _⟩ => ⟨S_, .f32⟩
  | .hbm, ⟨104, _⟩ => ⟨S1x128x128, .f32⟩
  | .hbm, ⟨105, _⟩ => ⟨S1x128x128, .f32⟩
  | .hbm, ⟨106, _⟩ => ⟨S1x128x128, .f32⟩
  | .hbm, ⟨107, _⟩ => ⟨S_, .f32⟩
  | .hbm, ⟨108, _⟩ => ⟨S1x128x128, .f32⟩
  | .hbm, ⟨109, _⟩ => ⟨S1x128x128, .f32⟩
  | .hbm, ⟨110, _⟩ => ⟨S1x128x128, .f32⟩
  | .hbm, ⟨111, _⟩ => ⟨S_, .f32⟩
  | .hbm, ⟨112, _⟩ => ⟨S1x128x128, .f32⟩
  | .hbm, ⟨113, _⟩ => ⟨S1x128x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_8 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_10 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_11 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_12 : Ref sig .tc := ⟨.hbm, 62, rfl⟩
abbrev main_v37 : Ref sig .tc := ⟨.hbm, 63, rfl⟩
abbrev main_v38 : Ref sig .tc := ⟨.hbm, 64, rfl⟩
abbrev main_cst_13 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_14 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_15 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_16 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_17 : Ref sig .tc := ⟨.hbm, 81, rfl⟩
abbrev main_v51 : Ref sig .tc := ⟨.hbm, 82, rfl⟩
abbrev main_v52 : Ref sig .tc := ⟨.hbm, 83, rfl⟩
abbrev main_cst_18 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_19 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_20 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_21 : Ref sig .tc := ⟨.hbm, 96, rfl⟩
abbrev main_v62 : Ref sig .tc := ⟨.hbm, 97, rfl⟩
abbrev main_v63 : Ref sig .tc := ⟨.hbm, 98, rfl⟩
abbrev main_cst_22 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_23 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_24 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_25 : Ref sig .tc := ⟨.hbm, 111, rfl⟩
abbrev main_v73 : Ref sig .tc := ⟨.hbm, 112, rfl⟩
abbrev main_v74 : Ref sig .tc := ⟨.hbm, 113, rfl⟩

abbrev nD : Nat := 1
abbrev τ : Topo := Topo.v7x

variable {F : FTy → Type} [FloatOps F]
-- ==== Proof.Spec.lean ====
/- The mathematics both programs compute, over the real numbers and for ONE token: a residual with an output projection, an
   RMS norm, a SwiGLU feed-forward block, the final norm with the squared-error loss, and the gradients of all of it. -/
module

public import Mathlib.Analysis.SpecialFunctions.Exp
public import Mathlib.Analysis.Real.Sqrt

@[expose] public section

noncomputable section

namespace Ffn

/-- A vector of the model's width. -/
abbrev Vd := Fin 1024 → ℝ
/-- A vector of the feed-forward width. -/
abbrev Vf := Fin 2816 → ℝ

/-- The parameters of the block: the gate, up and down matrices, the output projection and the two gains. -/
structure Par where
  wg : Fin 1024 → Fin 2816 → ℝ
  wu : Fin 1024 → Fin 2816 → ℝ
  wd : Fin 2816 → Fin 1024 → ℝ
  wo : Fin 1024 → Fin 1024 → ℝ
  g2 : Vd
  gf : Vd

/-- The norms' epsilon: the float nearest to 1e-6, exactly. -/
def eps : ℝ := 8796093 / 2 ^ 43

/-- The mean of the squares plus epsilon. -/
def msq (v : Vd) : ℝ := (∑ d, v d * v d) / 1024 + eps
/-- One over the root mean square. -/
def rstd (v : Vd) : ℝ := (Real.sqrt (msq v))⁻¹
/-- The vector over its root mean square. -/
def xn (v : Vd) : Vd := fun d => v d * rstd v
/-- The RMS norm with a gain. -/
def rms (v g : Vd) : Vd := fun d => v d * rstd v * g d
/-- The gradient of `rms` in `v`, the cotangent `u` given. -/
def rmsBack (u v g : Vd) : Vd := fun d =>
  rstd v * (u d * g d - xn v d * ((∑ e, u e * g e * xn v e) / 1024))

/-- The logistic function. -/
def sg (z : ℝ) : ℝ := 1 / (1 + Real.exp (-z))

/-- The residual stream after the output projection: `x + y wo`. -/
def x1 (P : Par) (x y : Vd) : Vd := fun d => x d + ∑ k, y k * P.wo k d
/-- The normed input of the feed-forward block. -/
def h (P : Par) (x y : Vd) : Vd := rms (x1 P x y) P.g2
/-- The gate's preactivation. -/
def gate (P : Par) (x y : Vd) : Vf := fun c => ∑ k, h P x y k * P.wg k c
/-- The up projection. -/
def up (P : Par) (x y : Vd) : Vf := fun c => ∑ k, h P x y k * P.wu k c
/-- The SwiGLU activation `silu(gate) * up`. -/
def act (P : Par) (x y : Vd) : Vf := fun c => gate P x y c * sg (gate P x y c) * up P x y c
/-- The residual stream after the feed-forward block. -/
def x2 (P : Par) (x y : Vd) : Vd := fun d => x1 P x y d + ∑ c, act P x y c * P.wd c d
/-- The error: the final norm less the target. -/
def diff (P : Par) (x y t : Vd) : Vd := fun d => rms (x2 P x y) P.gf d - t d
/-- The token's loss, half the mean of the squared errors. -/
def loss (P : Par) (x y t : Vd) : ℝ := 1 / 2 * (∑ d, diff P x y t d * diff P x y t d) * (1 / 1024)
/-- The gradient of the loss in the final norm's result. -/
def dout (P : Par) (x y t : Vd) : Vd := fun d => diff P x y t d * (1 / 1024)
/-- The gradient in `x2`. -/
def dx2 (P : Par) (x y t : Vd) : Vd := rmsBack (dout P x y t) (x2 P x y) P.gf
/-- The token's share of the gradient of the final norm's gain. -/
def dgf (P : Par) (x y t : Vd) : Vd := fun d => dout P x y t d * xn (x2 P x y) d
/-- The gradient in the activation. -/
def dact (P : Par) (x y t : Vd) : Vf := fun c => ∑ d, dx2 P x y t d * P.wd c d
/-- The gradient in the gate's preactivation. -/
def dgate (P : Par) (x y t : Vd) : Vf := fun c =>
  dact P x y t c * up P x y c * sg (gate P x y c) * (1 + gate P x y c * (1 - sg (gate P x y c)))
/-- The gradient in the up projection. -/
def dup (P : Par) (x y t : Vd) : Vf := fun c => dact P x y t c * gate P x y c * sg (gate P x y c)
/-- The gradient in `h`. -/
def dh (P : Par) (x y t : Vd) : Vd := fun d =>
  (∑ c, dgate P x y t c * P.wg d c) + ∑ c, dup P x y t c * P.wu d c
/-- The token's share of the gradient of the block's gain. -/
def dg2 (P : Par) (x y t : Vd) : Vd := fun d => dh P x y t d * xn (x1 P x y) d
/-- The gradient in `x`. -/
def dx (P : Par) (x y t : Vd) : Vd := fun d => dx2 P x y t d + rmsBack (dh P x y t) (x1 P x y) P.g2 d
/-- The gradient in `y`. -/
def dy (P : Par) (x y t : Vd) : Vd := fun k => ∑ d, dx P x y t d * P.wo k d

theorem eps_pos : 0 < eps := by unfold eps; positivity

/-- The mean square plus epsilon is positive: the norms never divide by zero. -/
theorem msq_pos (v : Vd) : 0 < msq v :=
  add_pos_of_nonneg_of_pos (div_nonneg (Finset.sum_nonneg fun d _ => mul_self_nonneg _) (by norm_num)) eps_pos

theorem sqrt_msq_pos (v : Vd) : 0 < Real.sqrt (msq v) := Real.sqrt_pos.2 (msq_pos v)

/-- The derivative of `1/√u` at the mean square is half the cube of the reciprocal root: `rstd / msq = rstd³`. -/
theorem rstd_div_msq (v : Vd) : rstd v / msq v = rstd v * rstd v * rstd v := by
  have h : Real.sqrt (msq v) * Real.sqrt (msq v) = msq v := Real.mul_self_sqrt (msq_pos v).le
  have h0 := (sqrt_msq_pos v).ne'
  unfold rstd
  rw [div_eq_mul_inv]
  nth_rewrite 2 [← h]
  rw [mul_inv, ← mul_assoc]

/-- What differentiating the mean square in the RMS norm gives: half of it reaches the vector twice, once per factor of the
    square. -/
def mean (u v g : Vd) : ℝ := (∑ e, v e * (u e * g e)) * (-(1 / 2) * (rstd v / msq v)) / 1024

/-- The norm's gradient as automatic differentiation writes it. -/
theorem rmsBack_eq (u v g : Vd) (d : Fin 1024) :
    rmsBack u v g d = u d * g d * rstd v + v d * mean u v g + mean u v g * v d := by
  have hs : (∑ e, u e * g e * xn v e) = (∑ e, v e * (u e * g e)) * rstd v := by
    rw [Finset.sum_mul]; exact Finset.sum_congr rfl fun e _ => by unfold xn; ring
  unfold rmsBack mean
  rw [hs, rstd_div_msq, xn]
  ring

/-- The loss of a token, the tokens numbered. -/
def lossAt (P : Par) (X Y T : Fin 2048 → Vd) (t : Fin 2048) : ℝ := loss P (X t) (Y t) (T t)
/-- A token's share of the gradient of the final norm's gain at one place. -/
def dgfAt (P : Par) (X Y T : Fin 2048 → Vd) (d : Fin 1024) (t : Fin 2048) : ℝ := dgf P (X t) (Y t) (T t) d
/-- A token's share of the gradient of the block's gain at one place. -/
def dg2At (P : Par) (X Y T : Fin 2048 → Vd) (d : Fin 1024) (t : Fin 2048) : ℝ := dg2 P (X t) (Y t) (T t) d

end Ffn

end
-- ==== Proof.Lift.lean ====
/- Extended reals that are real numbers: each operation of the two programs on such numbers is the real operation, so an
   array of finite numbers stays one, and its elements are computed in the field of the reals. -/
module

public import Idealize.ShloMosaic.PureOps.Ideal.Laws
public import Idealize.ShloMosaic.Lib.Pointwise
public import proofs.«01_k».proof.Proof.Spec

@[expose] public section

noncomputable section

namespace Ffn

open Idealize.ShloMosaic

/-- The sum of real numbers, taken in the extended reals. -/
theorem coe_sum {n : Nat} (f : Fin n → ℝ) : (∑ k, ((f k : ℝ) : EReal)) = ((∑ k, f k : ℝ) : EReal) := by
  induction n with
  | zero => simp
  | succ n ih => rw [Fin.sum_univ_succ, Fin.sum_univ_succ, ih, ← EReal.coe_add]

theorem mul_r (a b : ℝ) : (a : EReal) * (b : EReal) = ((a * b : ℝ) : EReal) := (EReal.coe_mul a b).symm
theorem add_r (a b : ℝ) : (a : EReal) + (b : EReal) = ((a + b : ℝ) : EReal) := (EReal.coe_add a b).symm
theorem sub_r (a b : ℝ) : (a : EReal) - (b : EReal) = ((a - b : ℝ) : EReal) := (EReal.coe_sub a b).symm
theorem neg_r (a : ℝ) : -(a : EReal) = ((-a : ℝ) : EReal) := (EReal.coe_neg a).symm
theorem zero_r : (0 : EReal) = ((0 : ℝ) : EReal) := EReal.coe_zero.symm
theorem one_r : (1 : EReal) = ((1 : ℝ) : EReal) := EReal.coe_one.symm

/-- A quotient by a nonzero real number. -/
theorem div_r (a : ℝ) {b : ℝ} (hb : b ≠ 0) : Ideal.div (a : EReal) (b : EReal) = ((a / b : ℝ) : EReal) := by
  rw [Ideal.div_coe hb, mul_r, mul_one_div]

theorem div1024 (a : ℝ) : Ideal.div (a : EReal) ((1024 : ℝ) : EReal) = ((a / 1024 : ℝ) : EReal) := div_r a (by norm_num)

theorem exp_r (a : ℝ) : Ideal.exp (a : EReal) = ((Real.exp a : ℝ) : EReal) := Ideal.exp_coe a

/-- The reciprocal root of a positive real number. -/
theorem rsqrt_r {a : ℝ} (ha : 0 < a) : Ideal.rsqrt (a : EReal) = (((Real.sqrt a)⁻¹ : ℝ) : EReal) := by
  rw [Ideal.rsqrt_coe, if_neg (not_lt.2 ha.le), if_neg ha.ne']

/-- The logistic function as both programs compute it. -/
theorem sg_r (a : ℝ) : Ideal.div ((1 : ℝ) : EReal) (((1 : ℝ) : EReal) + Ideal.exp ((-a : ℝ) : EReal)) = ((sg a : ℝ) : EReal) := by
  rw [exp_r, add_r, div_r _ (by positivity), sg]

/-- The pattern of 1024.0. -/
theorem bits_1024 : Ideal.ofBits .f32 0x44800000#32 = ((1024 : ℝ) : EReal) := by
  simp [Ideal.ofBits, Ideal.ieee]; rw [← EReal.coe_mul]; norm_num
/-- The pattern of the norms' epsilon. -/
theorem bits_eps : Ideal.ofBits .f32 0x358637BD#32 = ((eps : ℝ) : EReal) := by
  simp [Ideal.ofBits, Ideal.ieee, eps]; rw [← EReal.coe_mul]; norm_num
/-- The pattern of 1/2. -/
theorem bits_half : Ideal.ofBits .f32 0x3F000000#32 = ((1 / 2 : ℝ) : EReal) := by
  simp [Ideal.ofBits, Ideal.ieee]; rw [← EReal.coe_mul]; norm_num
/-- The pattern of -1/2. -/
theorem bits_neghalf : Ideal.ofBits .f32 0xBF000000#32 = ((-(1 / 2) : ℝ) : EReal) := by
  simp [Ideal.ofBits, Ideal.ieee]; rw [← EReal.coe_mul]; norm_num
/-- The pattern of 2. -/
theorem bits_two : Ideal.ofBits .f32 0x40000000#32 = ((2 : ℝ) : EReal) := by
  simp [Ideal.ofBits, Ideal.ieee]; rw [← EReal.coe_mul]; norm_num
/-- The pattern of 1/1024. -/
theorem bits_inv1024 : Ideal.ofBits .f32 0x3A800000#32 = ((1 / 1024 : ℝ) : EReal) := by
  simp [Ideal.ofBits, Ideal.ieee]; rw [← EReal.coe_mul]; norm_num
/-- The pattern of +∞. -/
theorem bits_inf : Ideal.ofBits .f32 0x7F800000#32 = ⊤ := by
  simp [Ideal.ofBits, Ideal.ieee]

/-- An extended real whose absolute value is below +∞ is a real number. -/
theorem real_of_abs_lt_top {a : EReal} (h : max a (-a) < ⊤) : a = ((a.toReal : ℝ) : EReal) := by
  refine (EReal.coe_toReal ?_ ?_).symm
  · rintro rfl; simp at h
  · rintro rfl; simp at h

end Ffn

end
-- ==== Proof.Real.lean ====
/- Arrays of real numbers and the whole-array operations of the kernel on them: elementwise operations, products, sums over
   rows, and the block of consecutive columns of an array. Each theorem folds operations on arrays into one of the
   quantities of Spec.lean, taken for all tokens of a block. -/
module

public import proofs.«01_k».proof.Proof.Spec

@[expose] public section

noncomputable section

namespace Ffn

/-- A matrix of real numbers. -/
abbrev Mat (n m : Nat) := Fin n → Fin m → ℝ

variable {n m k N : Nat}

def mul2 (a b : Mat n m) : Mat n m := fun r c => a r c * b r c
def add2 (a b : Mat n m) : Mat n m := fun r c => a r c + b r c
def sub2 (a b : Mat n m) : Mat n m := fun r c => a r c - b r c
def exp2 (a : Mat n m) : Mat n m := fun r c => Real.exp (a r c)
def const2 (x : ℝ) : Mat n m := fun _ _ => x
/-- The logistic function of every element. -/
def sg2 (a : Mat n m) : Mat n m := fun r c => sg (a r c)
/-- Every element over 1024. -/
def over1024 (a : Mat n m) : Mat n m := fun r c => a r c / 1024
/-- A vector as a column. -/
def col (a : Fin n → ℝ) : Mat n 1 := fun r _ => a r
/-- A vector as a row. -/
def row (a : Fin m → ℝ) : Mat 1 m := fun _ c => a c
/-- A column written along every row. -/
def alongRows (a : Mat n 1) : Mat n m := fun r _ => a r 0
/-- A row written in every row. -/
def everyRow (a : Mat 1 m) : Mat n m := fun _ c => a 0 c
/-- The sums of the rows. -/
def rowSum (a : Mat n m) : Fin n → ℝ := fun r => ∑ c, a r c
/-- The product of two matrices. -/
def dotNN (a : Mat n k) (b : Mat k m) : Mat n m := fun r c => ∑ i, a r i * b i c
/-- The product with a transposed matrix. -/
def dotNT (a : Mat n k) (b : Mat m k) : Mat n m := fun r c => ∑ i, a r i * b c i
/-- The rows with the same rest by 8 added up. -/
def fold8 (a : Mat 256 m) : Mat 8 m := fun r c => ∑ s : Fin 32, a ⟨s.val * 8 + r.val, by omega⟩ c
/-- `m` columns from column `o` on. -/
def colsAt [NeZero N] (o : Nat) (a : Mat n N) : Mat n m := fun r c => a r (Fin.ofNat N (o + c.val))
/-- `n` rows from row `o` on. -/
def rowsAt [NeZero N] (o : Nat) (a : Mat N m) : Mat n m := fun r c => a (Fin.ofNat N (o + r.val)) c
/-- The reciprocal root mean squares of the rows, a column. -/
def rstds (v : Mat n 1024) : Mat n 1 := fun r _ => rstd (v r)

/-! ## Blocks of columns -/

section Cols
variable [NeZero N]
theorem dotNT_rows (o : Nat) (a : Mat n k) (b : Mat N k) : dotNT a (rowsAt (n := m) o b) = colsAt o (dotNT a b) := rfl
theorem mul2_cols (o : Nat) (a b : Mat n N) : mul2 (colsAt (m := m) o a) (colsAt o b) = colsAt o (mul2 a b) := rfl
theorem sg2_cols (o : Nat) (a : Mat n N) : sg2 (colsAt (m := m) o a) = colsAt o (sg2 a) := rfl
theorem exp2_cols (o : Nat) (a : Mat n N) : exp2 (colsAt (m := m) o a) = colsAt o (exp2 a) := rfl
theorem add2_const_cols (o : Nat) (x : ℝ) (a : Mat n N) :
    add2 (const2 x) (colsAt (m := m) o a) = colsAt o (add2 (const2 x) a) := rfl
theorem sub2_const_cols (o : Nat) (x : ℝ) (a : Mat n N) :
    sub2 (const2 x) (colsAt (m := m) o a) = colsAt o (sub2 (const2 x) a) := rfl
end Cols

/-! ## The quantities of Spec.lean for all tokens of a block -/

section Block
variable (P : Par) (X Y T : Mat n 1024)

/-- The gate's matrix, transposed. -/
def wgT : Mat 2816 1024 := fun c k => P.wg k c
/-- The up matrix, transposed. -/
def wuT : Mat 2816 1024 := fun c k => P.wu k c

def x1s : Mat n 1024 := fun r => x1 P (X r) (Y r)
def hs : Mat n 1024 := fun r => h P (X r) (Y r)
def gates : Mat n 2816 := fun r => gate P (X r) (Y r)
def ups : Mat n 2816 := fun r => up P (X r) (Y r)
def acts : Mat n 2816 := fun r => act P (X r) (Y r)
def x2s : Mat n 1024 := fun r => x2 P (X r) (Y r)
def diffs : Mat n 1024 := fun r => diff P (X r) (Y r) (T r)
def douts : Mat n 1024 := fun r => dout P (X r) (Y r) (T r)
def dx2s : Mat n 1024 := fun r => dx2 P (X r) (Y r) (T r)
def dgfs : Mat n 1024 := fun r => dgf P (X r) (Y r) (T r)
def dacts : Mat n 2816 := fun r => dact P (X r) (Y r) (T r)
def dgates : Mat n 2816 := fun r => dgate P (X r) (Y r) (T r)
def dups : Mat n 2816 := fun r => dup P (X r) (Y r) (T r)
def dhs : Mat n 1024 := fun r => dh P (X r) (Y r) (T r)
def dg2s : Mat n 1024 := fun r => dg2 P (X r) (Y r) (T r)
def dxs : Mat n 1024 := fun r => dx P (X r) (Y r) (T r)
def dys : Mat n 1024 := fun r => dy P (X r) (Y r) (T r)
def xns (v : Mat n 1024) : Mat n 1024 := fun r => xn (v r)
def rmss (v : Mat n 1024) (g : Vd) : Mat n 1024 := fun r => rms (v r) g
def rmsBacks (u v : Mat n 1024) (g : Vd) : Mat n 1024 := fun r => rmsBack (u r) (v r) g

theorem xns_fold (v : Mat n 1024) : mul2 v (alongRows (rstds v)) = xns v := rfl
theorem rmss_fold (v : Mat n 1024) (g : Vd) : mul2 (xns v) (everyRow (row g)) = rmss v g := rfl
theorem rmsBacks_fold (u v : Mat n 1024) (g : Vd) :
    mul2 (alongRows (rstds v)) (sub2 (mul2 u (everyRow (row g)))
      (mul2 (xns v) (alongRows (over1024 (col (rowSum (mul2 (mul2 u (everyRow (row g))) (xns v))))))))
      = rmsBacks u v g := rfl
theorem x1s_fold : add2 X (dotNN Y P.wo) = x1s P X Y := rfl
theorem hs_fold : rmss (x1s P X Y) P.g2 = hs P X Y := rfl
theorem gates_fold : dotNT (hs P X Y) (wgT P) = gates P X Y := rfl
theorem ups_fold : dotNT (hs P X Y) (wuT P) = ups P X Y := rfl
theorem acts_fold : mul2 (mul2 (gates P X Y) (sg2 (gates P X Y))) (ups P X Y) = acts P X Y := rfl
theorem x2s_fold : add2 (x1s P X Y) (dotNN (acts P X Y) P.wd) = x2s P X Y := rfl
theorem diffs_fold : sub2 (rmss (x2s P X Y) P.gf) T = diffs P X Y T := rfl
theorem douts_fold : mul2 (diffs P X Y T) (const2 (1 / 1024)) = douts P X Y T := rfl
theorem dx2s_fold : rmsBacks (douts P X Y T) (x2s P X Y) P.gf = dx2s P X Y T := rfl
theorem dgfs_fold : mul2 (douts P X Y T) (xns (x2s P X Y)) = dgfs P X Y T := rfl
theorem dacts_fold : dotNT (dx2s P X Y T) P.wd = dacts P X Y T := rfl
theorem dgates_fold :
    mul2 (mul2 (mul2 (dacts P X Y T) (ups P X Y)) (sg2 (gates P X Y)))
      (add2 (const2 1) (mul2 (gates P X Y) (sub2 (const2 1) (sg2 (gates P X Y))))) = dgates P X Y T := rfl
theorem dups_fold : mul2 (mul2 (dacts P X Y T) (gates P X Y)) (sg2 (gates P X Y)) = dups P X Y T := rfl
theorem dhs_fold : add2 (dotNN (dgates P X Y T) (wgT P)) (dotNN (dups P X Y T) (wuT P)) = dhs P X Y T := rfl
theorem dg2s_fold : mul2 (dhs P X Y T) (xns (x1s P X Y)) = dg2s P X Y T := rfl
theorem dxs_fold : add2 (dx2s P X Y T) (rmsBacks (dhs P X Y T) (x1s P X Y) P.g2) = dxs P X Y T := rfl
theorem dys_fold : dotNT (dxs P X Y T) P.wo = dys P X Y T := rfl
end Block

end Ffn

end
-- ==== Proof.KOps.lean ====
/- The kernel's whole-array operations at arrays of real numbers: each gives the array of the real operation of Real.lean. -/
module

public import proofs.«01_k».proof.Proof.Gen.KernelIdeal.Frame
public import proofs.«01_k».proof.Proof.Lift
public import proofs.«01_k».proof.Proof.Real
public import Idealize.ShloMosaic.Lib.Pipeline.ValueKit

@[expose] public section

set_option maxRecDepth 16384

noncomputable section

namespace Ffn

open Idealize.ShloMosaic Idealize.ShloMosaic.TcCoe Idealize.SL.Sem
open Cert.KernelIdeal Cert.KernelIdeal.Gen

/-- A matrix of real numbers as an array of extended reals. -/
def lift2 {φ : FTy} {n m : Nat} (f : Mat n m) : FVec Ideal ⟨2, ![n, m]⟩ φ := fun i => ((f (i 0) (i 1) : ℝ) : EReal)
/-- A vector of real numbers as an array of extended reals. -/
def lift1 {φ : FTy} {n : Nat} (f : Fin n → ℝ) : FVec Ideal ⟨1, ![n]⟩ φ := fun i => ((f (i 0) : ℝ) : EReal)

theorem lift2_ix2 {φ : FTy} {n m : Nat} (f : Mat n m) (r : Fin n) (c : Fin m) :
    lift2 (φ := φ) f (ix2 r c) = ((f r c : ℝ) : EReal) := rfl
theorem lift1_ix1 {φ : FTy} {n : Nat} (f : Fin n → ℝ) (r : Fin n) :
    lift1 (φ := φ) f (ix1 r) = ((f r : ℝ) : EReal) := rfl

section Pointwise
variable {φ : FTy} {n m : Nat} (a b : Mat n m)

theorem mulf_l : mulf (lift2 (φ := φ) a) (lift2 b) = lift2 (mul2 a b) := funext fun _ => mul_r _ _
theorem addf_l : addf (lift2 (φ := φ) a) (lift2 b) = lift2 (add2 a b) := funext fun _ => add_r _ _
theorem subf_l : subf (lift2 (φ := φ) a) (lift2 b) = lift2 (sub2 a b) := funext fun _ => sub_r _ _
theorem exp_l : exp (lift2 (φ := φ) a) = lift2 (exp2 a) := funext fun _ => exp_r _
theorem truncf_l (h) : truncf .bf16 (lift2 (φ := .f32) a) h = lift2 a := rfl
theorem extf_l (h) : extf .f32 (lift2 (φ := .bf16) a) h = lift2 a := rfl
theorem zero_l : broadcast ⟨2, ![n, m]⟩ (Scalar.ofBits (F := Ideal) .f32 0x00000000#32) = lift2 (φ := .f32) (const2 0) :=
  funext fun _ => Ideal.ofBits_zero_f32
theorem one_l : broadcast ⟨2, ![n, m]⟩ (Scalar.ofBits (F := Ideal) .f32 0x3F800000#32) = lift2 (φ := .f32) (const2 1) :=
  funext fun _ => by pointwise; exact one_r
theorem k1024_l : broadcast ⟨2, ![n, m]⟩ (Scalar.ofBits (F := Ideal) .f32 0x44800000#32) = lift2 (φ := .f32) (const2 1024) :=
  funext fun _ => bits_1024
theorem eps_l : broadcast ⟨2, ![n, m]⟩ (Scalar.ofBits (F := Ideal) .f32 0x358637BD#32) = lift2 (φ := .f32) (const2 eps) :=
  funext fun _ => bits_eps
theorem half_l : broadcast ⟨2, ![n, m]⟩ (Scalar.ofBits (F := Ideal) .f32 0x3F000000#32) = lift2 (φ := .f32) (const2 (1 / 2)) :=
  funext fun _ => bits_half
theorem inv1024_l :
    broadcast ⟨2, ![n, m]⟩ (Scalar.ofBits (F := Ideal) .f32 0x3A800000#32) = lift2 (φ := .f32) (const2 (1 / 1024)) :=
  funext fun _ => bits_inv1024
theorem over1024_l : divf (lift2 (φ := φ) a) (lift2 (const2 1024)) = lift2 (over1024 a) := funext fun _ => div1024 _
theorem sg_l : divf (lift2 (φ := φ) (const2 1)) (lift2 (add2 (const2 1) (exp2 (sub2 (const2 0) a)))) = lift2 (sg2 a) :=
  funext fun i => by
    refine (div_r (1 : ℝ) (b := 1 + Real.exp (0 - a (i 0) (i 1))) (by positivity)).trans ?_
    rw [zero_sub]; rfl
theorem sg_cols_l {N : Nat} [NeZero N] (o : Nat) (a : Mat n N) :
    divf (lift2 (φ := φ) (const2 1)) (lift2 (colsAt (m := m) o (add2 (const2 1) (exp2 (sub2 (const2 0) a)))))
      = lift2 (colsAt o (sg2 a)) := sg_l (colsAt o a)
theorem rstds_l (v : Mat n 1024) :
    rsqrt (lift2 (φ := φ) (add2 (over1024 (col (rowSum (mul2 v v)))) (const2 eps))) = lift2 (rstds v) :=
  funext fun i => rsqrt_r (msq_pos (v (i 0)))
end Pointwise

/-! ## Sums, products, copies along an axis, parts -/

/-- The sums of the rows, as a column. -/
theorem rowSum_l (a : Mat 256 1024) :
    shapeCast S256x1 (multiReduction (F := Ideal) (s := S256x1024) .add (List.cons (α := Fin 2) (1 : Fin S256x1024.rank) []) S256 (lift2 (φ := .f32) a) 0x00000000#32 reduces_S256x1024_S256 (.inl rfl) rfl)
      shapeCasts_S256_S256x1 = lift2 (φ := .f32) (col (rowSum a)) := by
  funext j; obtain ⟨r, c, rfl⟩ : ∃ r c, j = ix2 r c := ⟨j 0, j 1, eq_ix2 j⟩
  pointwise
  simp only [lift2_ix2, coe_sum]
  rfl

theorem rowSum8_l (a : Mat 8 1024) :
    shapeCast S8x1 (multiReduction (F := Ideal) (s := S8x1024) .add (List.cons (α := Fin 2) (1 : Fin S8x1024.rank) []) S8 (lift2 (φ := .f32) a) 0x00000000#32 reduces_S8x1024_S8 (.inl rfl) rfl)
      shapeCasts_S8_S8x1 = lift2 (φ := .f32) (col (rowSum a)) := by
  funext j; obtain ⟨r, c, rfl⟩ : ∃ r c, j = ix2 r c := ⟨j 0, j 1, eq_ix2 j⟩
  pointwise
  simp only [lift2_ix2, coe_sum]
  rfl

/-- The rows with the same rest by 8 added up. -/
theorem fold8_l (a : Mat 256 1024) :
    multiReduction (F := Ideal) (s := S32x8x1024) .add (List.cons (α := Fin 3) (0 : Fin S32x8x1024.rank) []) S8x1024 (shapeCast (s := S256x1024) S32x8x1024 (lift2 (φ := .f32) a) shapeCasts_S256x1024_S32x8x1024)
      0x00000000#32 reduces_S32x8x1024_S8x1024 (.inl rfl) rfl = lift2 (φ := .f32) (fold8 a) := by
  funext j; obtain ⟨r, c, rfl⟩ : ∃ r c, j = ix2 r c := ⟨j 0, j 1, eq_ix2 j⟩
  pointwise
  simp only [lift2_ix2, coe_sum]
  rfl

theorem alongRows_l (a : Mat 256 1) :
    broadcastTo S256x1024 (lift2 (φ := .f32) a) broadcasts_S256x1_S256x1024 = lift2 (φ := .f32) (alongRows a) := by
  funext j; obtain ⟨r, c, rfl⟩ : ∃ r c, j = ix2 r c := ⟨j 0, j 1, eq_ix2 j⟩
  pointwise; rfl
theorem alongRows8_l (a : Mat 8 1) :
    broadcastTo S8x128 (lift2 (φ := .f32) a) broadcasts_S8x1_S8x128 = lift2 (φ := .f32) (alongRows a) := by
  funext j; obtain ⟨r, c, rfl⟩ : ∃ r c, j = ix2 r c := ⟨j 0, j 1, eq_ix2 j⟩
  pointwise; rfl
theorem everyRow_l (a : Mat 1 1024) :
    broadcastTo S256x1024 (lift2 (φ := .f32) a) broadcasts_S1x1024_S256x1024 = lift2 (φ := .f32) (everyRow a) := by
  funext j; obtain ⟨r, c, rfl⟩ : ∃ r c, j = ix2 r c := ⟨j 0, j 1, eq_ix2 j⟩
  pointwise; rfl

theorem dot1024_l (a : Mat 256 1024) (b : Mat 1024 1024) :
    matmul dot_S256x1024_S1024x1024_S256x1024_1_0_0_1_n_n none (lift2 (φ := .bf16) a) (lift2 (φ := .bf16) b)
      (constant (F := Ideal) S256x1024 .f32 0x00000000#32) = lift2 (dotNN a b) := by
  funext j; obtain ⟨r, c, rfl⟩ : ∃ r c, j = ix2 r c := ⟨j 0, j 1, eq_ix2 j⟩
  pointwise
  simp only [lift2_ix2, mul_r, coe_sum]
  rfl
theorem dotT1024_l (a : Mat 256 1024) (b : Mat 1024 1024) :
    matmul dot_S256x1024_S1024x1024_S256x1024_1_1_0_0_n_n none (lift2 (φ := .bf16) a) (lift2 (φ := .bf16) b)
      (constant (F := Ideal) S256x1024 .f32 0x00000000#32) = lift2 (dotNT a b) := by
  funext j; obtain ⟨r, c, rfl⟩ : ∃ r c, j = ix2 r c := ⟨j 0, j 1, eq_ix2 j⟩
  pointwise
  simp only [lift2_ix2, mul_r, coe_sum]
  rfl
theorem dotT256_l (a : Mat 256 1024) (b : Mat 256 1024) :
    matmul dot_S256x1024_S256x1024_S256x256_1_1_0_0_n_n none (lift2 (φ := .bf16) a) (lift2 (φ := .bf16) b)
      (constant (F := Ideal) S256x256 .f32 0x00000000#32) = lift2 (dotNT a b) := by
  funext j; obtain ⟨r, c, rfl⟩ : ∃ r c, j = ix2 r c := ⟨j 0, j 1, eq_ix2 j⟩
  pointwise
  simp only [lift2_ix2, mul_r, coe_sum]
  rfl
theorem dot2816_l (a : Mat 256 2816) (b : Mat 2816 1024) :
    matmul dot_S256x2816_S2816x1024_S256x1024_1_0_0_1_n_n none (lift2 (φ := .bf16) a) (lift2 (φ := .bf16) b)
      (constant (F := Ideal) S256x1024 .f32 0x00000000#32) = lift2 (dotNN a b) := by
  funext j; obtain ⟨r, c, rfl⟩ : ∃ r c, j = ix2 r c := ⟨j 0, j 1, eq_ix2 j⟩
  pointwise
  simp only [lift2_ix2, mul_r, coe_sum]
  rfl

theorem half0_l (a : Mat 256 1024) :
    extractStridedSlice S256x512 ![0, 0] (lift2 (φ := .f32) a) slices_S256x1024_o0_0_S256x512
      = lift2 (φ := .f32) (colsAt 0 a) := by
  funext j; obtain ⟨r, c, rfl⟩ : ∃ r c, j = ix2 r c := ⟨j 0, j 1, eq_ix2 j⟩
  pointwise
  simp only [lift2_ix2, colsAt]
  congr 2; apply Fin.ext; simp only [Fin.ofNat]; rw [Nat.mod_eq_of_lt] <;> simp <;> omega
theorem half1_l (a : Mat 256 1024) :
    extractStridedSlice S256x512 ![0, 512] (lift2 (φ := .f32) a) slices_S256x1024_o0_512_S256x512
      = lift2 (φ := .f32) (colsAt 512 a) := by
  funext j; obtain ⟨r, c, rfl⟩ : ∃ r c, j = ix2 r c := ⟨j 0, j 1, eq_ix2 j⟩
  pointwise
  simp only [lift2_ix2, colsAt]
  congr 2; apply Fin.ext; simp only [Fin.ofNat]; rw [Nat.mod_eq_of_lt (by omega)]

/-- The rows of a weight that a load through a rectangle of all columns reads. -/
theorem ld_rows (o : Nat) (w : Mat 2816 1024) (inb) :
    View.ld (Val := Elt Ideal) (e' := .bf16) (lift2 (φ := .bf16) w) (Rect.unit (s := S2816x1024) ![o, 0] ![256, 1024] inb)
      = lift2 (φ := .bf16) (rowsAt o w) := by
  funext j
  have h0 : o + (j 0).val < 2816 := by
    have := inb 0; have h2 : (j 0).val < 256 := (j 0).isLt
    have h3 : o + 256 ≤ 2816 := this
    omega
  show ((w _ _ : ℝ) : EReal) = ((w _ _ : ℝ) : EReal)
  congr 2
  · apply Fin.ext
    simp [LoadRect.idx, Rect.unit, Nat.mod_eq_of_lt h0]
  · apply Fin.ext
    simp [LoadRect.idx, Rect.unit]

/-- The index under a block of columns. -/
theorem unit_mem (y : S256x2816.Idx) (o : Nat) (inb) :
    y ∈ (Rect.unit (s := S256x2816) ![0, o] ![256, 256] inb).set ↔ o ≤ (y 1).val ∧ (y 1).val < o + 256 := by
  rw [Rect.mem_set_unit]
  have h0 : (y 0).val < 256 := (y 0).isLt
  constructor
  · intro h; exact h 1
  · intro h a; fin_cases a
    · exact ⟨Nat.zero_le _, by simpa using h0⟩
    · exact h

/-- A block of columns is read off the matrix. -/
theorem cols_emb (a : Mat 256 2816) (o : Nat) (inb) (x : (Rect.unit (s := S256x2816) ![0, o] ![256, 256] inb).shape.Idx) :
    lift2 (φ := .bf16) (colsAt (m := 256) o a) x
      = lift2 (φ := .bf16) a ((Rect.unit (s := S256x2816) ![0, o] ![256, 256] inb).idx x) := by
  have h0 : o + (x 1).val < 2816 := by
    have h2 : (x 1).val < 256 := (x 1).isLt
    have h3 : o + 256 ≤ 2816 := inb 1
    omega
  show ((a _ _ : ℝ) : EReal) = ((a _ _ : ℝ) : EReal)
  congr 2
  · apply Fin.ext
    simp [LoadRect.idx, Rect.unit]
  · apply Fin.ext
    simp [LoadRect.idx, Rect.unit, Nat.mod_eq_of_lt h0]

/-- What eleven stores of blocks of columns leave is the matrix. -/
theorem canon_cols (a : Mat 256 2816) i0 i1 i2 i3 i4 i5 i6 i7 i8 i9 i10 :
    View.canon ([⟨Rect.unit (s := S256x2816) ![0, 2560] ![256, 256] i10, lift2 (φ := .bf16) (colsAt 2560 a)⟩,
      ⟨Rect.unit (s := S256x2816) ![0, 2304] ![256, 256] i9, lift2 (φ := .bf16) (colsAt 2304 a)⟩,
      ⟨Rect.unit (s := S256x2816) ![0, 2048] ![256, 256] i8, lift2 (φ := .bf16) (colsAt 2048 a)⟩,
      ⟨Rect.unit (s := S256x2816) ![0, 1792] ![256, 256] i7, lift2 (φ := .bf16) (colsAt 1792 a)⟩,
      ⟨Rect.unit (s := S256x2816) ![0, 1536] ![256, 256] i6, lift2 (φ := .bf16) (colsAt 1536 a)⟩,
      ⟨Rect.unit (s := S256x2816) ![0, 1280] ![256, 256] i5, lift2 (φ := .bf16) (colsAt 1280 a)⟩,
      ⟨Rect.unit (s := S256x2816) ![0, 1024] ![256, 256] i4, lift2 (φ := .bf16) (colsAt 1024 a)⟩,
      ⟨Rect.unit (s := S256x2816) ![0, 768] ![256, 256] i3, lift2 (φ := .bf16) (colsAt 768 a)⟩,
      ⟨Rect.unit (s := S256x2816) ![0, 512] ![256, 256] i2, lift2 (φ := .bf16) (colsAt 512 a)⟩,
      ⟨Rect.unit (s := S256x2816) ![0, 256] ![256, 256] i1, lift2 (φ := .bf16) (colsAt 256 a)⟩,
      ⟨Rect.unit (s := S256x2816) ![0, 0] ![256, 256] i0, lift2 (φ := .bf16) (colsAt 0 a)⟩] : List (View.Piece (Elt Ideal) S256x2816 .bf16))
      = lift2 (φ := .bf16) a := by
  funext y
  refine View.canon_apply_of_pieces (Val := Elt Ideal) (e := .bf16) (lift2 (φ := .bf16) a) _ ?_ y ?_
  · intro p hp x
    simp only [List.mem_cons, List.not_mem_nil, or_false] at hp
    rcases hp with rfl | rfl | rfl | rfl | rfl | rfl | rfl | rfl | rfl | rfl | rfl
    · exact cols_emb a _ i10 x
    · exact cols_emb a _ i9 x
    · exact cols_emb a _ i8 x
    · exact cols_emb a _ i7 x
    · exact cols_emb a _ i6 x
    · exact cols_emb a _ i5 x
    · exact cols_emb a _ i4 x
    · exact cols_emb a _ i3 x
    · exact cols_emb a _ i2 x
    · exact cols_emb a _ i1 x
    · exact cols_emb a _ i0 x
  have hy : (y 1).val < 2816 := (y 1).isLt
  rcases (by omega : (2560 ≤ (y 1).val ∧ (y 1).val < 2560 + 256) ∨ (2304 ≤ (y 1).val ∧ (y 1).val < 2304 + 256) ∨ (2048 ≤ (y 1).val ∧ (y 1).val < 2048 + 256) ∨ (1792 ≤ (y 1).val ∧ (y 1).val < 1792 + 256) ∨ (1536 ≤ (y 1).val ∧ (y 1).val < 1536 + 256) ∨ (1280 ≤ (y 1).val ∧ (y 1).val < 1280 + 256) ∨ (1024 ≤ (y 1).val ∧ (y 1).val < 1024 + 256) ∨ (768 ≤ (y 1).val ∧ (y 1).val < 768 + 256) ∨ (512 ≤ (y 1).val ∧ (y 1).val < 512 + 256) ∨ (256 ≤ (y 1).val ∧ (y 1).val < 256 + 256) ∨ (0 ≤ (y 1).val ∧ (y 1).val < 0 + 256)) with
    h | h | h | h | h | h | h | h | h | h | h
  · exact ⟨_, List.Mem.head _, (unit_mem y 2560 i10).2 ⟨by omega, by omega⟩⟩
  · exact ⟨_, List.Mem.tail _ (List.Mem.head _), (unit_mem y 2304 i9).2 ⟨by omega, by omega⟩⟩
  · exact ⟨_, List.Mem.tail _ (List.Mem.tail _ (List.Mem.head _)), (unit_mem y 2048 i8).2 ⟨by omega, by omega⟩⟩
  · exact ⟨_, List.Mem.tail _ (List.Mem.tail _ (List.Mem.tail _ (List.Mem.head _))), (unit_mem y 1792 i7).2 ⟨by omega, by omega⟩⟩
  · exact ⟨_, List.Mem.tail _ (List.Mem.tail _ (List.Mem.tail _ (List.Mem.tail _ (List.Mem.head _)))), (unit_mem y 1536 i6).2 ⟨by omega, by omega⟩⟩
  · exact ⟨_, List.Mem.tail _ (List.Mem.tail _ (List.Mem.tail _ (List.Mem.tail _ (List.Mem.tail _ (List.Mem.head _))))), (unit_mem y 1280 i5).2 ⟨by omega, by omega⟩⟩
  · exact ⟨_, List.Mem.tail _ (List.Mem.tail _ (List.Mem.tail _ (List.Mem.tail _ (List.Mem.tail _ (List.Mem.tail _ (List.Mem.head _)))))), (unit_mem y 1024 i4).2 ⟨by omega, by omega⟩⟩
  · exact ⟨_, List.Mem.tail _ (List.Mem.tail _ (List.Mem.tail _ (List.Mem.tail _ (List.Mem.tail _ (List.Mem.tail _ (List.Mem.tail _ (List.Mem.head _))))))), (unit_mem y 768 i3).2 ⟨by omega, by omega⟩⟩
  · exact ⟨_, List.Mem.tail _ (List.Mem.tail _ (List.Mem.tail _ (List.Mem.tail _ (List.Mem.tail _ (List.Mem.tail _ (List.Mem.tail _ (List.Mem.tail _ (List.Mem.head _)))))))), (unit_mem y 512 i2).2 ⟨by omega, by omega⟩⟩
  · exact ⟨_, List.Mem.tail _ (List.Mem.tail _ (List.Mem.tail _ (List.Mem.tail _ (List.Mem.tail _ (List.Mem.tail _ (List.Mem.tail _ (List.Mem.tail _ (List.Mem.tail _ (List.Mem.head _))))))))), (unit_mem y 256 i1).2 ⟨by omega, by omega⟩⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), (unit_mem y 0 i0).2 ⟨by omega, by omega⟩⟩

/-- The matrix read back whole after eleven stores of blocks of columns. -/
theorem readCov_whole {sig : RefSig} {κ : Kind} {sp : Space} (v : View sig κ sp S256x2816 .bf16) (a : Mat 256 2816) i0 i1 i2 i3 i4 i5 i6 i7 i8 i9 i10 inb :
    View.readCov v ([⟨Rect.unit (s := S256x2816) ![0, 2560] ![256, 256] i10, lift2 (φ := .bf16) (colsAt 2560 a)⟩,
      ⟨Rect.unit (s := S256x2816) ![0, 2304] ![256, 256] i9, lift2 (φ := .bf16) (colsAt 2304 a)⟩,
      ⟨Rect.unit (s := S256x2816) ![0, 2048] ![256, 256] i8, lift2 (φ := .bf16) (colsAt 2048 a)⟩,
      ⟨Rect.unit (s := S256x2816) ![0, 1792] ![256, 256] i7, lift2 (φ := .bf16) (colsAt 1792 a)⟩,
      ⟨Rect.unit (s := S256x2816) ![0, 1536] ![256, 256] i6, lift2 (φ := .bf16) (colsAt 1536 a)⟩,
      ⟨Rect.unit (s := S256x2816) ![0, 1280] ![256, 256] i5, lift2 (φ := .bf16) (colsAt 1280 a)⟩,
      ⟨Rect.unit (s := S256x2816) ![0, 1024] ![256, 256] i4, lift2 (φ := .bf16) (colsAt 1024 a)⟩,
      ⟨Rect.unit (s := S256x2816) ![0, 768] ![256, 256] i3, lift2 (φ := .bf16) (colsAt 768 a)⟩,
      ⟨Rect.unit (s := S256x2816) ![0, 512] ![256, 256] i2, lift2 (φ := .bf16) (colsAt 512 a)⟩,
      ⟨Rect.unit (s := S256x2816) ![0, 256] ![256, 256] i1, lift2 (φ := .bf16) (colsAt 256 a)⟩,
      ⟨Rect.unit (s := S256x2816) ![0, 0] ![256, 256] i0, lift2 (φ := .bf16) (colsAt 0 a)⟩] : List (View.Piece (Elt Ideal) S256x2816 .bf16))
      (Rect.unit (s := S256x2816) ![0, 0] ![256, 2816] inb).toLoadRect = lift2 (φ := .bf16) a := by
  rw [View.readCov_eq_canon', canon_cols]
  funext x
  show ((a _ _ : ℝ) : EReal) = ((a _ _ : ℝ) : EReal)
  congr 2 <;> · apply Fin.ext; simp [LoadRect.idx, Rect.unit]

/-- A block of columns read back after eleven stores of blocks of columns. -/
theorem readCov_cols {sig : RefSig} {κ : Kind} {sp : Space} (v : View sig κ sp S256x2816 .bf16) (a : Mat 256 2816) i0 i1 i2 i3 i4 i5 i6 i7 i8 i9 i10 (o : Nat) inb :
    View.readCov v ([⟨Rect.unit (s := S256x2816) ![0, 2560] ![256, 256] i10, lift2 (φ := .bf16) (colsAt 2560 a)⟩,
      ⟨Rect.unit (s := S256x2816) ![0, 2304] ![256, 256] i9, lift2 (φ := .bf16) (colsAt 2304 a)⟩,
      ⟨Rect.unit (s := S256x2816) ![0, 2048] ![256, 256] i8, lift2 (φ := .bf16) (colsAt 2048 a)⟩,
      ⟨Rect.unit (s := S256x2816) ![0, 1792] ![256, 256] i7, lift2 (φ := .bf16) (colsAt 1792 a)⟩,
      ⟨Rect.unit (s := S256x2816) ![0, 1536] ![256, 256] i6, lift2 (φ := .bf16) (colsAt 1536 a)⟩,
      ⟨Rect.unit (s := S256x2816) ![0, 1280] ![256, 256] i5, lift2 (φ := .bf16) (colsAt 1280 a)⟩,
      ⟨Rect.unit (s := S256x2816) ![0, 1024] ![256, 256] i4, lift2 (φ := .bf16) (colsAt 1024 a)⟩,
      ⟨Rect.unit (s := S256x2816) ![0, 768] ![256, 256] i3, lift2 (φ := .bf16) (colsAt 768 a)⟩,
      ⟨Rect.unit (s := S256x2816) ![0, 512] ![256, 256] i2, lift2 (φ := .bf16) (colsAt 512 a)⟩,
      ⟨Rect.unit (s := S256x2816) ![0, 256] ![256, 256] i1, lift2 (φ := .bf16) (colsAt 256 a)⟩,
      ⟨Rect.unit (s := S256x2816) ![0, 0] ![256, 256] i0, lift2 (φ := .bf16) (colsAt 0 a)⟩] : List (View.Piece (Elt Ideal) S256x2816 .bf16))
      (Rect.unit (s := S256x2816) ![0, o] ![256, 256] inb).toLoadRect = lift2 (φ := .bf16) (colsAt o a) := by
  rw [View.readCov_eq_canon', canon_cols]
  funext x
  exact (cols_emb a o inb x).symm

end Ffn

end
-- ==== Proof.Blocks.lean ====
/- The blocks that the kernel reads at grid point t, where its arguments are arrays of real numbers: rows 256 t … 256 t + 255 of the
   token arrays, and the whole of each weight (the gate and up matrices transposed by the host, the rest only cast). -/
module

public import proofs.«01_k».proof.Proof.KOps
public import proofs.«01_k».proof.Proof.Gen.KernelIdeal.Frame
public import Idealize.ShloMosaic.Lib.Pipeline.ValueKit

@[expose] public section

set_option maxRecDepth 16384

noncomputable section

namespace Cert.KernelIdeal.Arr

open Idealize.ShloMosaic Idealize.ShloMosaic.TcCoe Idealize.SL.Sem
open Cert.KernelIdeal Cert.KernelIdeal.Gen Ffn

variable (m : (ℓ : Loc nD τ sig) → Buf (Elt Ideal) ℓ)

/-- The arguments of device c are the real weights P, tokens X, mixer outputs Y and targets T. -/
structure Args (c : Dev nD) (P : Par) (X Y T : Mat 2048 1024) : Prop where
  h0 : ∀ t d, (m ((c : Thread nD τ).loc main_arg0) : FVec Ideal S2048x1024 .f32) (ix2 t d) = ((X t d : ℝ) : EReal)
  h1 : ∀ t d, (m ((c : Thread nD τ).loc main_arg1) : FVec Ideal S2048x1024 .f32) (ix2 t d) = ((Y t d : ℝ) : EReal)
  h2 : ∀ d f, (m ((c : Thread nD τ).loc main_arg2) : FVec Ideal S1024x2816 .f32) (ix2 d f) = ((P.wg d f : ℝ) : EReal)
  h3 : ∀ d f, (m ((c : Thread nD τ).loc main_arg3) : FVec Ideal S1024x2816 .f32) (ix2 d f) = ((P.wu d f : ℝ) : EReal)
  h4 : ∀ f d, (m ((c : Thread nD τ).loc main_arg4) : FVec Ideal S2816x1024 .f32) (ix2 f d) = ((P.wd f d : ℝ) : EReal)
  h5 : ∀ e d, (m ((c : Thread nD τ).loc main_arg5) : FVec Ideal S1024x1024 .f32) (ix2 e d) = ((P.wo e d : ℝ) : EReal)
  h6 : ∀ d, (m ((c : Thread nD τ).loc main_arg6) : FVec Ideal S1024 .f32) (ix1 d) = ((P.g2 d : ℝ) : EReal)
  h7 : ∀ d, (m ((c : Thread nD τ).loc main_arg7) : FVec Ideal S1024 .f32) (ix1 d) = ((P.gf d : ℝ) : EReal)
  h8 : ∀ t d, (m ((c : Thread nD τ).loc main_arg8) : FVec Ideal S2048x1024 .f32) (ix2 t d) = ((T t d : ℝ) : EReal)

/-- There are eight grid points. -/
theorem lt8 (t : Fin cfg0.N) : t.val < 8 := lt_of_lt_of_eq t.isLt N_0

/-- The token that row r of block t holds. -/
def tok (t : Fin cfg0.N) (r : Fin 256) : Fin 2048 := ⟨t.val * 256 + r.val, by have := lt8 t; omega⟩

/-- The rows of block t. -/
def rows {k : ℕ} (X : Mat 2048 k) (t : Fin cfg0.N) : Mat 256 k := fun r => X (tok t r)

/-- The block index of every window at every point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0]
    ∧ win0_17.index t = ![t.val, 0] ∧ win0_18.index t = ![0, 0] ∧ win0_19.index t = ![0, 0] ∧ win0_20.index t = ![0, 0] :=
  (by decide +kernel : ∀ t : Fin grid0.N, _)

variable {m} {c : Dev nD} {P : Par} {X Y T : Mat 2048 1024} (H : Args m c P X Y T) (t : Fin cfg0.N)
include H

/-- The block of the tokens. -/
theorem b0 : iblk m c 0 t = lift2 (φ := .f32) (rows X t) := by
  funext i
  obtain ⟨r, d, rfl⟩ : ∃ r d, i = ix2 r d := ⟨i 0, i 1, eq_ix2 i⟩
  refine Eq.trans ?_ (H.h0 (tok t r) d)
  blk_ext [iblk, V, idx t, tok]

/-- The block of the mixer outputs, cast by the host. -/
theorem b1 : iblk m c 1 t = lift2 (φ := .bf16) (rows Y t) := by
  funext i
  obtain ⟨r, d, rfl⟩ : ∃ r d, i = ix2 r d := ⟨i 0, i 1, eq_ix2 i⟩
  refine Eq.trans ?_ (H.h1 (tok t r) d)
  blk_simp [iblk, idx t]
  entry_read
  blk_ext [idx t, tok]

/-- The gate matrix, transposed. -/
theorem b2 : iblk m c 2 t = lift2 (φ := .bf16) (wgT P) := by
  funext i
  obtain ⟨f, d, rfl⟩ : ∃ r d, i = ix2 r d := ⟨i 0, i 1, eq_ix2 i⟩
  refine Eq.trans ?_ (H.h2 d f)
  blk_simp [iblk, idx t]
  entry_read
  pointwise []
  blk_ext [idx t]

/-- The up matrix, transposed. -/
theorem b3 : iblk m c 3 t = lift2 (φ := .bf16) (wuT P) := by
  funext i
  obtain ⟨a, d, rfl⟩ : ∃ a d, i = ix2 a d := ⟨i 0, i 1, eq_ix2 i⟩
  refine Eq.trans ?_ (H.h3 d a)
  blk_simp [iblk, idx t]
  entry_read
  pointwise []
  blk_ext [idx t]

/-- The down matrix. -/
theorem b4 : iblk m c 4 t = lift2 (φ := .bf16) P.wd := by
  funext i
  obtain ⟨a, d, rfl⟩ : ∃ a d, i = ix2 a d := ⟨i 0, i 1, eq_ix2 i⟩
  refine Eq.trans ?_ (H.h4 a d)
  blk_simp [iblk, idx t]
  entry_read
  blk_ext [idx t]

/-- The out matrix. -/
theorem b5 : iblk m c 5 t = lift2 (φ := .bf16) P.wo := by
  funext i
  obtain ⟨a, d, rfl⟩ : ∃ a d, i = ix2 a d := ⟨i 0, i 1, eq_ix2 i⟩
  refine Eq.trans ?_ (H.h5 a d)
  blk_simp [iblk, idx t]
  entry_read
  blk_ext [idx t]

/-- The gain of the norm before the feed-forward, as a row. -/
theorem b6 : iblk m c 6 t = lift2 (φ := .f32) (row P.g2) := by
  funext i
  obtain ⟨a, d, rfl⟩ : ∃ a d, i = ix2 a d := ⟨i 0, i 1, eq_ix2 i⟩
  refine Eq.trans ?_ (H.h6 d)
  blk_simp [iblk, idx t]
  entry_read
  pointwise []
  blk_ext [idx t]

/-- The gain of the last norm, as a row. -/
theorem b7 : iblk m c 7 t = lift2 (φ := .f32) (row P.gf) := by
  funext i
  obtain ⟨a, d, rfl⟩ : ∃ a d, i = ix2 a d := ⟨i 0, i 1, eq_ix2 i⟩
  refine Eq.trans ?_ (H.h7 d)
  blk_simp [iblk, idx t]
  entry_read
  pointwise []
  blk_ext [idx t]

/-- The block of the targets. -/
theorem b8 : iblk m c 8 t = lift2 (φ := .f32) (rows T t) := by
  funext i
  obtain ⟨r, d, rfl⟩ : ∃ r d, i = ix2 r d := ⟨i 0, i 1, eq_ix2 i⟩
  refine Eq.trans ?_ (H.h8 (tok t r) d)
  blk_ext [iblk, V, idx t, tok]

end Cert.KernelIdeal.Arr
-- ==== Proof.Pre.lean ====
/- What the precondition says: every argument of the kernel is an array of real numbers. -/
module

public import proofs.«01_k».proof.Defs
public import proofs.«01_k».proof.Proof.Gen.Pre_finite
public import proofs.«01_k».proof.Proof.Blocks

@[expose] public section

set_option maxRecDepth 16384

noncomputable section

namespace Cert.Join

open Idealize.ShloMosaic Idealize.ShloMosaic.TcCoe Idealize.SL.Sem Ffn

/-- Where the comparison of the absolute values with +∞ says yes everywhere, every element is a real number. -/
theorem real_of_pre {S0 S : Shape} {dims : Fin S0.rank → Fin S.rank} (hb : S0.BroadcastsInDim S dims) (x : FVec Ideal S .f32)
    (h : cmpf .olt (Host.absf x) (broadcastInDim S dims hb (constant (F := Ideal) S0 .f32 0x7F800000#32)) = fun _ => 1#1)
    (i : S.Idx) : x i = ((x i).toReal : EReal) := by
  have hi := congrFun h i
  refine real_of_abs_lt_top ?_
  have h2 : BitVec.ofBool (decide (max (x i) (-x i) < Ideal.ofBits .f32 0x7F800000#32)) = 1#1 := hi
  rw [bits_inf] at h2
  by_contra hn
  rw [decide_eq_false hn] at h2
  exact absurd h2 (by decide)

/-- Finite arguments are real ones. -/
theorem args_real (m : (ℓ : Loc Cert.KernelIdeal.nD Cert.KernelIdeal.τ Cert.KernelIdeal.sig) → Buf (Elt Ideal) ℓ)
    (hpre : Cert.Pre_KernelIdeal_finite m) (c : Dev Cert.KernelIdeal.nD) :
    ∃ (P : Par) (X Y T : Mat 2048 1024), Cert.KernelIdeal.Arr.Args m c P X Y T := by
  obtain ⟨h0, h1, h2, h3, h4, h5, h6, h7, h8⟩ := hpre c
  exact ⟨⟨fun d f => ((m ((c.tc : Thread Cert.KernelIdeal.nD Cert.KernelIdeal.τ).loc Cert.KernelIdeal.main_arg2) : FVec Ideal Cert.KernelIdeal.S1024x2816 .f32) (ix2 d f)).toReal,
      fun d f => ((m ((c.tc : Thread Cert.KernelIdeal.nD Cert.KernelIdeal.τ).loc Cert.KernelIdeal.main_arg3) : FVec Ideal Cert.KernelIdeal.S1024x2816 .f32) (ix2 d f)).toReal,
      fun d f => ((m ((c.tc : Thread Cert.KernelIdeal.nD Cert.KernelIdeal.τ).loc Cert.KernelIdeal.main_arg4) : FVec Ideal Cert.KernelIdeal.S2816x1024 .f32) (ix2 d f)).toReal,
      fun d f => ((m ((c.tc : Thread Cert.KernelIdeal.nD Cert.KernelIdeal.τ).loc Cert.KernelIdeal.main_arg5) : FVec Ideal Cert.KernelIdeal.S1024x1024 .f32) (ix2 d f)).toReal,
      fun d => ((m ((c.tc : Thread Cert.KernelIdeal.nD Cert.KernelIdeal.τ).loc Cert.KernelIdeal.main_arg6) : FVec Ideal Cert.KernelIdeal.S1024 .f32) (ix1 d)).toReal,
      fun d => ((m ((c.tc : Thread Cert.KernelIdeal.nD Cert.KernelIdeal.τ).loc Cert.KernelIdeal.main_arg7) : FVec Ideal Cert.KernelIdeal.S1024 .f32) (ix1 d)).toReal⟩,
    fun t d => ((m ((c.tc : Thread Cert.KernelIdeal.nD Cert.KernelIdeal.τ).loc Cert.KernelIdeal.main_arg0) : FVec Ideal Cert.KernelIdeal.S2048x1024 .f32) (ix2 t d)).toReal,
    fun t d => ((m ((c.tc : Thread Cert.KernelIdeal.nD Cert.KernelIdeal.τ).loc Cert.KernelIdeal.main_arg1) : FVec Ideal Cert.KernelIdeal.S2048x1024 .f32) (ix2 t d)).toReal,
    fun t d => ((m ((c.tc : Thread Cert.KernelIdeal.nD Cert.KernelIdeal.τ).loc Cert.KernelIdeal.main_arg8) : FVec Ideal Cert.KernelIdeal.S2048x1024 .f32) (ix2 t d)).toReal,
    { h0 := fun t d => real_of_pre _ _ h0 _
      h1 := fun t d => real_of_pre _ _ h1 _
      h2 := fun t d => real_of_pre _ _ h2 _
      h3 := fun t d => real_of_pre _ _ h3 _
      h4 := fun t d => real_of_pre _ _ h4 _
      h5 := fun t d => real_of_pre _ _ h5 _
      h6 := fun d => real_of_pre _ _ h6 _
      h7 := fun d => real_of_pre _ _ h7 _
      h8 := fun t d => real_of_pre _ _ h8 _ }⟩

end Cert.Join
-- ==== Proof.Ref.lean ====
/- The reference's values, one operation or a few at a time: for finite arguments each array it computes is, at every
   index, the real number the model of `Spec` names. -/
module

public import proofs.«01_k».proof.Proof.Gen.ReferenceIdeal.Read
public import proofs.«01_k».proof.Proof.Lift

@[expose] public section

set_option maxRecDepth 16384

noncomputable section

namespace Cert.ReferenceIdeal.Real

open Idealize.ShloMosaic Idealize.ShloMosaic.TcCoe Idealize.SL.Sem
open Cert.ReferenceIdeal Cert.ReferenceIdeal.Gen Cert.ReferenceIdeal.Read Ffn

/-- The arguments are the real arrays of the model: `X`, `Y` and `T` the tokens' rows of `x`, `y` and the target. -/
structure Rep (P : Par) (X Y T : Fin 2048 → Vd) (x0 x1 : FVec Ideal S2048x1024 .f32) (x2 x3 : FVec Ideal S1024x2816 .f32)
    (x4 : FVec Ideal S2816x1024 .f32) (x5 : FVec Ideal S1024x1024 .f32) (x6 x7 : FVec Ideal S1024 .f32)
    (x8 : FVec Ideal S2048x1024 .f32) : Prop where
  h0 : ∀ t d, x0 (ix2 t d) = ((X t d : ℝ) : EReal)
  h1 : ∀ t d, x1 (ix2 t d) = ((Y t d : ℝ) : EReal)
  h2 : ∀ d c, x2 (ix2 d c) = ((P.wg d c : ℝ) : EReal)
  h3 : ∀ d c, x3 (ix2 d c) = ((P.wu d c : ℝ) : EReal)
  h4 : ∀ c d, x4 (ix2 c d) = ((P.wd c d : ℝ) : EReal)
  h5 : ∀ k d, x5 (ix2 k d) = ((P.wo k d : ℝ) : EReal)
  h6 : ∀ d, x6 (ix1 d) = ((P.g2 d : ℝ) : EReal)
  h7 : ∀ d, x7 (ix1 d) = ((P.gf d : ℝ) : EReal)
  h8 : ∀ t d, x8 (ix2 t d) = ((T t d : ℝ) : EReal)

variable {P : Par} {X Y T : Fin 2048 → Vd} {x0 x1 : FVec Ideal S2048x1024 .f32} {x2 x3 : FVec Ideal S1024x2816 .f32}
  {x4 : FVec Ideal S2816x1024 .f32} {x5 : FVec Ideal S1024x1024 .f32} {x6 x7 : FVec Ideal S1024 .f32}
  {x8 : FVec Ideal S2048x1024 .f32}

/-- The residual stream after the output projection. -/
theorem v5 (H : Rep P X Y T x0 x1 x2 x3 x4 x5 x6 x7 x8) (t : Fin 2048) (d : Fin 1024) :
    val_main_v5 (F := Ideal) x0 x1 x5 (ix2 t d) = ((Ffn.x1 P (X t) (Y t) d : ℝ) : EReal) := by
  pointwise [val_main_v5, val_main_v4]
  simp only [H.h0, H.h1, H.h5, mul_r, add_r, sub_r, neg_r, coe_sum, zero_r, one_r, bits_1024, bits_eps, bits_half, bits_neghalf, bits_two, div1024]
  rfl

/-- Its mean square plus epsilon. -/
theorem v12 (H : Rep P X Y T x0 x1 x2 x3 x4 x5 x6 x7 x8) (t : Fin 2048) :
    val_main_v12 (F := Ideal) x0 x1 x5 (ix2 t 0) = ((msq (Ffn.x1 P (X t) (Y t)) : ℝ) : EReal) := by
  pointwise [val_main_v12, val_main_v11, val_main_cst_3, val_main_v10, val_main_v9, val_main_cst_2, val_main_v8, val_main_v7, val_main_cst_1, val_main_v6]
  simp only [v5 H, mul_r, add_r, sub_r, neg_r, coe_sum, zero_r, one_r, bits_1024, bits_eps, bits_half, bits_neghalf, bits_two, div1024]
  exact congrArg _ (by simp only [msq, zero_add])

/-- One over its root mean square. -/
theorem v13 (H : Rep P X Y T x0 x1 x2 x3 x4 x5 x6 x7 x8) (t : Fin 2048) :
    val_main_v13 (F := Ideal) x0 x1 x5 (ix2 t 0) = ((rstd (Ffn.x1 P (X t) (Y t)) : ℝ) : EReal) := by
  pointwise [val_main_v13]
  rw [v12 H, rsqrt_r (msq_pos _)]
  rfl

/-- The derivative of the reciprocal root, at the mean square. -/
theorem v16 (H : Rep P X Y T x0 x1 x2 x3 x4 x5 x6 x7 x8) (t : Fin 2048) :
    val_main_v16 (F := Ideal) x0 x1 x5 (ix2 t 0) = ((-(1 / 2) * (rstd (Ffn.x1 P (X t) (Y t)) / msq (Ffn.x1 P (X t) (Y t))) : ℝ) : EReal) := by
  pointwise [val_main_v16, val_main_v15, val_main_cst_4, val_main_v14]
  rw [v12 H, v13 H, div_r _ (msq_pos _).ne', bits_neghalf, mul_r]

/-- The stream over its root mean square. -/
theorem v18 (H : Rep P X Y T x0 x1 x2 x3 x4 x5 x6 x7 x8) (t : Fin 2048) (d : Fin 1024) :
    val_main_v18 (F := Ideal) x0 x1 x5 (ix2 t d) = ((xn (Ffn.x1 P (X t) (Y t)) d : ℝ) : EReal) := by
  pointwise [val_main_v18, val_main_v17]
  simp only [v5 H, v13 H, mul_r, add_r, sub_r, neg_r, coe_sum, zero_r, one_r, bits_1024, bits_eps, bits_half, bits_neghalf, bits_two, div1024]
  rfl

/-- The normed input of the feed-forward block. -/
theorem v19 (H : Rep P X Y T x0 x1 x2 x3 x4 x5 x6 x7 x8) (t : Fin 2048) (d : Fin 1024) :
    val_main_v19 (F := Ideal) x0 x1 x5 x6 (ix2 t d) = ((Ffn.h P (X t) (Y t) d : ℝ) : EReal) := by
  pointwise [val_main_v19, val_main_v1]
  simp only [v18 H, H.h6, mul_r, add_r, sub_r, neg_r, coe_sum, zero_r, one_r, bits_1024, bits_eps, bits_half, bits_neghalf, bits_two, div1024]
  rfl

/-- The gate's preactivation. -/
theorem v21 (H : Rep P X Y T x0 x1 x2 x3 x4 x5 x6 x7 x8) (t : Fin 2048) (c : Fin 2816) :
    val_main_v21 (F := Ideal) x0 x1 x2 x5 x6 (ix2 t c) = ((gate P (X t) (Y t) c : ℝ) : EReal) := by
  pointwise [val_main_v21, val_main_v20, val_main_v0, val_main_cst]
  simp only [v19 H, H.h2, mul_r, add_r, sub_r, neg_r, coe_sum, zero_r, one_r, bits_1024, bits_eps, bits_half, bits_neghalf, bits_two, div1024]
  exact congrArg _ (by simp only [gate, add_zero])

/-- The up projection. -/
theorem v23 (H : Rep P X Y T x0 x1 x2 x3 x4 x5 x6 x7 x8) (t : Fin 2048) (c : Fin 2816) :
    val_main_v23 (F := Ideal) x0 x1 x3 x5 x6 (ix2 t c) = ((up P (X t) (Y t) c : ℝ) : EReal) := by
  pointwise [val_main_v23, val_main_v22, val_main_v0, val_main_cst]
  simp only [v19 H, H.h3, mul_r, add_r, sub_r, neg_r, coe_sum, zero_r, one_r, bits_1024, bits_eps, bits_half, bits_neghalf, bits_two, div1024]
  exact congrArg _ (by simp only [up, add_zero])

/-- The logistic function of the gate. -/
theorem v24_2 (H : Rep P X Y T x0 x1 x2 x3 x4 x5 x6 x7 x8) (t : Fin 2048) (c : Fin 2816) :
    val_main_v24_2 (F := Ideal) x0 x1 x2 x5 x6 (ix2 t c) = ((sg (gate P (X t) (Y t) c) : ℝ) : EReal) := by
  pointwise [val_main_v24_2, val_main_call0_v4, val_main_call0_cst_0, val_main_call0_v3, val_main_call0_v2, val_main_call0_cst, val_main_call0_v1, val_main_call0_v0]
  simp only [v21 H, exp_r, mul_r, add_r, sub_r, neg_r, coe_sum, zero_r, one_r, bits_1024, bits_eps, bits_half, bits_neghalf, bits_two, div1024]
  rw [div_r _ (by positivity)]
  rfl

/-- The activation `silu`. -/
theorem v24_0 (H : Rep P X Y T x0 x1 x2 x3 x4 x5 x6 x7 x8) (t : Fin 2048) (c : Fin 2816) :
    val_main_v24_0 (F := Ideal) x0 x1 x2 x5 x6 (ix2 t c) = ((gate P (X t) (Y t) c * sg (gate P (X t) (Y t) c) : ℝ) : EReal) := by
  pointwise [val_main_v24_0]
  simp only [v21 H, v24_2 H, mul_r, add_r, sub_r, neg_r, coe_sum, zero_r, one_r, bits_1024, bits_eps, bits_half, bits_neghalf, bits_two, div1024]

/-- The derivative of the logistic function. -/
theorem v24_1 (H : Rep P X Y T x0 x1 x2 x3 x4 x5 x6 x7 x8) (t : Fin 2048) (c : Fin 2816) :
    val_main_v24_1 (F := Ideal) x0 x1 x2 x5 x6 (ix2 t c) = ((sg (gate P (X t) (Y t) c) * (1 - sg (gate P (X t) (Y t) c)) : ℝ) : EReal) := by
  pointwise [val_main_v24_1, val_main_call0_v7, val_main_call0_v6, val_main_call0_cst_1]
  simp only [v24_2 H, mul_r, add_r, sub_r, neg_r, coe_sum, zero_r, one_r, bits_1024, bits_eps, bits_half, bits_neghalf, bits_two, div1024]

/-- The SwiGLU activation. -/
theorem v25 (H : Rep P X Y T x0 x1 x2 x3 x4 x5 x6 x7 x8) (t : Fin 2048) (c : Fin 2816) :
    val_main_v25 (F := Ideal) x0 x1 x2 x3 x5 x6 (ix2 t c) = ((act P (X t) (Y t) c : ℝ) : EReal) := by
  pointwise [val_main_v25]
  simp only [v24_0 H, v23 H, mul_r, add_r, sub_r, neg_r, coe_sum, zero_r, one_r, bits_1024, bits_eps, bits_half, bits_neghalf, bits_two, div1024]
  rfl

/-- The residual stream after the feed-forward block. -/
theorem v28 (H : Rep P X Y T x0 x1 x2 x3 x4 x5 x6 x7 x8) (t : Fin 2048) (d : Fin 1024) :
    val_main_v28 (F := Ideal) x0 x1 x2 x3 x4 x5 x6 (ix2 t d) = ((Ffn.x2 P (X t) (Y t) d : ℝ) : EReal) := by
  pointwise [val_main_v28, val_main_v27, val_main_v26, val_main_v3, val_main_cst_0]
  simp only [v5 H, v25 H, H.h4, mul_r, add_r, sub_r, neg_r, coe_sum, zero_r, one_r, bits_1024, bits_eps, bits_half, bits_neghalf, bits_two, div1024]
  exact congrArg _ (by simp only [Ffn.x2, add_zero])

/-- Its mean square plus epsilon. -/
theorem v35 (H : Rep P X Y T x0 x1 x2 x3 x4 x5 x6 x7 x8) (t : Fin 2048) :
    val_main_v35 (F := Ideal) x0 x1 x2 x3 x4 x5 x6 (ix2 t 0) = ((msq (Ffn.x2 P (X t) (Y t)) : ℝ) : EReal) := by
  pointwise [val_main_v35, val_main_v34, val_main_cst_7, val_main_v33, val_main_v32, val_main_cst_6, val_main_v31, val_main_v30, val_main_cst_5, val_main_v29]
  simp only [v28 H, mul_r, add_r, sub_r, neg_r, coe_sum, zero_r, one_r, bits_1024, bits_eps, bits_half, bits_neghalf, bits_two, div1024]
  exact congrArg _ (by simp only [msq, zero_add])

/-- One over its root mean square. -/
theorem v36 (H : Rep P X Y T x0 x1 x2 x3 x4 x5 x6 x7 x8) (t : Fin 2048) :
    val_main_v36 (F := Ideal) x0 x1 x2 x3 x4 x5 x6 (ix2 t 0) = ((rstd (Ffn.x2 P (X t) (Y t)) : ℝ) : EReal) := by
  pointwise [val_main_v36]
  rw [v35 H, rsqrt_r (msq_pos _)]
  rfl

/-- The derivative of the reciprocal root, at the mean square. -/
theorem v39 (H : Rep P X Y T x0 x1 x2 x3 x4 x5 x6 x7 x8) (t : Fin 2048) :
    val_main_v39 (F := Ideal) x0 x1 x2 x3 x4 x5 x6 (ix2 t 0) = ((-(1 / 2) * (rstd (Ffn.x2 P (X t) (Y t)) / msq (Ffn.x2 P (X t) (Y t))) : ℝ) : EReal) := by
  pointwise [val_main_v39, val_main_v38, val_main_cst_8, val_main_v37]
  rw [v35 H, v36 H, div_r _ (msq_pos _).ne', bits_neghalf, mul_r]

/-- The stream over its root mean square. -/
theorem v41 (H : Rep P X Y T x0 x1 x2 x3 x4 x5 x6 x7 x8) (t : Fin 2048) (d : Fin 1024) :
    val_main_v41 (F := Ideal) x0 x1 x2 x3 x4 x5 x6 (ix2 t d) = ((xn (Ffn.x2 P (X t) (Y t)) d : ℝ) : EReal) := by
  pointwise [val_main_v41, val_main_v40]
  simp only [v28 H, v36 H, mul_r, add_r, sub_r, neg_r, coe_sum, zero_r, one_r, bits_1024, bits_eps, bits_half, bits_neghalf, bits_two, div1024]
  rfl

/-- The error. -/
theorem v43 (H : Rep P X Y T x0 x1 x2 x3 x4 x5 x6 x7 x8) (t : Fin 2048) (d : Fin 1024) :
    val_main_v43 (F := Ideal) x0 x1 x2 x3 x4 x5 x6 x7 x8 (ix2 t d) = ((diff P (X t) (Y t) (T t) d : ℝ) : EReal) := by
  pointwise [val_main_v43, val_main_v42, val_main_v2]
  simp only [v41 H, H.h7, H.h8, mul_r, add_r, sub_r, neg_r, coe_sum, zero_r, one_r, bits_1024, bits_eps, bits_half, bits_neghalf, bits_two, div1024]
  rfl

/-- A token's loss. -/
theorem v51 (H : Rep P X Y T x0 x1 x2 x3 x4 x5 x6 x7 x8) (t : Fin 2048) :
    val_main_v51 (F := Ideal) x0 x1 x2 x3 x4 x5 x6 x7 x8 (ix1 t) = ((loss P (X t) (Y t) (T t) : ℝ) : EReal) := by
  pointwise [val_main_v51, val_main_v50, val_main_cst_12, val_main_v49, val_main_v48, val_main_cst_11, val_main_v47, val_main_cst_10, val_main_v44]
  simp only [v43 H, mul_r, add_r, sub_r, neg_r, coe_sum, zero_r, one_r, bits_1024, bits_eps, bits_half, bits_neghalf, bits_two, div1024]
  exact congrArg _ (by simp only [loss, zero_add]; ring)

/-- The gradient in the final norm's result. -/
theorem v58 (H : Rep P X Y T x0 x1 x2 x3 x4 x5 x6 x7 x8) (t : Fin 2048) (d : Fin 1024) :
    val_main_v58 (F := Ideal) x0 x1 x2 x3 x4 x5 x6 x7 x8 (ix2 t d) = ((dout P (X t) (Y t) (T t) d : ℝ) : EReal) := by
  pointwise [val_main_v58, val_main_v57, val_main_v56, val_main_v55, val_main_cst_15, val_main_v54, val_main_v53, val_main_cst_14, val_main_v52, val_main_cst_13, val_main_v46, val_main_v45, val_main_cst_9]
  simp only [v43 H, mul_r, add_r, sub_r, neg_r, coe_sum, zero_r, one_r, bits_1024, bits_eps, bits_half, bits_neghalf, bits_two, div1024]
  exact congrArg _ (by simp only [dout]; ring)

/-- A token's share of the gradient of the final gain. -/
theorem v59 (H : Rep P X Y T x0 x1 x2 x3 x4 x5 x6 x7 x8) (t : Fin 2048) (d : Fin 1024) :
    val_main_v59 (F := Ideal) x0 x1 x2 x3 x4 x5 x6 x7 x8 (ix2 t d) = ((Ffn.dgf P (X t) (Y t) (T t) d : ℝ) : EReal) := by
  pointwise [val_main_v59]
  simp only [v41 H, v58 H, mul_r, add_r, sub_r, neg_r, coe_sum, zero_r, one_r, bits_1024, bits_eps, bits_half, bits_neghalf, bits_two, div1024]
  exact congrArg _ (by simp only [Ffn.dgf]; ring)

/-- The gradient times the final gain. -/
theorem v60 (H : Rep P X Y T x0 x1 x2 x3 x4 x5 x6 x7 x8) (t : Fin 2048) (d : Fin 1024) :
    val_main_v60 (F := Ideal) x0 x1 x2 x3 x4 x5 x6 x7 x8 (ix2 t d) = ((dout P (X t) (Y t) (T t) d * P.gf d : ℝ) : EReal) := by
  pointwise [val_main_v60, val_main_v2]
  simp only [v58 H, H.h7, mul_r, add_r, sub_r, neg_r, coe_sum, zero_r, one_r, bits_1024, bits_eps, bits_half, bits_neghalf, bits_two, div1024]

/-- The mean square's share of the gradient through the norm. -/
theorem v69 (H : Rep P X Y T x0 x1 x2 x3 x4 x5 x6 x7 x8) (t : Fin 2048) :
    val_main_v69 (F := Ideal) x0 x1 x2 x3 x4 x5 x6 x7 x8 (ix1 t) = ((mean (dout P (X t) (Y t) (T t)) (Ffn.x2 P (X t) (Y t)) P.gf : ℝ) : EReal) := by
  pointwise [val_main_v69, val_main_cst_18, val_main_v68, val_main_v67, val_main_cst_17, val_main_v66, val_main_v63, val_main_v62, val_main_cst_16, val_main_v61]
  simp only [v28 H, v60 H, mul_r, add_r, sub_r, neg_r, coe_sum, zero_r, one_r, bits_1024, bits_eps, bits_half, bits_neghalf, bits_two, div1024]
  rw [Fin.sum_univ_one, v39 H, mul_r, div1024]
  rfl

/-- The gradient in the stream after the feed-forward block. -/
theorem v74 (H : Rep P X Y T x0 x1 x2 x3 x4 x5 x6 x7 x8) (t : Fin 2048) (d : Fin 1024) :
    val_main_v74 (F := Ideal) x0 x1 x2 x3 x4 x5 x6 x7 x8 (ix2 t d) = ((Ffn.dx2 P (X t) (Y t) (T t) d : ℝ) : EReal) := by
  pointwise [val_main_v74, val_main_v73, val_main_v72, val_main_v71, val_main_v70, val_main_v65, val_main_v64]
  simp only [v60 H, v36 H, v28 H, v69 H, mul_r, add_r]
  exact congrArg _ (rmsBack_eq _ _ _ _).symm

/-- The gradient in the activation. -/
theorem v75 (H : Rep P X Y T x0 x1 x2 x3 x4 x5 x6 x7 x8) (t : Fin 2048) (c : Fin 2816) :
    val_main_v75 (F := Ideal) x0 x1 x2 x3 x4 x5 x6 x7 x8 (ix2 t c) = ((Ffn.dact P (X t) (Y t) (T t) c : ℝ) : EReal) := by
  pointwise [val_main_v75]
  simp only [v74 H, H.h4, mul_r, add_r, sub_r, neg_r, coe_sum, zero_r, one_r, bits_1024, bits_eps, bits_half, bits_neghalf, bits_two, div1024]
  rfl

/-- The gradient in the up projection. -/
theorem v76 (H : Rep P X Y T x0 x1 x2 x3 x4 x5 x6 x7 x8) (t : Fin 2048) (c : Fin 2816) :
    val_main_v76 (F := Ideal) x0 x1 x2 x3 x4 x5 x6 x7 x8 (ix2 t c) = ((Ffn.dup P (X t) (Y t) (T t) c : ℝ) : EReal) := by
  pointwise [val_main_v76]
  simp only [v24_0 H, v75 H, mul_r, add_r, sub_r, neg_r, coe_sum, zero_r, one_r, bits_1024, bits_eps, bits_half, bits_neghalf, bits_two, div1024]
  exact congrArg _ (by simp only [Ffn.dup]; ring)

/-- The gradient in the gate's preactivation. -/
theorem v78 (H : Rep P X Y T x0 x1 x2 x3 x4 x5 x6 x7 x8) (t : Fin 2048) (c : Fin 2816) :
    val_main_v78 (F := Ideal) x0 x1 x2 x3 x4 x5 x6 x7 x8 (ix2 t c) = ((Ffn.dgate P (X t) (Y t) (T t) c : ℝ) : EReal) := by
  pointwise [val_main_v78, val_main_call1_v2, val_main_call1_v1, val_main_call1_v0, val_main_v77]
  simp only [v24_1 H, v24_2 H, v21 H, v75 H, v23 H, mul_r, add_r, sub_r, neg_r, coe_sum, zero_r, one_r, bits_1024, bits_eps, bits_half, bits_neghalf, bits_two, div1024]
  exact congrArg _ (by simp only [Ffn.dgate]; ring)

/-- The gradient in the normed input. -/
theorem v81 (H : Rep P X Y T x0 x1 x2 x3 x4 x5 x6 x7 x8) (t : Fin 2048) (d : Fin 1024) :
    val_main_v81 (F := Ideal) x0 x1 x2 x3 x4 x5 x6 x7 x8 (ix2 t d) = ((Ffn.dh P (X t) (Y t) (T t) d : ℝ) : EReal) := by
  pointwise [val_main_v81, val_main_v80, val_main_v79]
  simp only [v76 H, v78 H, H.h3, H.h2, mul_r, add_r, sub_r, neg_r, coe_sum, zero_r, one_r, bits_1024, bits_eps, bits_half, bits_neghalf, bits_two, div1024]
  exact congrArg _ (by simp only [Ffn.dh]; ring)

/-- A token's share of the gradient of the block's gain. -/
theorem v82 (H : Rep P X Y T x0 x1 x2 x3 x4 x5 x6 x7 x8) (t : Fin 2048) (d : Fin 1024) :
    val_main_v82 (F := Ideal) x0 x1 x2 x3 x4 x5 x6 x7 x8 (ix2 t d) = ((Ffn.dg2 P (X t) (Y t) (T t) d : ℝ) : EReal) := by
  pointwise [val_main_v82]
  simp only [v18 H, v81 H, mul_r, add_r, sub_r, neg_r, coe_sum, zero_r, one_r, bits_1024, bits_eps, bits_half, bits_neghalf, bits_two, div1024]
  exact congrArg _ (by simp only [Ffn.dg2]; ring)

/-- The gradient times the gain. -/
theorem v83 (H : Rep P X Y T x0 x1 x2 x3 x4 x5 x6 x7 x8) (t : Fin 2048) (d : Fin 1024) :
    val_main_v83 (F := Ideal) x0 x1 x2 x3 x4 x5 x6 x7 x8 (ix2 t d) = ((Ffn.dh P (X t) (Y t) (T t) d * P.g2 d : ℝ) : EReal) := by
  pointwise [val_main_v83, val_main_v1]
  simp only [v81 H, H.h6, mul_r, add_r, sub_r, neg_r, coe_sum, zero_r, one_r, bits_1024, bits_eps, bits_half, bits_neghalf, bits_two, div1024]

/-- The mean square's share of the gradient through the norm. -/
theorem v93 (H : Rep P X Y T x0 x1 x2 x3 x4 x5 x6 x7 x8) (t : Fin 2048) :
    val_main_v93 (F := Ideal) x0 x1 x2 x3 x4 x5 x6 x7 x8 (ix1 t) = ((mean (Ffn.dh P (X t) (Y t) (T t)) (Ffn.x1 P (X t) (Y t)) P.g2 : ℝ) : EReal) := by
  pointwise [val_main_v93, val_main_cst_21, val_main_v92, val_main_v91, val_main_cst_20, val_main_v90, val_main_v86, val_main_v85, val_main_cst_19, val_main_v84]
  simp only [v5 H, v83 H, mul_r, add_r, sub_r, neg_r, coe_sum, zero_r, one_r, bits_1024, bits_eps, bits_half, bits_neghalf, bits_two, div1024]
  rw [Fin.sum_univ_one, v16 H, mul_r, div1024]
  rfl

/-- The gradient in `x`. -/
theorem v98 (H : Rep P X Y T x0 x1 x2 x3 x4 x5 x6 x7 x8) (t : Fin 2048) (d : Fin 1024) :
    val_main_v98 (F := Ideal) x0 x1 x2 x3 x4 x5 x6 x7 x8 (ix2 t d) = ((Ffn.dx P (X t) (Y t) (T t) d : ℝ) : EReal) := by
  pointwise [val_main_v98, val_main_v97, val_main_v96, val_main_v95, val_main_v94, val_main_v89, val_main_v88, val_main_v87]
  simp only [v83 H, v13 H, v5 H, v93 H, v74 H, mul_r, add_r]
  refine congrArg _ ?_
  rw [Ffn.dx, rmsBack_eq]
  ring

/-- The gradient in `y`. -/
theorem v99 (H : Rep P X Y T x0 x1 x2 x3 x4 x5 x6 x7 x8) (t : Fin 2048) (k : Fin 1024) :
    val_main_v99 (F := Ideal) x0 x1 x2 x3 x4 x5 x6 x7 x8 (ix2 t k) = ((Ffn.dy P (X t) (Y t) (T t) k : ℝ) : EReal) := by
  pointwise [val_main_v99]
  simp only [v98 H, H.h5, mul_r, add_r, sub_r, neg_r, coe_sum, zero_r, one_r, bits_1024, bits_eps, bits_half, bits_neghalf, bits_two, div1024]
  rfl

/-- The sums of the losses of the tokens whose numbers leave the same rest by 8. -/
theorem v111 (H : Rep P X Y T x0 x1 x2 x3 x4 x5 x6 x7 x8) (a : Fin 8) (b : Fin 128) :
    val_main_v111 (F := Ideal) x0 x1 x2 x3 x4 x5 x6 x7 x8 (ix2 a b) = ((∑ s : Fin 256, lossAt P X Y T ⟨s.val * 8 + a.val, by omega⟩ : ℝ) : EReal) := by
  pointwise [val_main_v111, val_main_v110, val_main_v109, val_main_cst_22, val_main_v108]
  simp only [v51 H, mul_r, add_r, sub_r, neg_r, coe_sum, zero_r, one_r, bits_1024, bits_eps, bits_half, bits_neghalf, bits_two, div1024]
  exact congrArg _ (by simp only [lossAt, zero_add])

/-- The sums of the final gain's gradients, by the rest of the token's number by 8. -/
theorem v113 (H : Rep P X Y T x0 x1 x2 x3 x4 x5 x6 x7 x8) (a : Fin 8) (d : Fin 1024) :
    val_main_v113 (F := Ideal) x0 x1 x2 x3 x4 x5 x6 x7 x8 (ix2 a d) = ((∑ s : Fin 256, dgfAt P X Y T d ⟨s.val * 8 + a.val, by omega⟩ : ℝ) : EReal) := by
  pointwise [val_main_v113, val_main_cst_23, val_main_v112]
  simp only [v59 H, mul_r, add_r, sub_r, neg_r, coe_sum, zero_r, one_r, bits_1024, bits_eps, bits_half, bits_neghalf, bits_two, div1024]
  exact congrArg _ (by simp only [dgfAt, zero_add])

/-- The sums of the block's gain's gradients, by the rest of the token's number by 8. -/
theorem v115 (H : Rep P X Y T x0 x1 x2 x3 x4 x5 x6 x7 x8) (a : Fin 8) (d : Fin 1024) :
    val_main_v115 (F := Ideal) x0 x1 x2 x3 x4 x5 x6 x7 x8 (ix2 a d) = ((∑ s : Fin 256, dg2At P X Y T d ⟨s.val * 8 + a.val, by omega⟩ : ℝ) : EReal) := by
  pointwise [val_main_v115, val_main_cst_24, val_main_v114]
  simp only [v82 H, mul_r, add_r, sub_r, neg_r, coe_sum, zero_r, one_r, bits_1024, bits_eps, bits_half, bits_neghalf, bits_two, div1024]
  exact congrArg _ (by simp only [dg2At, zero_add])

/-- The first half of the gradient in `y`. -/
theorem v106 (H : Rep P X Y T x0 x1 x2 x3 x4 x5 x6 x7 x8) (t : Fin 2048) (k : Fin 512) :
    val_main_v106 (F := Ideal) x0 x1 x2 x3 x4 x5 x6 x7 x8 (ix2 t k) = ((Ffn.dy P (X t) (Y t) (T t) ⟨k.val, by omega⟩ : ℝ) : EReal) := by
  pointwise [val_main_v106]
  simp only [v99 H, mul_r, add_r, sub_r, neg_r, coe_sum, zero_r, one_r, bits_1024, bits_eps, bits_half, bits_neghalf, bits_two, div1024]

/-- The second half of the gradient in `y`. -/
theorem v107 (H : Rep P X Y T x0 x1 x2 x3 x4 x5 x6 x7 x8) (t : Fin 2048) (k : Fin 512) :
    val_main_v107 (F := Ideal) x0 x1 x2 x3 x4 x5 x6 x7 x8 (ix2 t k) = ((Ffn.dy P (X t) (Y t) (T t) ⟨512 + k.val, by omega⟩ : ℝ) : EReal) := by
  pointwise [val_main_v107]
  simp only [v99 H, mul_r, add_r, sub_r, neg_r, coe_sum, zero_r, one_r, bits_1024, bits_eps, bits_half, bits_neghalf, bits_two, div1024]

end Cert.ReferenceIdeal.Real

end
-- ==== Proof.BodyA.lean ====
/- What the kernel's body leaves in its output windows at one grid point, the first, for inputs that are arrays of real numbers:
   each window holds the quantity of Spec.lean for the tokens of the block. -/
module

public import proofs.«01_k».proof.Proof.KOps

@[expose] public section

set_option maxRecDepth 16384

noncomputable section

namespace Cert.KernelIdeal.Body

open Idealize.ShloMosaic Idealize.ShloMosaic.TcCoe Idealize.SL.Sem
open Cert.KernelIdeal Cert.KernelIdeal.Gen Ffn

/-- The normed inputs. -/
theorem h2_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : cond0_0 i) (hc1 : ¬cond0_1 i) (hc2 : cond0_2 i) (hc3 : ¬cond0_3 i) (hc4 : cond0_4 i) (hc5 : ¬cond0_5 i)
    (P : Par) (X Y T : Mat 256 1024) (r : Fin 256) (d : Fin 1024) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) (ix2 r d)
      = lift2 (φ := .bf16) (hs P X Y) (ix2 r d) := by
  frame_out
  simp only [k0_pay1, k0_pay2, k0_pay3, k0_pay4, k0_pay5,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The activations. -/
theorem act_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : cond0_0 i) (hc1 : ¬cond0_1 i) (hc2 : cond0_2 i) (hc3 : ¬cond0_3 i) (hc4 : cond0_4 i) (hc5 : ¬cond0_5 i)
    (P : Par) (X Y T : Mat 256 1024) (r : Fin 256) (d : Fin 2816) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) (ix2 r d)
      = lift2 (φ := .bf16) (acts P X Y) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The gradients in x2. -/
theorem dx2b_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : cond0_0 i) (hc1 : ¬cond0_1 i) (hc2 : cond0_2 i) (hc3 : ¬cond0_3 i) (hc4 : cond0_4 i) (hc5 : ¬cond0_5 i)
    (P : Par) (X Y T : Mat 256 1024) (r : Fin 256) (d : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) (ix2 r d)
      = lift2 (φ := .bf16) (dx2s P X Y T) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The gradients in the gate. -/
theorem dgt_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : cond0_0 i) (hc1 : ¬cond0_1 i) (hc2 : cond0_2 i) (hc3 : ¬cond0_3 i) (hc4 : cond0_4 i) (hc5 : ¬cond0_5 i)
    (P : Par) (X Y T : Mat 256 1024) (r : Fin 256) (d : Fin 2816) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) (ix2 r d)
      = lift2 (φ := .bf16) (dgates P X Y T) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The gradients in the up projection. -/
theorem dup_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : cond0_0 i) (hc1 : ¬cond0_1 i) (hc2 : cond0_2 i) (hc3 : ¬cond0_3 i) (hc4 : cond0_4 i) (hc5 : ¬cond0_5 i)
    (P : Par) (X Y T : Mat 256 1024) (r : Fin 256) (d : Fin 2816) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) (ix2 r d)
      = lift2 (φ := .bf16) (dups P X Y T) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The gradients in x. -/
theorem dx1b_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : cond0_0 i) (hc1 : ¬cond0_1 i) (hc2 : cond0_2 i) (hc3 : ¬cond0_3 i) (hc4 : cond0_4 i) (hc5 : ¬cond0_5 i)
    (P : Par) (X Y T : Mat 256 1024) (r : Fin 256) (d : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) (ix2 r d)
      = lift2 (φ := .bf16) (dxs P X Y T) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141,
    k0_pay142, k0_pay143, k0_pay144, k0_pay145, k0_pay146, k0_pay147,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The gradients in x. -/
theorem dx1_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : cond0_0 i) (hc1 : ¬cond0_1 i) (hc2 : cond0_2 i) (hc3 : ¬cond0_3 i) (hc4 : cond0_4 i) (hc5 : ¬cond0_5 i)
    (P : Par) (X Y T : Mat 256 1024) (r : Fin 256) (d : Fin 1024) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) (ix2 r d)
      = lift2 (φ := .f32) (dxs P X Y T) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141,
    k0_pay142, k0_pay143, k0_pay144, k0_pay145, k0_pay146, k0_pay147,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The gradients in y, its first half. -/
theorem dya_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : cond0_0 i) (hc1 : ¬cond0_1 i) (hc2 : cond0_2 i) (hc3 : ¬cond0_3 i) (hc4 : cond0_4 i) (hc5 : ¬cond0_5 i)
    (P : Par) (X Y T : Mat 256 1024) (r : Fin 256) (d : Fin 512) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) (ix2 r d)
      = lift2 (φ := .f32) (colsAt 0 (dys P X Y T)) (ix2 r d) := by
  frame_out
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The gradients in y, its second half. -/
theorem dyb_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : cond0_0 i) (hc1 : ¬cond0_1 i) (hc2 : cond0_2 i) (hc3 : ¬cond0_3 i) (hc4 : cond0_4 i) (hc5 : ¬cond0_5 i)
    (P : Par) (X Y T : Mat 256 1024) (r : Fin 256) (d : Fin 512) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) (ix2 r d)
      = lift2 (φ := .f32) (colsAt 512 (dys P X Y T)) (ix2 r d) := by
  frame_out
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The losses, added up by the rest of the token by 8. -/
theorem loss_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : cond0_0 i) (hc1 : ¬cond0_1 i) (hc2 : cond0_2 i) (hc3 : ¬cond0_3 i) (hc4 : cond0_4 i) (hc5 : ¬cond0_5 i)
    (P : Par) (X Y T : Mat 256 1024) (r : Fin 8) (d : Fin 128) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) (ix2 r d)
      = lift2 (φ := .f32) (alongRows (mul2 (mul2 (const2 (1 / 2)) (col (rowSum (fold8 (mul2 (diffs P X Y T) (diffs P X Y T)))))) (const2 (1 / 1024)))) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The final gain's gradient, added up by the rest of the token by 8. -/
theorem dgf_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : cond0_0 i) (hc1 : ¬cond0_1 i) (hc2 : cond0_2 i) (hc3 : ¬cond0_3 i) (hc4 : cond0_4 i) (hc5 : ¬cond0_5 i)
    (P : Par) (X Y T : Mat 256 1024) (r : Fin 8) (d : Fin 1024) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) (ix2 r d)
      = lift2 (φ := .f32) (fold8 (dgfs P X Y T)) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The block gain's gradient, added up by the rest of the token by 8. -/
theorem dg2_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : cond0_0 i) (hc1 : ¬cond0_1 i) (hc2 : cond0_2 i) (hc3 : ¬cond0_3 i) (hc4 : cond0_4 i) (hc5 : ¬cond0_5 i)
    (P : Par) (X Y T : Mat 256 1024) (r : Fin 8) (d : Fin 1024) :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) (ix2 r d)
      = lift2 (φ := .f32) (fold8 (dg2s P X Y T)) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141,
    k0_pay142, k0_pay143, k0_pay144, k0_pay145, k0_pay146, k0_pay147,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

end Cert.KernelIdeal.Body

end
-- ==== Proof.BodyB.lean ====
/- What the kernel's body leaves in its output windows at one grid point, any but the first, for inputs that are arrays of real numbers:
   each window holds the quantity of Spec.lean for the tokens of the block. -/
module

public import proofs.«01_k».proof.Proof.KOps

@[expose] public section

set_option maxRecDepth 16384

noncomputable section

namespace Cert.KernelIdeal.Body

open Idealize.ShloMosaic Idealize.ShloMosaic.TcCoe Idealize.SL.Sem
open Cert.KernelIdeal Cert.KernelIdeal.Gen Ffn

/-- The normed inputs. -/
theorem h2_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : ¬cond0_0 i) (hc1 : cond0_1 i) (hc2 : ¬cond0_2 i) (hc3 : cond0_3 i) (hc4 : ¬cond0_4 i) (hc5 : cond0_5 i)
    (P : Par) (X Y T : Mat 256 1024) (xo18 : FVec Ideal S8x128 .f32) (xo19 xo20 : FVec Ideal S8x1024 .f32) (r : Fin 256) (d : Fin 1024) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) xo18 xo19 xo20 (ix2 r d)
      = lift2 (φ := .bf16) (hs P X Y) (ix2 r d) := by
  frame_out
  simp only [k0_pay1, k0_pay2, k0_pay3, k0_pay4, k0_pay5,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The activations. -/
theorem act_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : ¬cond0_0 i) (hc1 : cond0_1 i) (hc2 : ¬cond0_2 i) (hc3 : cond0_3 i) (hc4 : ¬cond0_4 i) (hc5 : cond0_5 i)
    (P : Par) (X Y T : Mat 256 1024) (xo18 : FVec Ideal S8x128 .f32) (xo19 xo20 : FVec Ideal S8x1024 .f32) (r : Fin 256) (d : Fin 2816) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) xo18 xo19 xo20 (ix2 r d)
      = lift2 (φ := .bf16) (acts P X Y) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The gradients in x2. -/
theorem dx2b_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : ¬cond0_0 i) (hc1 : cond0_1 i) (hc2 : ¬cond0_2 i) (hc3 : cond0_3 i) (hc4 : ¬cond0_4 i) (hc5 : cond0_5 i)
    (P : Par) (X Y T : Mat 256 1024) (xo18 : FVec Ideal S8x128 .f32) (xo19 xo20 : FVec Ideal S8x1024 .f32) (r : Fin 256) (d : Fin 1024) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) xo18 xo19 xo20 (ix2 r d)
      = lift2 (φ := .bf16) (dx2s P X Y T) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The gradients in the gate. -/
theorem dgt_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : ¬cond0_0 i) (hc1 : cond0_1 i) (hc2 : ¬cond0_2 i) (hc3 : cond0_3 i) (hc4 : ¬cond0_4 i) (hc5 : cond0_5 i)
    (P : Par) (X Y T : Mat 256 1024) (xo18 : FVec Ideal S8x128 .f32) (xo19 xo20 : FVec Ideal S8x1024 .f32) (r : Fin 256) (d : Fin 2816) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) xo18 xo19 xo20 (ix2 r d)
      = lift2 (φ := .bf16) (dgates P X Y T) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The gradients in the up projection. -/
theorem dup_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : ¬cond0_0 i) (hc1 : cond0_1 i) (hc2 : ¬cond0_2 i) (hc3 : cond0_3 i) (hc4 : ¬cond0_4 i) (hc5 : cond0_5 i)
    (P : Par) (X Y T : Mat 256 1024) (xo18 : FVec Ideal S8x128 .f32) (xo19 xo20 : FVec Ideal S8x1024 .f32) (r : Fin 256) (d : Fin 2816) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) xo18 xo19 xo20 (ix2 r d)
      = lift2 (φ := .bf16) (dups P X Y T) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The gradients in x. -/
theorem dx1b_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : ¬cond0_0 i) (hc1 : cond0_1 i) (hc2 : ¬cond0_2 i) (hc3 : cond0_3 i) (hc4 : ¬cond0_4 i) (hc5 : cond0_5 i)
    (P : Par) (X Y T : Mat 256 1024) (xo18 : FVec Ideal S8x128 .f32) (xo19 xo20 : FVec Ideal S8x1024 .f32) (r : Fin 256) (d : Fin 1024) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) xo18 xo19 xo20 (ix2 r d)
      = lift2 (φ := .bf16) (dxs P X Y T) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141,
    k0_pay142, k0_pay143, k0_pay144, k0_pay145, k0_pay146, k0_pay147,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The gradients in x. -/
theorem dx1_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : ¬cond0_0 i) (hc1 : cond0_1 i) (hc2 : ¬cond0_2 i) (hc3 : cond0_3 i) (hc4 : ¬cond0_4 i) (hc5 : cond0_5 i)
    (P : Par) (X Y T : Mat 256 1024) (xo18 : FVec Ideal S8x128 .f32) (xo19 xo20 : FVec Ideal S8x1024 .f32) (r : Fin 256) (d : Fin 1024) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) xo18 xo19 xo20 (ix2 r d)
      = lift2 (φ := .f32) (dxs P X Y T) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141,
    k0_pay142, k0_pay143, k0_pay144, k0_pay145, k0_pay146, k0_pay147,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The gradients in y, its first half. -/
theorem dya_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : ¬cond0_0 i) (hc1 : cond0_1 i) (hc2 : ¬cond0_2 i) (hc3 : cond0_3 i) (hc4 : ¬cond0_4 i) (hc5 : cond0_5 i)
    (P : Par) (X Y T : Mat 256 1024) (xo18 : FVec Ideal S8x128 .f32) (xo19 xo20 : FVec Ideal S8x1024 .f32) (r : Fin 256) (d : Fin 512) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) xo18 xo19 xo20 (ix2 r d)
      = lift2 (φ := .f32) (colsAt 0 (dys P X Y T)) (ix2 r d) := by
  frame_out
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The gradients in y, its second half. -/
theorem dyb_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : ¬cond0_0 i) (hc1 : cond0_1 i) (hc2 : ¬cond0_2 i) (hc3 : cond0_3 i) (hc4 : ¬cond0_4 i) (hc5 : cond0_5 i)
    (P : Par) (X Y T : Mat 256 1024) (xo18 : FVec Ideal S8x128 .f32) (xo19 xo20 : FVec Ideal S8x1024 .f32) (r : Fin 256) (d : Fin 512) :
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) xo18 xo19 xo20 (ix2 r d)
      = lift2 (φ := .f32) (colsAt 512 (dys P X Y T)) (ix2 r d) := by
  frame_out
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]

/-- The losses, added up by the rest of the token by 8. -/
theorem loss_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : ¬cond0_0 i) (hc1 : cond0_1 i) (hc2 : ¬cond0_2 i) (hc3 : cond0_3 i) (hc4 : ¬cond0_4 i) (hc5 : cond0_5 i)
    (P : Par) (X Y T : Mat 256 1024) (xo18 : FVec Ideal S8x128 .f32) (xo19 xo20 : FVec Ideal S8x1024 .f32) (r : Fin 8) (d : Fin 128) :
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) xo18 xo19 xo20 (ix2 r d)
      = xo18 (ix2 r d) + lift2 (φ := .f32) (alongRows (mul2 (mul2 (const2 (1 / 2)) (col (rowSum (fold8 (mul2 (diffs P X Y T) (diffs P X Y T)))))) (const2 (1 / 1024)))) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]
  rfl

/-- The final gain's gradient, added up by the rest of the token by 8. -/
theorem dgf_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : ¬cond0_0 i) (hc1 : cond0_1 i) (hc2 : ¬cond0_2 i) (hc3 : cond0_3 i) (hc4 : ¬cond0_4 i) (hc5 : cond0_5 i)
    (P : Par) (X Y T : Mat 256 1024) (xo18 : FVec Ideal S8x128 .f32) (xo19 xo20 : FVec Ideal S8x1024 .f32) (r : Fin 8) (d : Fin 1024) :
    out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) xo18 xo19 xo20 (ix2 r d)
      = xo19 (ix2 r d) + lift2 (φ := .f32) (fold8 (dgfs P X Y T)) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]
  rfl

/-- The block gain's gradient, added up by the rest of the token by 8. -/
theorem dg2_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S256x2816 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S8x128 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S256x2816 .bf16) (harg22 : arg22.IsWhole) (arg23 : Memref sig .tc .vmem S256x2816 .bf16) (harg23 : arg23.IsWhole)
    (hc0 : ¬cond0_0 i) (hc1 : cond0_1 i) (hc2 : ¬cond0_2 i) (hc3 : cond0_3 i) (hc4 : ¬cond0_4 i) (hc5 : cond0_5 i)
    (P : Par) (X Y T : Mat 256 1024) (xo18 : FVec Ideal S8x128 .f32) (xo19 xo20 : FVec Ideal S8x1024 .f32) (r : Fin 8) (d : Fin 1024) :
    out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 hc4 hc5
      (lift2 (φ := .f32) X) (lift2 (φ := .bf16) Y) (lift2 (φ := .bf16) (wgT P)) (lift2 (φ := .bf16) (wuT P)) (lift2 (φ := .bf16) P.wd) (lift2 (φ := .bf16) P.wo) (lift2 (φ := .f32) (row P.g2)) (lift2 (φ := .f32) (row P.gf)) (lift2 (φ := .f32) T) xo18 xo19 xo20 (ix2 r d)
      = xo20 (ix2 r d) + lift2 (φ := .f32) (fold8 (dg2s P X Y T)) (ix2 r d) := by
  frame_out
  simp only [k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141,
    k0_pay142, k0_pay143, k0_pay144, k0_pay145, k0_pay146, k0_pay147,
    shapeCast_self, ld_rows, mulf_l, addf_l, subf_l, exp_l, truncf_l, extf_l, zero_l, one_l, k1024_l, eps_l, half_l, inv1024_l,
    over1024_l, sg_l, rstds_l, rowSum_l, rowSum8_l, fold8_l, alongRows_l, alongRows8_l, everyRow_l, dot1024_l, dotT1024_l,
    dotT256_l, dot2816_l, half0_l, half1_l, canon_cols, readCov_whole, readCov_cols, dotNT_rows, mul2_cols, sg2_cols, exp2_cols, sg_cols_l,
    add2_const_cols, sub2_const_cols, xns_fold, rmss_fold, rmsBacks_fold, x1s_fold, hs_fold, gates_fold, ups_fold, acts_fold,
    x2s_fold, diffs_fold, douts_fold, dx2s_fold, dgfs_fold, dacts_fold, dgates_fold, dups_fold, dhs_fold, dg2s_fold, dxs_fold,
    dys_fold]
  rfl

end Cert.KernelIdeal.Body

end
-- ==== Proof.Outs.lean ====
/- What the kernel leaves in its output windows after each grid point: in the tiled windows the quantities of the block's tokens, in
   the accumulated ones the sum over the blocks so far. -/
module

public import proofs.«01_k».proof.Proof.Blocks
public import proofs.«01_k».proof.Proof.BodyA
public import proofs.«01_k».proof.Proof.BodyB

@[expose] public section

set_option maxRecDepth 16384

noncomputable section

namespace Cert.KernelIdeal.Arr

open Idealize.ShloMosaic Idealize.ShloMosaic.TcCoe Idealize.SL.Sem
open Cert.KernelIdeal Cert.KernelIdeal.Gen Ffn

variable {m : (ℓ : Loc nD τ sig) → Buf (Elt Ideal) ℓ} {c : Dev nD} {P : Par} {X Y T : Mat 2048 1024}
variable (H : Args m c P X Y T) (t : Fin cfg0.N)
include H

/-- After point t: the normed inputs. -/
theorem h2_at (r : Fin 256) (d : Fin 1024) :
    (outsAt0 m c t.val t.isLt).1 (ix2 r d) = lift2 (φ := .bf16) (hs P (rows X t) (rows Y t)) (ix2 r d) := by
  by_cases h : t.val % 8 = 0
  · have h' : ¬1 ≤ t.val := by have := lt8 t; omega
    rw [outsAt0_A m c t h h' h h' h h']
    dsimp only
    rw [b0 H t, b1 H t, b2 H t, b3 H t, b4 H t, b5 H t, b6 H t, b7 H t, b8 H t]
    apply Body.h2_A
  · have h' : 1 ≤ t.val := by omega
    rw [outsAt0_B m c t h h' h h' h h']
    dsimp only
    rw [b0 H t, b1 H t, b2 H t, b3 H t, b4 H t, b5 H t, b6 H t, b7 H t, b8 H t]
    apply Body.h2_B

/-- After point t: the activations. -/
theorem act_at (r : Fin 256) (d : Fin 2816) :
    (outsAt0 m c t.val t.isLt).2.1 (ix2 r d) = lift2 (φ := .bf16) (acts P (rows X t) (rows Y t)) (ix2 r d) := by
  by_cases h : t.val % 8 = 0
  · have h' : ¬1 ≤ t.val := by have := lt8 t; omega
    rw [outsAt0_A m c t h h' h h' h h']
    dsimp only
    rw [b0 H t, b1 H t, b2 H t, b3 H t, b4 H t, b5 H t, b6 H t, b7 H t, b8 H t]
    apply Body.act_A
  · have h' : 1 ≤ t.val := by omega
    rw [outsAt0_B m c t h h' h h' h h']
    dsimp only
    rw [b0 H t, b1 H t, b2 H t, b3 H t, b4 H t, b5 H t, b6 H t, b7 H t, b8 H t]
    apply Body.act_B

/-- After point t: the gradient at the output of the feed-forward. -/
theorem dx2b_at (r : Fin 256) (d : Fin 1024) :
    (outsAt0 m c t.val t.isLt).2.2.1 (ix2 r d) = lift2 (φ := .bf16) (dx2s P (rows X t) (rows Y t) (rows T t)) (ix2 r d) := by
  by_cases h : t.val % 8 = 0
  · have h' : ¬1 ≤ t.val := by have := lt8 t; omega
    rw [outsAt0_A m c t h h' h h' h h']
    dsimp only
    rw [b0 H t, b1 H t, b2 H t, b3 H t, b4 H t, b5 H t, b6 H t, b7 H t, b8 H t]
    apply Body.dx2b_A
  · have h' : 1 ≤ t.val := by omega
    rw [outsAt0_B m c t h h' h h' h h']
    dsimp only
    rw [b0 H t, b1 H t, b2 H t, b3 H t, b4 H t, b5 H t, b6 H t, b7 H t, b8 H t]
    apply Body.dx2b_B

/-- After point t: the gradient at the gate. -/
theorem dgt_at (r : Fin 256) (d : Fin 2816) :
    (outsAt0 m c t.val t.isLt).2.2.2.1 (ix2 r d) = lift2 (φ := .bf16) (dgates P (rows X t) (rows Y t) (rows T t)) (ix2 r d) := by
  by_cases h : t.val % 8 = 0
  · have h' : ¬1 ≤ t.val := by have := lt8 t; omega
    rw [outsAt0_A m c t h h' h h' h h']
    dsimp only
    rw [b0 H t, b1 H t, b2 H t, b3 H t, b4 H t, b5 H t, b6 H t, b7 H t, b8 H t]
    apply Body.dgt_A
  · have h' : 1 ≤ t.val := by omega
    rw [outsAt0_B m c t h h' h h' h h']
    dsimp only
    rw [b0 H t, b1 H t, b2 H t, b3 H t, b4 H t, b5 H t, b6 H t, b7 H t, b8 H t]
    apply Body.dgt_B

/-- After point t: the gradient at the up product. -/
theorem dup_at (r : Fin 256) (d : Fin 2816) :
    (outsAt0 m c t.val t.isLt).2.2.2.2.1 (ix2 r d) = lift2 (φ := .bf16) (dups P (rows X t) (rows Y t) (rows T t)) (ix2 r d) := by
  by_cases h : t.val % 8 = 0
  · have h' : ¬1 ≤ t.val := by have := lt8 t; omega
    rw [outsAt0_A m c t h h' h h' h h']
    dsimp only
    rw [b0 H t, b1 H t, b2 H t, b3 H t, b4 H t, b5 H t, b6 H t, b7 H t, b8 H t]
    apply Body.dup_A
  · have h' : 1 ≤ t.val := by omega
    rw [outsAt0_B m c t h h' h h' h h']
    dsimp only
    rw [b0 H t, b1 H t, b2 H t, b3 H t, b4 H t, b5 H t, b6 H t, b7 H t, b8 H t]
    apply Body.dup_B

/-- After point t: the gradient at the residual, rounded. -/
theorem dx1b_at (r : Fin 256) (d : Fin 1024) :
    (outsAt0 m c t.val t.isLt).2.2.2.2.2.1 (ix2 r d) = lift2 (φ := .bf16) (dxs P (rows X t) (rows Y t) (rows T t)) (ix2 r d) := by
  by_cases h : t.val % 8 = 0
  · have h' : ¬1 ≤ t.val := by have := lt8 t; omega
    rw [outsAt0_A m c t h h' h h' h h']
    dsimp only
    rw [b0 H t, b1 H t, b2 H t, b3 H t, b4 H t, b5 H t, b6 H t, b7 H t, b8 H t]
    apply Body.dx1b_A
  · have h' : 1 ≤ t.val := by omega
    rw [outsAt0_B m c t h h' h h' h h']
    dsimp only
    rw [b0 H t, b1 H t, b2 H t, b3 H t, b4 H t, b5 H t, b6 H t, b7 H t, b8 H t]
    apply Body.dx1b_B

/-- After point t: the gradient at the residual. -/
theorem dx1_at (r : Fin 256) (d : Fin 1024) :
    (outsAt0 m c t.val t.isLt).2.2.2.2.2.2.1 (ix2 r d) = lift2 (φ := .f32) (dxs P (rows X t) (rows Y t) (rows T t)) (ix2 r d) := by
  by_cases h : t.val % 8 = 0
  · have h' : ¬1 ≤ t.val := by have := lt8 t; omega
    rw [outsAt0_A m c t h h' h h' h h']
    dsimp only
    rw [b0 H t, b1 H t, b2 H t, b3 H t, b4 H t, b5 H t, b6 H t, b7 H t, b8 H t]
    apply Body.dx1_A
  · have h' : 1 ≤ t.val := by omega
    rw [outsAt0_B m c t h h' h h' h h']
    dsimp only
    rw [b0 H t, b1 H t, b2 H t, b3 H t, b4 H t, b5 H t, b6 H t, b7 H t, b8 H t]
    apply Body.dx1_B

/-- After point t: the gradient at the first half of the mixer outputs. -/
theorem dya_at (r : Fin 256) (d : Fin 512) :
    (outsAt0 m c t.val t.isLt).2.2.2.2.2.2.2.1 (ix2 r d) = lift2 (φ := .f32) (colsAt 0 (dys P (rows X t) (rows Y t) (rows T t))) (ix2 r d) := by
  by_cases h : t.val % 8 = 0
  · have h' : ¬1 ≤ t.val := by have := lt8 t; omega
    rw [outsAt0_A m c t h h' h h' h h']
    dsimp only
    rw [b0 H t, b1 H t, b2 H t, b3 H t, b4 H t, b5 H t, b6 H t, b7 H t, b8 H t]
    apply Body.dya_A
  · have h' : 1 ≤ t.val := by omega
    rw [outsAt0_B m c t h h' h h' h h']
    dsimp only
    rw [b0 H t, b1 H t, b2 H t, b3 H t, b4 H t, b5 H t, b6 H t, b7 H t, b8 H t]
    apply Body.dya_B

/-- After point t: the gradient at the second half of the mixer outputs. -/
theorem dyb_at (r : Fin 256) (d : Fin 512) :
    (outsAt0 m c t.val t.isLt).2.2.2.2.2.2.2.2.1 (ix2 r d) = lift2 (φ := .f32) (colsAt 512 (dys P (rows X t) (rows Y t) (rows T t))) (ix2 r d) := by
  by_cases h : t.val % 8 = 0
  · have h' : ¬1 ≤ t.val := by have := lt8 t; omega
    rw [outsAt0_A m c t h h' h h' h h']
    dsimp only
    rw [b0 H t, b1 H t, b2 H t, b3 H t, b4 H t, b5 H t, b6 H t, b7 H t, b8 H t]
    apply Body.dyb_A
  · have h' : 1 ≤ t.val := by omega
    rw [outsAt0_B m c t h h' h h' h h']
    dsimp only
    rw [b0 H t, b1 H t, b2 H t, b3 H t, b4 H t, b5 H t, b6 H t, b7 H t, b8 H t]
    apply Body.dyb_B

/-- At the first point: the loss, over the first block. -/
theorem loss_first (h : t.val % 8 = 0) (r : Fin 8) (d : Fin 128) :
    (outsAt0 m c t.val t.isLt).2.2.2.2.2.2.2.2.2.1 (ix2 r d) = lift2 (φ := .f32) (alongRows (mul2 (mul2 (const2 (1/2)) (col (rowSum (fold8 (mul2 (diffs P (rows X t) (rows Y t) (rows T t)) (diffs P (rows X t) (rows Y t) (rows T t))))))) (const2 (1/1024)))) (ix2 r d) := by
  have h' : ¬1 ≤ t.val := by have := lt8 t; omega
  rw [outsAt0_A m c t h h' h h' h h']
  dsimp only
  rw [b0 H t, b1 H t, b2 H t, b3 H t, b4 H t, b5 H t, b6 H t, b7 H t, b8 H t]
  apply Body.loss_A

/-- At a later point: the loss, the block's share added to what was there. -/
theorem loss_next (h : ¬t.val % 8 = 0) (r : Fin 8) (d : Fin 128) :
    (outsAt0 m c t.val t.isLt).2.2.2.2.2.2.2.2.2.1 (ix2 r d)
      = (outsAt0 m c (t.val - 1) (Nat.lt_of_le_of_lt (Nat.sub_le _ _) t.isLt)).2.2.2.2.2.2.2.2.2.1 (ix2 r d)
        + lift2 (φ := .f32) (alongRows (mul2 (mul2 (const2 (1/2)) (col (rowSum (fold8 (mul2 (diffs P (rows X t) (rows Y t) (rows T t)) (diffs P (rows X t) (rows Y t) (rows T t))))))) (const2 (1/1024)))) (ix2 r d) := by
  have h' : 1 ≤ t.val := by omega
  rw [outsAt0_B m c t h h' h h' h h']
  dsimp only
  rw [b0 H t, b1 H t, b2 H t, b3 H t, b4 H t, b5 H t, b6 H t, b7 H t, b8 H t]
  apply Body.loss_B

/-- At the first point: the gradient of the last gain, over the first block. -/
theorem dgf_first (h : t.val % 8 = 0) (r : Fin 8) (d : Fin 1024) :
    (outsAt0 m c t.val t.isLt).2.2.2.2.2.2.2.2.2.2.1 (ix2 r d) = lift2 (φ := .f32) (fold8 (dgfs P (rows X t) (rows Y t) (rows T t))) (ix2 r d) := by
  have h' : ¬1 ≤ t.val := by have := lt8 t; omega
  rw [outsAt0_A m c t h h' h h' h h']
  dsimp only
  rw [b0 H t, b1 H t, b2 H t, b3 H t, b4 H t, b5 H t, b6 H t, b7 H t, b8 H t]
  apply Body.dgf_A

/-- At a later point: the gradient of the last gain, the block's share added to what was there. -/
theorem dgf_next (h : ¬t.val % 8 = 0) (r : Fin 8) (d : Fin 1024) :
    (outsAt0 m c t.val t.isLt).2.2.2.2.2.2.2.2.2.2.1 (ix2 r d)
      = (outsAt0 m c (t.val - 1) (Nat.lt_of_le_of_lt (Nat.sub_le _ _) t.isLt)).2.2.2.2.2.2.2.2.2.2.1 (ix2 r d)
        + lift2 (φ := .f32) (fold8 (dgfs P (rows X t) (rows Y t) (rows T t))) (ix2 r d) := by
  have h' : 1 ≤ t.val := by omega
  rw [outsAt0_B m c t h h' h h' h h']
  dsimp only
  rw [b0 H t, b1 H t, b2 H t, b3 H t, b4 H t, b5 H t, b6 H t, b7 H t, b8 H t]
  apply Body.dgf_B

/-- At the first point: the gradient of the gain before the feed-forward, over the first block. -/
theorem dg2_first (h : t.val % 8 = 0) (r : Fin 8) (d : Fin 1024) :
    (outsAt0 m c t.val t.isLt).2.2.2.2.2.2.2.2.2.2.2 (ix2 r d) = lift2 (φ := .f32) (fold8 (dg2s P (rows X t) (rows Y t) (rows T t))) (ix2 r d) := by
  have h' : ¬1 ≤ t.val := by have := lt8 t; omega
  rw [outsAt0_A m c t h h' h h' h h']
  dsimp only
  rw [b0 H t, b1 H t, b2 H t, b3 H t, b4 H t, b5 H t, b6 H t, b7 H t, b8 H t]
  apply Body.dg2_A

/-- At a later point: the gradient of the gain before the feed-forward, the block's share added to what was there. -/
theorem dg2_next (h : ¬t.val % 8 = 0) (r : Fin 8) (d : Fin 1024) :
    (outsAt0 m c t.val t.isLt).2.2.2.2.2.2.2.2.2.2.2 (ix2 r d)
      = (outsAt0 m c (t.val - 1) (Nat.lt_of_le_of_lt (Nat.sub_le _ _) t.isLt)).2.2.2.2.2.2.2.2.2.2.2 (ix2 r d)
        + lift2 (φ := .f32) (fold8 (dg2s P (rows X t) (rows Y t) (rows T t))) (ix2 r d) := by
  have h' : 1 ≤ t.val := by omega
  rw [outsAt0_B m c t h h' h h' h h']
  dsimp only
  rw [b0 H t, b1 H t, b2 H t, b3 H t, b4 H t, b5 H t, b6 H t, b7 H t, b8 H t]
  apply Body.dg2_B

end Cert.KernelIdeal.Arr
-- ==== Proof.Arrays.lean ====
/- The arrays that the kernel leaves, for arguments that are arrays of real numbers: each tiled result holds the quantity of Spec.lean
   for every token, each accumulated one its sum over the eight blocks. -/
module

public import proofs.«01_k».proof.Proof.Outs

@[expose] public section

set_option maxRecDepth 16384

noncomputable section

namespace Cert.KernelIdeal.Arr

open Idealize.ShloMosaic Idealize.ShloMosaic.TcCoe Idealize.SL.Sem
open Cert.KernelIdeal Cert.KernelIdeal.Gen Ffn

variable {m : (ℓ : Loc nD τ sig) → Buf (Elt Ideal) ℓ} {c : Dev nD} {P : Par} {X Y T : Mat 2048 1024}
variable (H : Args m c P X Y T)

include H in
/-- The result that holds the normed inputs. -/
theorem h2_arr : (dats m 0 c).arrAt 9 cfg0.N = lift2 (φ := .bf16) (hs P X Y) := by
  refine (dats m 0 c).arrAt_eq_of_covers 9 _ (by decide +kernel) fun t _ y => ?_
  blk_simp
  rw [after0_9]
  obtain ⟨r, d, rfl⟩ : ∃ (r : Fin 256) (d : Fin 1024), y = ix2 r d := ⟨y 0, y 1, eq_ix2 y⟩
  refine (h2_at H t r d).trans ?_
  refine Eq.trans (b := lift2 (φ := .bf16) (hs P X Y) (ix2 (tok t r) d)) rfl ?_
  blk_ext [idx t, tok]

include H in
/-- The result that holds the activations. -/
theorem act_arr : (dats m 0 c).arrAt 10 cfg0.N = lift2 (φ := .bf16) (acts P X Y) := by
  refine (dats m 0 c).arrAt_eq_of_covers 10 _ (by decide +kernel) fun t _ y => ?_
  blk_simp
  rw [after0_10]
  obtain ⟨r, d, rfl⟩ : ∃ (r : Fin 256) (d : Fin 2816), y = ix2 r d := ⟨y 0, y 1, eq_ix2 y⟩
  refine (act_at H t r d).trans ?_
  refine Eq.trans (b := lift2 (φ := .bf16) (acts P X Y) (ix2 (tok t r) d)) rfl ?_
  blk_ext [idx t, tok]

include H in
/-- The result that holds the gradient at the output of the feed-forward. -/
theorem dx2b_arr : (dats m 0 c).arrAt 11 cfg0.N = lift2 (φ := .bf16) (dx2s P X Y T) := by
  refine (dats m 0 c).arrAt_eq_of_covers 11 _ (by decide +kernel) fun t _ y => ?_
  blk_simp
  rw [after0_11]
  obtain ⟨r, d, rfl⟩ : ∃ (r : Fin 256) (d : Fin 1024), y = ix2 r d := ⟨y 0, y 1, eq_ix2 y⟩
  refine (dx2b_at H t r d).trans ?_
  refine Eq.trans (b := lift2 (φ := .bf16) (dx2s P X Y T) (ix2 (tok t r) d)) rfl ?_
  blk_ext [idx t, tok]

include H in
/-- The result that holds the gradient at the gate. -/
theorem dgt_arr : (dats m 0 c).arrAt 12 cfg0.N = lift2 (φ := .bf16) (dgates P X Y T) := by
  refine (dats m 0 c).arrAt_eq_of_covers 12 _ (by decide +kernel) fun t _ y => ?_
  blk_simp
  rw [after0_12]
  obtain ⟨r, d, rfl⟩ : ∃ (r : Fin 256) (d : Fin 2816), y = ix2 r d := ⟨y 0, y 1, eq_ix2 y⟩
  refine (dgt_at H t r d).trans ?_
  refine Eq.trans (b := lift2 (φ := .bf16) (dgates P X Y T) (ix2 (tok t r) d)) rfl ?_
  blk_ext [idx t, tok]

include H in
/-- The result that holds the gradient at the up product. -/
theorem dup_arr : (dats m 0 c).arrAt 13 cfg0.N = lift2 (φ := .bf16) (dups P X Y T) := by
  refine (dats m 0 c).arrAt_eq_of_covers 13 _ (by decide +kernel) fun t _ y => ?_
  blk_simp
  rw [after0_13]
  obtain ⟨r, d, rfl⟩ : ∃ (r : Fin 256) (d : Fin 2816), y = ix2 r d := ⟨y 0, y 1, eq_ix2 y⟩
  refine (dup_at H t r d).trans ?_
  refine Eq.trans (b := lift2 (φ := .bf16) (dups P X Y T) (ix2 (tok t r) d)) rfl ?_
  blk_ext [idx t, tok]

include H in
/-- The result that holds the gradient at the residual, rounded. -/
theorem dx1b_arr : (dats m 0 c).arrAt 14 cfg0.N = lift2 (φ := .bf16) (dxs P X Y T) := by
  refine (dats m 0 c).arrAt_eq_of_covers 14 _ (by decide +kernel) fun t _ y => ?_
  blk_simp
  rw [after0_14]
  obtain ⟨r, d, rfl⟩ : ∃ (r : Fin 256) (d : Fin 1024), y = ix2 r d := ⟨y 0, y 1, eq_ix2 y⟩
  refine (dx1b_at H t r d).trans ?_
  refine Eq.trans (b := lift2 (φ := .bf16) (dxs P X Y T) (ix2 (tok t r) d)) rfl ?_
  blk_ext [idx t, tok]

include H in
/-- The result that holds the gradient at the residual. -/
theorem dx1_arr : (dats m 0 c).arrAt 15 cfg0.N = lift2 (φ := .f32) (dxs P X Y T) := by
  refine (dats m 0 c).arrAt_eq_of_covers 15 _ (by decide +kernel) fun t _ y => ?_
  blk_simp
  rw [after0_15]
  obtain ⟨r, d, rfl⟩ : ∃ (r : Fin 256) (d : Fin 1024), y = ix2 r d := ⟨y 0, y 1, eq_ix2 y⟩
  refine (dx1_at H t r d).trans ?_
  refine Eq.trans (b := lift2 (φ := .f32) (dxs P X Y T) (ix2 (tok t r) d)) rfl ?_
  blk_ext [idx t, tok]

include H in
/-- The result that holds the gradient at the first half of the mixer outputs. -/
theorem dya_arr : (dats m 0 c).arrAt 16 cfg0.N = lift2 (φ := .f32) (colsAt 0 (dys P X Y T)) := by
  refine (dats m 0 c).arrAt_eq_of_covers 16 _ (by decide +kernel) fun t _ y => ?_
  blk_simp
  rw [after0_16]
  obtain ⟨r, d, rfl⟩ : ∃ (r : Fin 256) (d : Fin 512), y = ix2 r d := ⟨y 0, y 1, eq_ix2 y⟩
  refine (dya_at H t r d).trans ?_
  refine Eq.trans (b := lift2 (φ := .f32) (colsAt 0 (dys P X Y T)) (ix2 (tok t r) d)) rfl ?_
  blk_ext [idx t, tok]

include H in
/-- The result that holds the gradient at the second half of the mixer outputs. -/
theorem dyb_arr : (dats m 0 c).arrAt 17 cfg0.N = lift2 (φ := .f32) (colsAt 512 (dys P X Y T)) := by
  refine (dats m 0 c).arrAt_eq_of_covers 17 _ (by decide +kernel) fun t _ y => ?_
  blk_simp
  rw [after0_17]
  obtain ⟨r, d, rfl⟩ : ∃ (r : Fin 256) (d : Fin 512), y = ix2 r d := ⟨y 0, y 1, eq_ix2 y⟩
  refine (dyb_at H t r d).trans ?_
  refine Eq.trans (b := lift2 (φ := .f32) (colsAt 512 (dys P X Y T)) (ix2 (tok t r) d)) rfl ?_
  blk_ext [idx t, tok]

/-- The grid point of number k. -/
def pt (k : Fin 8) : Fin cfg0.N := ⟨k.val, lt_of_lt_of_eq k.isLt N_0.symm⟩

include H in
/-- After point n: the loss, summed over the blocks 0 … n. -/
theorem loss_upto (r : Fin 8) (d : Fin 128) : ∀ (n : ℕ) (h : n < cfg0.N), (outsAt0 m c n h).2.2.2.2.2.2.2.2.2.1 (ix2 r d)
    = ((∑ k : Fin (n + 1), (fun k : Fin 8 => (alongRows (mul2 (mul2 (const2 (1/2)) (col (rowSum (fold8 (mul2 (diffs P (rows X (pt k)) (rows Y (pt k)) (rows T (pt k))) (diffs P (rows X (pt k)) (rows Y (pt k)) (rows T (pt k)))))))) (const2 (1/1024)))) r d)
        ⟨k.val, lt_of_lt_of_le k.isLt (Nat.succ_le_of_lt (lt_of_lt_of_eq h N_0))⟩ : ℝ) : EReal)
  | 0, h => by
    rw [Fin.sum_univ_one]
    exact loss_first H ⟨0, h⟩ (Nat.zero_mod 8) r d
  | n + 1, h => by
    have h8 : n + 1 < 8 := lt_of_lt_of_eq h N_0
    refine (loss_next H ⟨n + 1, h⟩ (by show ¬(n + 1) % 8 = 0; omega) r d).trans ?_
    rw [Fin.sum_univ_castSucc, EReal.coe_add]
    exact congrArg₂ (· + ·) (loss_upto r d n (Nat.lt_of_succ_lt h)) rfl

include H in
/-- The result that holds the loss. -/
theorem loss_arr : (dats m 0 c).arrAt 18 cfg0.N
    = lift2 (φ := .f32) (fun r d => ∑ k : Fin 8, (alongRows (mul2 (mul2 (const2 (1/2)) (col (rowSum (fold8 (mul2 (diffs P (rows X (pt k)) (rows Y (pt k)) (rows T (pt k))) (diffs P (rows X (pt k)) (rows Y (pt k)) (rows T (pt k)))))))) (const2 (1/1024)))) r d) := by
  refine (dats m 0 c).arrAt_eq_of_after_last 18 t0_7 (by decide +kernel) _ fun y => ?_
  blk_simp
  rw [after0_18]
  obtain ⟨r, d, rfl⟩ : ∃ (r : Fin 8) (d : Fin 128), y = ix2 r d := ⟨y 0, y 1, eq_ix2 y⟩
  exact loss_upto H r d 7 t0_7.isLt

include H in
/-- After point n: the gradient of the last gain, summed over the blocks 0 … n. -/
theorem dgf_upto (r : Fin 8) (d : Fin 1024) : ∀ (n : ℕ) (h : n < cfg0.N), (outsAt0 m c n h).2.2.2.2.2.2.2.2.2.2.1 (ix2 r d)
    = ((∑ k : Fin (n + 1), (fun k : Fin 8 => (fold8 (dgfs P (rows X (pt k)) (rows Y (pt k)) (rows T (pt k)))) r d)
        ⟨k.val, lt_of_lt_of_le k.isLt (Nat.succ_le_of_lt (lt_of_lt_of_eq h N_0))⟩ : ℝ) : EReal)
  | 0, h => by
    rw [Fin.sum_univ_one]
    exact dgf_first H ⟨0, h⟩ (Nat.zero_mod 8) r d
  | n + 1, h => by
    have h8 : n + 1 < 8 := lt_of_lt_of_eq h N_0
    refine (dgf_next H ⟨n + 1, h⟩ (by show ¬(n + 1) % 8 = 0; omega) r d).trans ?_
    rw [Fin.sum_univ_castSucc, EReal.coe_add]
    exact congrArg₂ (· + ·) (dgf_upto r d n (Nat.lt_of_succ_lt h)) rfl

include H in
/-- The result that holds the gradient of the last gain. -/
theorem dgf_arr : (dats m 0 c).arrAt 19 cfg0.N
    = lift2 (φ := .f32) (fun r d => ∑ k : Fin 8, (fold8 (dgfs P (rows X (pt k)) (rows Y (pt k)) (rows T (pt k)))) r d) := by
  refine (dats m 0 c).arrAt_eq_of_after_last 19 t0_7 (by decide +kernel) _ fun y => ?_
  blk_simp
  rw [after0_19]
  obtain ⟨r, d, rfl⟩ : ∃ (r : Fin 8) (d : Fin 1024), y = ix2 r d := ⟨y 0, y 1, eq_ix2 y⟩
  exact dgf_upto H r d 7 t0_7.isLt

include H in
/-- After point n: the gradient of the gain before the feed-forward, summed over the blocks 0 … n. -/
theorem dg2_upto (r : Fin 8) (d : Fin 1024) : ∀ (n : ℕ) (h : n < cfg0.N), (outsAt0 m c n h).2.2.2.2.2.2.2.2.2.2.2 (ix2 r d)
    = ((∑ k : Fin (n + 1), (fun k : Fin 8 => (fold8 (dg2s P (rows X (pt k)) (rows Y (pt k)) (rows T (pt k)))) r d)
        ⟨k.val, lt_of_lt_of_le k.isLt (Nat.succ_le_of_lt (lt_of_lt_of_eq h N_0))⟩ : ℝ) : EReal)
  | 0, h => by
    rw [Fin.sum_univ_one]
    exact dg2_first H ⟨0, h⟩ (Nat.zero_mod 8) r d
  | n + 1, h => by
    have h8 : n + 1 < 8 := lt_of_lt_of_eq h N_0
    refine (dg2_next H ⟨n + 1, h⟩ (by show ¬(n + 1) % 8 = 0; omega) r d).trans ?_
    rw [Fin.sum_univ_castSucc, EReal.coe_add]
    exact congrArg₂ (· + ·) (dg2_upto r d n (Nat.lt_of_succ_lt h)) rfl

include H in
/-- The result that holds the gradient of the gain before the feed-forward. -/
theorem dg2_arr : (dats m 0 c).arrAt 20 cfg0.N
    = lift2 (φ := .f32) (fun r d => ∑ k : Fin 8, (fold8 (dg2s P (rows X (pt k)) (rows Y (pt k)) (rows T (pt k)))) r d) := by
  refine (dats m 0 c).arrAt_eq_of_after_last 20 t0_7 (by decide +kernel) _ fun y => ?_
  blk_simp
  rw [after0_20]
  obtain ⟨r, d, rfl⟩ : ∃ (r : Fin 8) (d : Fin 1024), y = ix2 r d := ⟨y 0, y 1, eq_ix2 y⟩
  exact dg2_upto H r d 7 t0_7.isLt

end Cert.KernelIdeal.Arr
-- ==== Proof.RefArr.lean ====
/- The reference's results as arrays of real numbers, in the same words as the kernel's: the sums over all tokens that it takes at once
   are the sums over the kernel's blocks. -/
module

public import proofs.«01_k».proof.Proof.Ref
public import proofs.«01_k».proof.Proof.Arrays

@[expose] public section

set_option maxRecDepth 16384

noncomputable section

namespace Cert.Join

open Idealize.ShloMosaic Idealize.ShloMosaic.TcCoe Idealize.SL.Sem Ffn
open Cert.ReferenceIdeal.Read Cert.ReferenceIdeal.Real
open Cert.KernelIdeal.Arr (rows pt tok)

/-- A sum over the tokens whose numbers leave the rest a by 8 is the sum over the eight blocks of the blocks' sums over such rows. -/
theorem sum_tok (a : Fin 8) (f : Fin 2048 → ℝ) : ∑ s : Fin 256, f ⟨s.val * 8 + a.val, by omega⟩
    = ∑ k : Fin 8, ∑ x : Fin 32, f (tok (pt k) ⟨x.val * 8 + a.val, by omega⟩) := by
  rw [Fin.sum_univ_tiles 8 32 rfl]
  refine Finset.sum_congr rfl fun k _ => Finset.sum_congr rfl fun x _ => congrArg f ?_
  apply Fin.ext
  show (k.val * 32 + x.val) * 8 + a.val = k.val * 256 + (x.val * 8 + a.val)
  omega

/-- The losses of a block's rows, summed: the scaling may come after the sum. -/
theorem loss_block (D : Fin 32 → Fin 1024 → ℝ) : ∑ x : Fin 32, 1 / 2 * (∑ d : Fin 1024, D x d * D x d) * (1 / 1024)
    = 1 / 2 * (∑ d : Fin 1024, ∑ x : Fin 32, D x d * D x d) * (1 / 1024) := by
  rw [Finset.sum_comm, Finset.mul_sum, Finset.sum_mul]

variable {P : Par} {X Y T : Mat 2048 1024} {x0 x1 : FVec Ideal Cert.ReferenceIdeal.S2048x1024 .f32}
  {x2 x3 : FVec Ideal Cert.ReferenceIdeal.S1024x2816 .f32} {x4 : FVec Ideal Cert.ReferenceIdeal.S2816x1024 .f32}
  {x5 : FVec Ideal Cert.ReferenceIdeal.S1024x1024 .f32} {x6 x7 : FVec Ideal Cert.ReferenceIdeal.S1024 .f32}
  {x8 : FVec Ideal Cert.ReferenceIdeal.S2048x1024 .f32}
variable (H : Rep P X Y T x0 x1 x2 x3 x4 x5 x6 x7 x8)
include H

/-- The reference's result number 100. -/
theorem ref_h2 : val_main_v100 (F := Ideal) x0 x1 x5 x6 = lift2 (φ := .bf16) (hs P X Y) := by
  funext i
  obtain ⟨t, d, rfl⟩ : ∃ (t : Fin 2048) (d : Fin 1024), i = ix2 t d := ⟨i 0, i 1, eq_ix2 i⟩
  exact v19 H t d

/-- The reference's result number 101. -/
theorem ref_act : val_main_v101 (F := Ideal) x0 x1 x2 x3 x5 x6 = lift2 (φ := .bf16) (acts P X Y) := by
  funext i
  obtain ⟨t, d, rfl⟩ : ∃ (t : Fin 2048) (d : Fin 2816), i = ix2 t d := ⟨i 0, i 1, eq_ix2 i⟩
  exact v25 H t d

/-- The reference's result number 102. -/
theorem ref_dx2b : val_main_v102 (F := Ideal) x0 x1 x2 x3 x4 x5 x6 x7 x8 = lift2 (φ := .bf16) (dx2s P X Y T) := by
  funext i
  obtain ⟨t, d, rfl⟩ : ∃ (t : Fin 2048) (d : Fin 1024), i = ix2 t d := ⟨i 0, i 1, eq_ix2 i⟩
  exact v74 H t d

/-- The reference's result number 103. -/
theorem ref_dgt : val_main_v103 (F := Ideal) x0 x1 x2 x3 x4 x5 x6 x7 x8 = lift2 (φ := .bf16) (dgates P X Y T) := by
  funext i
  obtain ⟨t, d, rfl⟩ : ∃ (t : Fin 2048) (d : Fin 2816), i = ix2 t d := ⟨i 0, i 1, eq_ix2 i⟩
  exact v78 H t d

/-- The reference's result number 104. -/
theorem ref_dup : val_main_v104 (F := Ideal) x0 x1 x2 x3 x4 x5 x6 x7 x8 = lift2 (φ := .bf16) (dups P X Y T) := by
  funext i
  obtain ⟨t, d, rfl⟩ : ∃ (t : Fin 2048) (d : Fin 2816), i = ix2 t d := ⟨i 0, i 1, eq_ix2 i⟩
  exact v76 H t d

/-- The reference's result number 105. -/
theorem ref_dx1b : val_main_v105 (F := Ideal) x0 x1 x2 x3 x4 x5 x6 x7 x8 = lift2 (φ := .bf16) (dxs P X Y T) := by
  funext i
  obtain ⟨t, d, rfl⟩ : ∃ (t : Fin 2048) (d : Fin 1024), i = ix2 t d := ⟨i 0, i 1, eq_ix2 i⟩
  exact v98 H t d

/-- The reference's result number 98. -/
theorem ref_dx1 : val_main_v98 (F := Ideal) x0 x1 x2 x3 x4 x5 x6 x7 x8 = lift2 (φ := .f32) (dxs P X Y T) := by
  funext i
  obtain ⟨t, d, rfl⟩ : ∃ (t : Fin 2048) (d : Fin 1024), i = ix2 t d := ⟨i 0, i 1, eq_ix2 i⟩
  exact v98 H t d

/-- The reference's result number 106. -/
theorem ref_dya : val_main_v106 (F := Ideal) x0 x1 x2 x3 x4 x5 x6 x7 x8 = lift2 (φ := .f32) (colsAt 0 (dys P X Y T)) := by
  funext i
  obtain ⟨t, d, rfl⟩ : ∃ (t : Fin 2048) (d : Fin 512), i = ix2 t d := ⟨i 0, i 1, eq_ix2 i⟩
  refine (v106 H t d).trans ?_
  refine congrArg (fun k => ((Ffn.dy P (X t) (Y t) (T t) k : ℝ) : EReal)) (Fin.ext ?_)
  show d.val = (0 + d.val) % 1024
  omega

/-- The reference's result number 107. -/
theorem ref_dyb : val_main_v107 (F := Ideal) x0 x1 x2 x3 x4 x5 x6 x7 x8 = lift2 (φ := .f32) (colsAt 512 (dys P X Y T)) := by
  funext i
  obtain ⟨t, d, rfl⟩ : ∃ (t : Fin 2048) (d : Fin 512), i = ix2 t d := ⟨i 0, i 1, eq_ix2 i⟩
  refine (v107 H t d).trans ?_
  refine congrArg (fun k => ((Ffn.dy P (X t) (Y t) (T t) k : ℝ) : EReal)) (Fin.ext ?_)
  show 512 + d.val = (512 + d.val) % 1024
  omega

/-- The reference's result number 111. -/
theorem ref_loss : val_main_v111 (F := Ideal) x0 x1 x2 x3 x4 x5 x6 x7 x8
    = lift2 (φ := .f32) (fun r d => ∑ k : Fin 8, (alongRows (mul2 (mul2 (const2 (1/2)) (col (rowSum (fold8 (mul2 (diffs P (rows X (pt k)) (rows Y (pt k)) (rows T (pt k))) (diffs P (rows X (pt k)) (rows Y (pt k)) (rows T (pt k)))))))) (const2 (1/1024)))) r d) := by
  funext i
  obtain ⟨a, d, rfl⟩ : ∃ (a : Fin 8) (d : Fin 128), i = ix2 a d := ⟨i 0, i 1, eq_ix2 i⟩
  refine (v111 H a d).trans (congrArg _ ?_)
  rw [sum_tok a]
  refine Finset.sum_congr rfl fun k _ => ?_
  exact loss_block fun x d => diff P (X (tok (pt k) ⟨x.val * 8 + a.val, by omega⟩)) (Y (tok (pt k) ⟨x.val * 8 + a.val, by omega⟩))
    (T (tok (pt k) ⟨x.val * 8 + a.val, by omega⟩)) d

/-- The reference's result number 113. -/
theorem ref_dgf : val_main_v113 (F := Ideal) x0 x1 x2 x3 x4 x5 x6 x7 x8
    = lift2 (φ := .f32) (fun r d => ∑ k : Fin 8, (fold8 (dgfs P (rows X (pt k)) (rows Y (pt k)) (rows T (pt k)))) r d) := by
  funext i
  obtain ⟨a, d, rfl⟩ : ∃ (a : Fin 8) (d : Fin 1024), i = ix2 a d := ⟨i 0, i 1, eq_ix2 i⟩
  refine (v113 H a d).trans (congrArg _ ?_)
  exact sum_tok a (dgfAt P X Y T d)

/-- The reference's result number 115. -/
theorem ref_dg2 : val_main_v115 (F := Ideal) x0 x1 x2 x3 x4 x5 x6 x7 x8
    = lift2 (φ := .f32) (fun r d => ∑ k : Fin 8, (fold8 (dg2s P (rows X (pt k)) (rows Y (pt k)) (rows T (pt k)))) r d) := by
  funext i
  obtain ⟨a, d, rfl⟩ : ∃ (a : Fin 8) (d : Fin 1024), i = ix2 a d := ⟨i 0, i 1, eq_ix2 i⟩
  refine (v115 H a d).trans (congrArg _ ?_)
  exact sum_tok a (dg2At P X Y T d)

end Cert.Join
-- ==== Proof.Join.lean ====
/- The kernel and the reference agree: over the reals both leave the same arrays. -/
module

public import proofs.«01_k».proof.Defs
public import proofs.«01_k».proof.Proof.Pre
public import proofs.«01_k».proof.Proof.RefArr
public import proofs.«01_k».proof.Proof.Gen.KernelIdeal.Value
public import proofs.«01_k».proof.Proof.Gen.ReferenceIdeal.Run
public import Idealize.ShloMosaic.Lib.Claim

@[expose] public section

set_option maxRecDepth 16384

noncomputable section

namespace Cert.Join

open Idealize.ShloMosaic Idealize.ShloMosaic.TcCoe Idealize.SL.Sem Ffn

/-- The reference starts from the same real arrays. -/
theorem rep_of_args {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD} {P : Par} {X Y T : Mat 2048 1024} (H : Cert.KernelIdeal.Arr.Args m c P X Y T)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Real.Rep P X Y T
      (StableHlo.launchContents m' c (Proc.devRef .tc Cert.ReferenceIdeal.main_arg0))
      (StableHlo.launchContents m' c (Proc.devRef .tc Cert.ReferenceIdeal.main_arg1))
      (StableHlo.launchContents m' c (Proc.devRef .tc Cert.ReferenceIdeal.main_arg2))
      (StableHlo.launchContents m' c (Proc.devRef .tc Cert.ReferenceIdeal.main_arg3))
      (StableHlo.launchContents m' c (Proc.devRef .tc Cert.ReferenceIdeal.main_arg4))
      (StableHlo.launchContents m' c (Proc.devRef .tc Cert.ReferenceIdeal.main_arg5))
      (StableHlo.launchContents m' c (Proc.devRef .tc Cert.ReferenceIdeal.main_arg6))
      (StableHlo.launchContents m' c (Proc.devRef .tc Cert.ReferenceIdeal.main_arg7))
      (StableHlo.launchContents m' c (Proc.devRef .tc Cert.ReferenceIdeal.main_arg8)) where
  h0 := fun t d => (congrFun e0 (ix2 t d)).trans (H.h0 t d)
  h1 := fun t d => (congrFun e1 (ix2 t d)).trans (H.h1 t d)
  h2 := fun t d => (congrFun e2 (ix2 t d)).trans (H.h2 t d)
  h3 := fun t d => (congrFun e3 (ix2 t d)).trans (H.h3 t d)
  h4 := fun t d => (congrFun e4 (ix2 t d)).trans (H.h4 t d)
  h5 := fun t d => (congrFun e5 (ix2 t d)).trans (H.h5 t d)
  h6 := fun d => (congrFun e6 (ix1 d)).trans (H.h6 d)
  h7 := fun d => (congrFun e7 (ix1 d)).trans (H.h7 d)
  h8 := fun t d => (congrFun e8 (ix2 t d)).trans (H.h8 t d)

set_option maxHeartbeats 1600000 in
/-- The kernel's twelve results are the reference's, for finite arguments. -/
theorem algebraic : Cert.algebraic_KernelIdeal_ReferenceIdeal_pre_finite := by
  pair_intro
  · run_from Cert.KernelIdeal.Value.run_blocks m g
  · run_from Cert.ReferenceIdeal.Value.run m' g'
    all_goals
      obtain ⟨e0, e1, e2, e3, e4, e5, e6, e7, e8⟩ := hagree c
      obtain ⟨P, X, Y, T, H⟩ := args_real m hpre c
      have R := rep_of_args H e0 e1 e2 e3 e4 e5 e6 e7 e8
    · exact ((Cert.ReferenceIdeal.Read.val_main_v100_eq _).trans (ref_h2 R)).trans (Cert.KernelIdeal.Arr.h2_arr H).symm
    · exact ((Cert.ReferenceIdeal.Read.val_main_v101_eq _).trans (ref_act R)).trans (Cert.KernelIdeal.Arr.act_arr H).symm
    · exact ((Cert.ReferenceIdeal.Read.val_main_v102_eq _).trans (ref_dx2b R)).trans (Cert.KernelIdeal.Arr.dx2b_arr H).symm
    · exact ((Cert.ReferenceIdeal.Read.val_main_v103_eq _).trans (ref_dgt R)).trans (Cert.KernelIdeal.Arr.dgt_arr H).symm
    · exact ((Cert.ReferenceIdeal.Read.val_main_v104_eq _).trans (ref_dup R)).trans (Cert.KernelIdeal.Arr.dup_arr H).symm
    · exact ((Cert.ReferenceIdeal.Read.val_main_v105_eq _).trans (ref_dx1b R)).trans (Cert.KernelIdeal.Arr.dx1b_arr H).symm
    · exact ((Cert.ReferenceIdeal.Read.val_main_v98_eq _).trans (ref_dx1 R)).trans (Cert.KernelIdeal.Arr.dx1_arr H).symm
    · exact ((Cert.ReferenceIdeal.Read.val_main_v106_eq _).trans (ref_dya R)).trans (Cert.KernelIdeal.Arr.dya_arr H).symm
    · exact ((Cert.ReferenceIdeal.Read.val_main_v107_eq _).trans (ref_dyb R)).trans (Cert.KernelIdeal.Arr.dyb_arr H).symm
    · exact ((Cert.ReferenceIdeal.Read.val_main_v111_eq _).trans (ref_loss R)).trans (Cert.KernelIdeal.Arr.loss_arr H).symm
    · exact ((Cert.ReferenceIdeal.Read.val_main_v113_eq _).trans (ref_dgf R)).trans (Cert.KernelIdeal.Arr.dgf_arr H).symm
    · exact ((Cert.ReferenceIdeal.Read.val_main_v115_eq _).trans (ref_dg2 R)).trans (Cert.KernelIdeal.Arr.dg2_arr H).symm

end Cert.Join
-- ==== Proof.GradDown.lean ====
/- The gradient of the down matrix: the activations against the gradient at the output of the feed-forward. Both the kernel, a block of 1408 rows at a time,
   and the reference sum over the tokens the products of the two arrays' entries. -/
module

public import proofs.«01_k».proof.Defs
public import proofs.«01_k».proof.Proof.Gen.GradDownIdeal.Value
public import proofs.«01_k».proof.Proof.Gen.GradDownRefIdeal.Run
public import proofs.«01_k».proof.Proof.Gen.GradDownRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.GradDownIdeal.Arr

open Cert.GradDownIdeal Cert.GradDownIdeal.Gen

/-- There are 2 grid points. -/
theorem lt (t : Fin cfg0.N) : t.val < 2 := lt_of_lt_of_eq t.isLt N_0

/-- The block index of every window at every point. -/
theorem idx : ∀ t : Fin cfg0.N, win0_0.index t = ![0, t.val] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The left array's block at point t: its columns from 1408 t on. -/
theorem b0 (t : Fin cfg0.N) (k : Fin 2048) (r : Fin 1408) : (iblk m c 0 t : FVec Ideal S2048x1408 .bf16) (ix2 k r)
    = (m ((c : Thread nD τ).loc main_arg0) : FVec Ideal S2048x2816 .f32) (ix2 k (⟨t.val * 1408 + r.val, by have := lt t; omega⟩ : Fin 2816)) := by
  blk_simp [iblk, idx t]
  entry_read
  blk_ext [idx t]

/-- The right array's block at point t: the whole array. -/
theorem b1 (t : Fin cfg0.N) (k : Fin 2048) (d : Fin 1024) : (iblk m c 1 t : FVec Ideal S2048x1024 .bf16) (ix2 k d)
    = (m ((c : Thread nD τ).loc main_arg1) : FVec Ideal S2048x1024 .f32) (ix2 k d) := by
  blk_simp [iblk, idx t]
  entry_read
  blk_ext [idx t]

/-- The sum over the tokens of the products of two arrays' entries in one row. -/
def prod (A : FVec Ideal S2048x2816 .f32) (B : FVec Ideal S2048x1024 .f32) : FVec Ideal S2816x1024 .bf16 :=
  fun i => ∑ k : Fin 2048, A (ix2 k (i 0)) * B (ix2 k (i 1))

/-- The body: the sums of products of its two blocks. -/
theorem body (x0 : FVec Ideal S2048x1408 .bf16) (x1 : FVec Ideal S2048x1024 .bf16) (r : Fin 1408) (d : Fin 1024) :
    out0_2 (F := Ideal) x0 x1 (ix2 r d) = ∑ k : Fin 2048, (x0 (ix2 k r) : EReal) * (x1 (ix2 k d) : EReal) := by
  frame_out
  pointwise [k0_pay1]

/-- What point t leaves in the output's block. -/
theorem at_point (t : Fin cfg0.N) (r : Fin 1408) (d : Fin 1024) : (out0_2 (iblk m c 0 t) (iblk m c 1 t)) (ix2 r d)
    = prod (m ((c : Thread nD τ).loc main_arg0)) (m ((c : Thread nD τ).loc main_arg1)) (ix2 (⟨t.val * 1408 + r.val, by have := lt t; omega⟩ : Fin 2816) d) :=
  (body (iblk m c 0 t) (iblk m c 1 t) r d).trans
    (Finset.sum_congr rfl fun k _ => congrArg₂ (fun a b : EReal => a * b) (b0 m c t k r) (b1 m c t k d))

/-- The kernel's result. -/
theorem result : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, d, rfl⟩ : ∃ (r : Fin 1408) (d : Fin 1024), y = ix2 r d := ⟨y 0, y 1, eq_ix2 y⟩
  refine (at_point m c t r d).trans ?_
  blk_ext [idx t]

end Cert.GradDownIdeal.Arr

namespace Cert.GradDownRefIdeal

/-- The reference's result is the same sum. -/
theorem result (a : FVec Ideal S2048x2816 .f32) (b : FVec Ideal S2048x1024 .f32) :
    Read.val_main_v4 (F := Ideal) a b = Cert.GradDownIdeal.Arr.prod a b := by
  funext i
  obtain ⟨r, d, rfl⟩ : ∃ (r : Fin 2816) (d : Fin 1024), i = ix2 r d := ⟨i 0, i 1, eq_ix2 i⟩
  pointwise [Read.val_main_v4, Read.val_main_v3, Read.val_main_v2]
  exact Finset.sum_congr rfl fun k _ => mul_comm _ _

end Cert.GradDownRefIdeal

namespace Cert.GradDownJoin

/-- The kernel's result is the reference's. -/
theorem algebraic : Cert.algebraic_GradDownIdeal_GradDownRefIdeal := by
  pair_intro
  · run_from Cert.GradDownIdeal.Value.run_blocks m g
  · run_from Cert.GradDownRefIdeal.Value.run m' g'
    exact ((Cert.GradDownRefIdeal.Read.val_main_v4_eq _ _).trans (Cert.GradDownRefIdeal.result _ _)).trans
      (Cert.GradDownIdeal.Arr.result m c).symm

end Cert.GradDownJoin
-- ==== Proof.GradGate.lean ====
/- The gradient of the gate matrix (and of the up matrix), stored transposed: the gradient at the gate against the normed inputs. Both the kernel, a block of 1408 rows at a time,
   and the reference sum over the tokens the products of the two arrays' entries. -/
module

public import proofs.«01_k».proof.Defs
public import proofs.«01_k».proof.Proof.Gen.GradGateIdeal.Value
public import proofs.«01_k».proof.Proof.Gen.GradGateRefIdeal.Run
public import proofs.«01_k».proof.Proof.Gen.GradGateRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.GradGateIdeal.Arr

open Cert.GradGateIdeal Cert.GradGateIdeal.Gen

/-- There are 2 grid points. -/
theorem lt (t : Fin cfg0.N) : t.val < 2 := lt_of_lt_of_eq t.isLt N_0

/-- The block index of every window at every point. -/
theorem idx : ∀ t : Fin cfg0.N, win0_0.index t = ![0, t.val] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The left array's block at point t: its columns from 1408 t on. -/
theorem b0 (t : Fin cfg0.N) (k : Fin 2048) (r : Fin 1408) : (iblk m c 0 t : FVec Ideal S2048x1408 .bf16) (ix2 k r)
    = (m ((c : Thread nD τ).loc main_arg1) : FVec Ideal S2048x2816 .f32) (ix2 k (⟨t.val * 1408 + r.val, by have := lt t; omega⟩ : Fin 2816)) := by
  blk_simp [iblk, idx t]
  entry_read
  blk_ext [idx t]

/-- The right array's block at point t: the whole array. -/
theorem b1 (t : Fin cfg0.N) (k : Fin 2048) (d : Fin 1024) : (iblk m c 1 t : FVec Ideal S2048x1024 .bf16) (ix2 k d)
    = (m ((c : Thread nD τ).loc main_arg0) : FVec Ideal S2048x1024 .f32) (ix2 k d) := by
  blk_simp [iblk, idx t]
  entry_read
  blk_ext [idx t]

/-- The sum over the tokens of the products of two arrays' entries in one row. -/
def prod (A : FVec Ideal S2048x2816 .f32) (B : FVec Ideal S2048x1024 .f32) : FVec Ideal S2816x1024 .bf16 :=
  fun i => ∑ k : Fin 2048, A (ix2 k (i 0)) * B (ix2 k (i 1))

/-- The body: the sums of products of its two blocks. -/
theorem body (x0 : FVec Ideal S2048x1408 .bf16) (x1 : FVec Ideal S2048x1024 .bf16) (r : Fin 1408) (d : Fin 1024) :
    out0_2 (F := Ideal) x0 x1 (ix2 r d) = ∑ k : Fin 2048, (x0 (ix2 k r) : EReal) * (x1 (ix2 k d) : EReal) := by
  frame_out
  pointwise [k0_pay1]

/-- What point t leaves in the output's block. -/
theorem at_point (t : Fin cfg0.N) (r : Fin 1408) (d : Fin 1024) : (out0_2 (iblk m c 0 t) (iblk m c 1 t)) (ix2 r d)
    = prod (m ((c : Thread nD τ).loc main_arg1)) (m ((c : Thread nD τ).loc main_arg0)) (ix2 (⟨t.val * 1408 + r.val, by have := lt t; omega⟩ : Fin 2816) d) :=
  (body (iblk m c 0 t) (iblk m c 1 t) r d).trans
    (Finset.sum_congr rfl fun k _ => congrArg₂ (fun a b : EReal => a * b) (b0 m c t k r) (b1 m c t k d))

/-- The kernel's result. -/
theorem result : (dats m 0 c).arrAt 2 cfg0.N = prod (m ((c : Thread nD τ).loc main_arg1)) (m ((c : Thread nD τ).loc main_arg0)) := by
  refine (dats m 0 c).arrAt_eq_of_covers 2 _ (by decide +kernel) fun t _ y => ?_
  blk_simp
  rw [after0_2]
  obtain ⟨r, d, rfl⟩ : ∃ (r : Fin 1408) (d : Fin 1024), y = ix2 r d := ⟨y 0, y 1, eq_ix2 y⟩
  refine (at_point m c t r d).trans ?_
  blk_ext [idx t]

end Cert.GradGateIdeal.Arr

namespace Cert.GradGateRefIdeal

/-- The reference's result is the same sum. -/
theorem result (a : FVec Ideal S2048x1024 .f32) (b : FVec Ideal S2048x2816 .f32) :
    Read.val_main_v6 (F := Ideal) a b = Cert.GradGateIdeal.Arr.prod b a := by
  funext i
  obtain ⟨r, d, rfl⟩ : ∃ (r : Fin 2816) (d : Fin 1024), i = ix2 r d := ⟨i 0, i 1, eq_ix2 i⟩
  pointwise [Read.val_main_v6, Read.val_main_v5, Read.val_main_v4, Read.val_main_v3]
  exact Finset.sum_congr rfl fun k _ => rfl

end Cert.GradGateRefIdeal

namespace Cert.GradGateJoin

/-- The kernel's result is the reference's. -/
theorem algebraic : Cert.algebraic_GradGateIdeal_GradGateRefIdeal := by
  pair_intro
  · run_from Cert.GradGateIdeal.Value.run_blocks m g
  · run_from Cert.GradGateRefIdeal.Value.run m' g'
    exact ((Cert.GradGateRefIdeal.Read.val_main_v6_eq _ _).trans (Cert.GradGateRefIdeal.result _ _)).trans
      (Cert.GradGateIdeal.Arr.result m c).symm

end Cert.GradGateJoin
-- ==== Proof.GradOut.lean ====
/- The gradient of the out matrix: the mixers' outputs against the gradient at the residual. Both the kernel, a block of 1024 rows at a time,
   and the reference sum over the tokens the products of the two arrays' entries. -/
module

public import proofs.«01_k».proof.Defs
public import proofs.«01_k».proof.Proof.Gen.GradOutIdeal.Value
public import proofs.«01_k».proof.Proof.Gen.GradOutRefIdeal.Run
public import proofs.«01_k».proof.Proof.Gen.GradOutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.GradOutIdeal.Arr

open Cert.GradOutIdeal Cert.GradOutIdeal.Gen

/-- There are 1 grid points. -/
theorem lt (t : Fin cfg0.N) : t.val < 1 := lt_of_lt_of_eq t.isLt N_0

/-- The block index of every window at every point. -/
theorem idx : ∀ t : Fin cfg0.N, win0_0.index t = ![0, t.val] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The left array's block at point t: its columns from 1024 t on. -/
theorem b0 (t : Fin cfg0.N) (k : Fin 2048) (r : Fin 1024) : (iblk m c 0 t : FVec Ideal S2048x1024 .bf16) (ix2 k r)
    = (m ((c : Thread nD τ).loc main_arg0) : FVec Ideal S2048x1024 .f32) (ix2 k (⟨t.val * 1024 + r.val, by have := lt t; omega⟩ : Fin 1024)) := by
  blk_simp [iblk, idx t]
  entry_read
  blk_ext [idx t]

/-- The right array's block at point t: the whole array. -/
theorem b1 (t : Fin cfg0.N) (k : Fin 2048) (d : Fin 1024) : (iblk m c 1 t : FVec Ideal S2048x1024 .bf16) (ix2 k d)
    = (m ((c : Thread nD τ).loc main_arg1) : FVec Ideal S2048x1024 .f32) (ix2 k d) := by
  blk_simp [iblk, idx t]
  entry_read
  blk_ext [idx t]

/-- The sum over the tokens of the products of two arrays' entries in one row. -/
def prod (A : FVec Ideal S2048x1024 .f32) (B : FVec Ideal S2048x1024 .f32) : FVec Ideal S1024x1024 .bf16 :=
  fun i => ∑ k : Fin 2048, A (ix2 k (i 0)) * B (ix2 k (i 1))

/-- The body: the sums of products of its two blocks. -/
theorem body (x0 : FVec Ideal S2048x1024 .bf16) (x1 : FVec Ideal S2048x1024 .bf16) (r : Fin 1024) (d : Fin 1024) :
    out0_2 (F := Ideal) x0 x1 (ix2 r d) = ∑ k : Fin 2048, (x0 (ix2 k r) : EReal) * (x1 (ix2 k d) : EReal) := by
  frame_out
  pointwise [k0_pay1]

/-- What point t leaves in the output's block. -/
theorem at_point (t : Fin cfg0.N) (r : Fin 1024) (d : Fin 1024) : (out0_2 (iblk m c 0 t) (iblk m c 1 t)) (ix2 r d)
    = prod (m ((c : Thread nD τ).loc main_arg0)) (m ((c : Thread nD τ).loc main_arg1)) (ix2 (⟨t.val * 1024 + r.val, by have := lt t; omega⟩ : Fin 1024) d) :=
  (body (iblk m c 0 t) (iblk m c 1 t) r d).trans
    (Finset.sum_congr rfl fun k _ => congrArg₂ (fun a b : EReal => a * b) (b0 m c t k r) (b1 m c t k d))

/-- The kernel's result. -/
theorem result : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, d, rfl⟩ : ∃ (r : Fin 1024) (d : Fin 1024), y = ix2 r d := ⟨y 0, y 1, eq_ix2 y⟩
  refine (at_point m c t r d).trans ?_
  blk_ext [idx t]

end Cert.GradOutIdeal.Arr

namespace Cert.GradOutRefIdeal

/-- The reference's result is the same sum. -/
theorem result (a : FVec Ideal S2048x1024 .f32) (b : FVec Ideal S2048x1024 .f32) :
    Read.val_main_v4 (F := Ideal) a b = Cert.GradOutIdeal.Arr.prod a b := by
  funext i
  obtain ⟨r, d, rfl⟩ : ∃ (r : Fin 1024) (d : Fin 1024), i = ix2 r d := ⟨i 0, i 1, eq_ix2 i⟩
  pointwise [Read.val_main_v4, Read.val_main_v3, Read.val_main_v2]
  exact Finset.sum_congr rfl fun k _ => mul_comm _ _

end Cert.GradOutRefIdeal

namespace Cert.GradOutJoin

/-- The kernel's result is the reference's. -/
theorem algebraic : Cert.algebraic_GradOutIdeal_GradOutRefIdeal := by
  pair_intro
  · run_from Cert.GradOutIdeal.Value.run_blocks m g
  · run_from Cert.GradOutRefIdeal.Value.run m' g'
    exact ((Cert.GradOutRefIdeal.Read.val_main_v4_eq _ _).trans (Cert.GradOutRefIdeal.result _ _)).trans
      (Cert.GradOutIdeal.Arr.result m c).symm

end Cert.GradOutJoin
-- ==== Proof.GradIn.lean ====
/- The gradient of the in matrix, stored transposed: the gradient at the projection against the normed inputs. Both the kernel, a block of 1664 rows at a time,
   and the reference sum over the tokens the products of the two arrays' entries. -/
module

public import proofs.«01_k».proof.Defs
public import proofs.«01_k».proof.Proof.Gen.GradInIdeal.Value
public import proofs.«01_k».proof.Proof.Gen.GradInRefIdeal.Run
public import proofs.«01_k».proof.Proof.Gen.GradInRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.GradInIdeal.Arr

open Cert.GradInIdeal Cert.GradInIdeal.Gen

/-- There are 2 grid points. -/
theorem lt (t : Fin cfg0.N) : t.val < 2 := lt_of_lt_of_eq t.isLt N_0

/-- The block index of every window at every point. -/
theorem idx : ∀ t : Fin cfg0.N, win0_0.index t = ![0, t.val] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The left array's block at point t: its columns from 1664 t on. -/
theorem b0 (t : Fin cfg0.N) (k : Fin 2048) (r : Fin 1664) : (iblk m c 0 t : FVec Ideal S2048x1664 .bf16) (ix2 k r)
    = (m ((c : Thread nD τ).loc main_arg1) : FVec Ideal S2048x3328 .f32) (ix2 k (⟨t.val * 1664 + r.val, by have := lt t; omega⟩ : Fin 3328)) := by
  blk_simp [iblk, idx t]
  entry_read
  blk_ext [idx t]

/-- The right array's block at point t: the whole array. -/
theorem b1 (t : Fin cfg0.N) (k : Fin 2048) (d : Fin 1024) : (iblk m c 1 t : FVec Ideal S2048x1024 .bf16) (ix2 k d)
    = (m ((c : Thread nD τ).loc main_arg0) : FVec Ideal S2048x1024 .f32) (ix2 k d) := by
  blk_simp [iblk, idx t]
  entry_read
  blk_ext [idx t]

/-- The sum over the tokens of the products of two arrays' entries in one row. -/
def prod (A : FVec Ideal S2048x3328 .f32) (B : FVec Ideal S2048x1024 .f32) : FVec Ideal S3328x1024 .bf16 :=
  fun i => ∑ k : Fin 2048, A (ix2 k (i 0)) * B (ix2 k (i 1))

/-- The body: the sums of products of its two blocks. -/
theorem body (x0 : FVec Ideal S2048x1664 .bf16) (x1 : FVec Ideal S2048x1024 .bf16) (r : Fin 1664) (d : Fin 1024) :
    out0_2 (F := Ideal) x0 x1 (ix2 r d) = ∑ k : Fin 2048, (x0 (ix2 k r) : EReal) * (x1 (ix2 k d) : EReal) := by
  frame_out
  pointwise [k0_pay1]

/-- What point t leaves in the output's block. -/
theorem at_point (t : Fin cfg0.N) (r : Fin 1664) (d : Fin 1024) : (out0_2 (iblk m c 0 t) (iblk m c 1 t)) (ix2 r d)
    = prod (m ((c : Thread nD τ).loc main_arg1)) (m ((c : Thread nD τ).loc main_arg0)) (ix2 (⟨t.val * 1664 + r.val, by have := lt t; omega⟩ : Fin 3328) d) :=
  (body (iblk m c 0 t) (iblk m c 1 t) r d).trans
    (Finset.sum_congr rfl fun k _ => congrArg₂ (fun a b : EReal => a * b) (b0 m c t k r) (b1 m c t k d))

/-- The kernel's result. -/
theorem result : (dats m 0 c).arrAt 2 cfg0.N = prod (m ((c : Thread nD τ).loc main_arg1)) (m ((c : Thread nD τ).loc main_arg0)) := by
  refine (dats m 0 c).arrAt_eq_of_covers 2 _ (by decide +kernel) fun t _ y => ?_
  blk_simp
  rw [after0_2]
  obtain ⟨r, d, rfl⟩ : ∃ (r : Fin 1664) (d : Fin 1024), y = ix2 r d := ⟨y 0, y 1, eq_ix2 y⟩
  refine (at_point m c t r d).trans ?_
  blk_ext [idx t]

end Cert.GradInIdeal.Arr

namespace Cert.GradInRefIdeal

/-- The reference's result is the same sum. -/
theorem result (a : FVec Ideal S2048x1024 .f32) (b : FVec Ideal S2048x3328 .f32) :
    Read.val_main_v6 (F := Ideal) a b = Cert.GradInIdeal.Arr.prod b a := by
  funext i
  obtain ⟨r, d, rfl⟩ : ∃ (r : Fin 3328) (d : Fin 1024), i = ix2 r d := ⟨i 0, i 1, eq_ix2 i⟩
  pointwise [Read.val_main_v6, Read.val_main_v5, Read.val_main_v4, Read.val_main_v3]
  exact Finset.sum_congr rfl fun k _ => rfl

end Cert.GradInRefIdeal

namespace Cert.GradInJoin

/-- The kernel's result is the reference's. -/
theorem algebraic : Cert.algebraic_GradInIdeal_GradInRefIdeal := by
  pair_intro
  · run_from Cert.GradInIdeal.Value.run_blocks m g
  · run_from Cert.GradInRefIdeal.Value.run m' g'
    exact ((Cert.GradInRefIdeal.Read.val_main_v6_eq _ _).trans (Cert.GradInRefIdeal.result _ _)).trans
      (Cert.GradInIdeal.Arr.result m c).symm

end Cert.GradInJoin
-- ==== Proof.Adam.lean ====
/- One AdamW step of one number: from the weight w, its gradient g and the moments m and v, the new moments and the change of w. The
   constants are the single-precision numbers next to 0.9, 0.1, 0.999, 0.001 and so on, which both programs read. -/
module

public import Idealize.ShloMosaic.PureOps.Ideal

@[expose] public section

noncomputable section

namespace Adam

open Idealize.ShloMosaic

/-- The new mean: 0.9 m + 0.1 g. -/
def mean (g m : EReal) : EReal := Ideal.ofBits .f32 0x3F666666#32 * m + Ideal.ofBits .f32 0x3DCCCCCD#32 * g

/-- The new mean square: 0.999 v + 0.001 g g. -/
def sq (g v : EReal) : EReal := Ideal.ofBits .f32 0x3F7FBE77#32 * v + Ideal.ofBits .f32 0x3A83126F#32 * (g * g)

/-- The change of the weight: -0.001 (mean / (root of mean square + 1e-8) + 0.01 w), the two moments first divided by 1 - 0.9^10 and
    1 - 0.999^10. -/
def delta (w g m v : EReal) : EReal := Ideal.ofBits .f32 0xBA83126F#32
  * (Ideal.div (Ideal.div (mean g m) (Ideal.ofBits .f32 0x3F26BD02#32))
      (Ideal.sqrt (Ideal.div (sq g v) (Ideal.ofBits .f32 0x3C231ACC#32)) + Ideal.ofBits .f32 0x322BCC77#32)
    + Ideal.ofBits .f32 0x3C23D70A#32 * w)

/-- The change depends on nothing but the four numbers. -/
theorem delta_congr {w g m v w' g' m' v' : EReal} (hw : w = w') (hg : g = g') (hm : m = m') (hv : v = v') :
    delta w g m v = delta w' g' m' v' := by rw [hw, hg, hm, hv]

end Adam

end
-- ==== Proof.AdamIn.lean ====
/- The AdamW step of the in matrix, which is kept transposed. Entry by entry, both the kernel, a block of 208 rows at a time, and the
   reference make the same step. -/
module

public import proofs.«01_k».proof.Defs
public import proofs.«01_k».proof.Proof.Adam
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.AdamInIdeal.Arr

open Cert.AdamInIdeal Cert.AdamInIdeal.Gen

/-- The number of grid points is 4. -/
theorem lt (t : Fin cfg0.N) : t.val < 4 := lt_of_lt_of_eq t.isLt N_0

/-- The block index of every window at every point. -/
theorem idx : ∀ t : Fin cfg0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The results, from the gradient g, the weight w and the moments m and v: the gradient itself; -/
def grad (g : FVec Ideal S1024x832 .f32) : FVec Ideal S1x832x1024 .f32 := fun i => g (ix2 (i 2) (i 1))
/-- the change of the weight; -/
def delta (w : FVec Ideal S1x1024x832 .f32) (g : FVec Ideal S1024x832 .f32) (m v : FVec Ideal S1x1024x832 .f32) : FVec Ideal S1x832x1024 .f32 :=
  fun i => Adam.delta (w (ix3 (i 0) (i 2) (i 1))) (g (ix2 (i 2) (i 1))) (m (ix3 (i 0) (i 2) (i 1))) (v (ix3 (i 0) (i 2) (i 1)))
/-- the new mean; -/
def mean (g : FVec Ideal S1024x832 .f32) (m : FVec Ideal S1x1024x832 .f32) : FVec Ideal S1x832x1024 .f32 :=
  fun i => Adam.mean (g (ix2 (i 2) (i 1))) (m (ix3 (i 0) (i 2) (i 1)))
/-- the new mean square. -/
def sq (g : FVec Ideal S1024x832 .f32) (v : FVec Ideal S1x1024x832 .f32) : FVec Ideal S1x832x1024 .f32 :=
  fun i => Adam.sq (g (ix2 (i 2) (i 1))) (v (ix3 (i 0) (i 2) (i 1)))

variable (m : (ℓ : Loc nD τ sig) → Buf (Elt Ideal) ℓ) (c : Dev nD)

/-- The gradient's block at point t: its rows from 208 t on. -/
theorem b0 (t : Fin cfg0.N) (r : Fin 208) (d : Fin 1024) : (iblk m c 0 t : FVec Ideal S208x1024 .f32) (ix2 r d)
    = (m ((c : Thread nD τ).loc main_arg0) : FVec Ideal S1024x832 .f32) (ix2 d (⟨t.val * 208 + r.val, by have := lt t; omega⟩ : Fin 832)) := by
  blk_simp [iblk, idx t]
  entry_read
  pointwise []
  blk_ext [idx t]

/-- The weight's block at point t. -/
theorem b1 (t : Fin cfg0.N) (a : Fin 1) (r : Fin 208) (d : Fin 1024) : (iblk m c 1 t : FVec Ideal S1x208x1024 .f32) (ix3 a r d)
    = (m ((c : Thread nD τ).loc main_arg1) : FVec Ideal S1x1024x832 .f32) (ix3 a d (⟨t.val * 208 + r.val, by have := lt t; omega⟩ : Fin 832)) := by
  blk_simp [iblk, idx t]
  entry_read
  pointwise []
  blk_ext [idx t]

/-- The mean's block at point t. -/
theorem b2 (t : Fin cfg0.N) (a : Fin 1) (r : Fin 208) (d : Fin 1024) : (iblk m c 2 t : FVec Ideal S1x208x1024 .f32) (ix3 a r d)
    = (m ((c : Thread nD τ).loc main_arg2) : FVec Ideal S1x1024x832 .f32) (ix3 a d (⟨t.val * 208 + r.val, by have := lt t; omega⟩ : Fin 832)) := by
  blk_simp [iblk, idx t]
  entry_read
  pointwise []
  blk_ext [idx t]

/-- The mean square's block at point t. -/
theorem b3 (t : Fin cfg0.N) (a : Fin 1) (r : Fin 208) (d : Fin 1024) : (iblk m c 3 t : FVec Ideal S1x208x1024 .f32) (ix3 a r d)
    = (m ((c : Thread nD τ).loc main_arg3) : FVec Ideal S1x1024x832 .f32) (ix3 a d (⟨t.val * 208 + r.val, by have := lt t; omega⟩ : Fin 832)) := by
  blk_simp [iblk, idx t]
  entry_read
  pointwise []
  blk_ext [idx t]

/-- The body leaves the gradient. -/
theorem body_grad (x0 : FVec Ideal S208x1024 .f32) (x1 x2 x3 : FVec Ideal S1x208x1024 .f32) (a : Fin 1) (r : Fin 208) (d : Fin 1024) :
    out0_4 (F := Ideal) x0 x1 x2 x3 (ix3 a r d) = x0 (ix2 r d) := by
  obtain rfl : a = 0 := Subsingleton.elim _ _
  frame_out
  pointwise [k0_pay1, k0_pay2, k0_pay3, k0_pay4, k0_pay5, k0_pay6, k0_pay7, k0_pay8]

/-- The kernel's result that holds the gradient. -/
theorem result_grad : (dats m 0 c).arrAt 4 cfg0.N = grad (m ((c : Thread nD τ).loc main_arg0)) := by
  refine (dats m 0 c).arrAt_eq_of_covers 4 _ (by decide +kernel) fun t _ y => ?_
  blk_simp
  rw [after0_4]
  obtain ⟨a, r, d, rfl⟩ : ∃ (a : Fin 1) (r : Fin 208) (d : Fin 1024), y = ix3 a r d := ⟨y 0, y 1, y 2, eq_ix3 y⟩
  refine (body_grad (iblk m c 0 t) (iblk m c 1 t) (iblk m c 2 t) (iblk m c 3 t) a r d).trans ?_
  refine Eq.trans (b := grad (m ((c : Thread nD τ).loc main_arg0)) (ix3 a (⟨t.val * 208 + r.val, by have := lt t; omega⟩ : Fin 832) d)) ?_ ?_
  · exact b0 m c t r d
  · blk_ext [idx t]

/-- The body leaves the change. -/
theorem body_delta (x0 : FVec Ideal S208x1024 .f32) (x1 x2 x3 : FVec Ideal S1x208x1024 .f32) (a : Fin 1) (r : Fin 208) (d : Fin 1024) :
    out0_5 (F := Ideal) x0 x1 x2 x3 (ix3 a r d) = Adam.delta (x1 (ix3 a r d)) (x0 (ix2 r d)) (x2 (ix3 a r d)) (x3 (ix3 a r d)) := by
  obtain rfl : a = 0 := Subsingleton.elim _ _
  frame_out
  pointwise [k0_pay1, k0_pay2, k0_pay3, k0_pay4, k0_pay5, k0_pay6, k0_pay7, k0_pay8]
  rfl

/-- The kernel's result that holds the change. -/
theorem result_delta : (dats m 0 c).arrAt 5 cfg0.N = delta (m ((c : Thread nD τ).loc main_arg1)) (m ((c : Thread nD τ).loc main_arg0)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨a, r, d, rfl⟩ : ∃ (a : Fin 1) (r : Fin 208) (d : Fin 1024), y = ix3 a r d := ⟨y 0, y 1, y 2, eq_ix3 y⟩
  refine (body_delta (iblk m c 0 t) (iblk m c 1 t) (iblk m c 2 t) (iblk m c 3 t) a r d).trans ?_
  refine Eq.trans (b := delta (m ((c : Thread nD τ).loc main_arg1)) (m ((c : Thread nD τ).loc main_arg0)) (m ((c : Thread nD τ).loc main_arg2)) (m ((c : Thread nD τ).loc main_arg3)) (ix3 a (⟨t.val * 208 + r.val, by have := lt t; omega⟩ : Fin 832) d)) ?_ ?_
  · show Adam.delta _ _ _ _ = Adam.delta _ _ _ _
    exact Adam.delta_congr (b1 m c t a r d) (b0 m c t r d) (b2 m c t a r d) (b3 m c t a r d)
  · blk_ext [idx t]

/-- The body leaves the new mean. -/
theorem body_mean (x0 : FVec Ideal S208x1024 .f32) (x1 x2 x3 : FVec Ideal S1x208x1024 .f32) (a : Fin 1) (r : Fin 208) (d : Fin 1024) :
    out0_6 (F := Ideal) x0 x1 x2 x3 (ix3 a r d) = Adam.mean (x0 (ix2 r d)) (x2 (ix3 a r d)) := by
  obtain rfl : a = 0 := Subsingleton.elim _ _
  frame_out
  pointwise [k0_pay1, k0_pay2, k0_pay3, k0_pay4, k0_pay5, k0_pay6, k0_pay7, k0_pay8]
  rfl

/-- The kernel's result that holds the new mean. -/
theorem result_mean : (dats m 0 c).arrAt 6 cfg0.N = mean (m ((c : Thread nD τ).loc main_arg0)) (m ((c : Thread nD τ).loc main_arg2)) := by
  refine (dats m 0 c).arrAt_eq_of_covers 6 _ (by decide +kernel) fun t _ y => ?_
  blk_simp
  rw [after0_6]
  obtain ⟨a, r, d, rfl⟩ : ∃ (a : Fin 1) (r : Fin 208) (d : Fin 1024), y = ix3 a r d := ⟨y 0, y 1, y 2, eq_ix3 y⟩
  refine (body_mean (iblk m c 0 t) (iblk m c 1 t) (iblk m c 2 t) (iblk m c 3 t) a r d).trans ?_
  refine Eq.trans (b := mean (m ((c : Thread nD τ).loc main_arg0)) (m ((c : Thread nD τ).loc main_arg2)) (ix3 a (⟨t.val * 208 + r.val, by have := lt t; omega⟩ : Fin 832) d)) ?_ ?_
  · exact congrArg₂ Adam.mean (b0 m c t r d) (b2 m c t a r d)
  · blk_ext [idx t]

/-- The body leaves the new mean square. -/
theorem body_sq (x0 : FVec Ideal S208x1024 .f32) (x1 x2 x3 : FVec Ideal S1x208x1024 .f32) (a : Fin 1) (r : Fin 208) (d : Fin 1024) :
    out0_7 (F := Ideal) x0 x1 x2 x3 (ix3 a r d) = Adam.sq (x0 (ix2 r d)) (x3 (ix3 a r d)) := by
  obtain rfl : a = 0 := Subsingleton.elim _ _
  frame_out
  pointwise [k0_pay1, k0_pay2, k0_pay3, k0_pay4, k0_pay5, k0_pay6, k0_pay7, k0_pay8]
  rfl

/-- The kernel's result that holds the new mean square. -/
theorem result_sq : (dats m 0 c).arrAt 7 cfg0.N = sq (m ((c : Thread nD τ).loc main_arg0)) (m ((c : Thread nD τ).loc main_arg3)) := by
  refine (dats m 0 c).arrAt_eq_of_covers 7 _ (by decide +kernel) fun t _ y => ?_
  blk_simp
  rw [after0_7]
  obtain ⟨a, r, d, rfl⟩ : ∃ (a : Fin 1) (r : Fin 208) (d : Fin 1024), y = ix3 a r d := ⟨y 0, y 1, y 2, eq_ix3 y⟩
  refine (body_sq (iblk m c 0 t) (iblk m c 1 t) (iblk m c 2 t) (iblk m c 3 t) a r d).trans ?_
  refine Eq.trans (b := sq (m ((c : Thread nD τ).loc main_arg0)) (m ((c : Thread nD τ).loc main_arg3)) (ix3 a (⟨t.val * 208 + r.val, by have := lt t; omega⟩ : Fin 832) d)) ?_ ?_
  · exact congrArg₂ Adam.sq (b0 m c t r d) (b3 m c t a r d)
  · blk_ext [idx t]

end Cert.AdamInIdeal.Arr

namespace Cert.AdamInRefIdeal

/-- The reference's result that holds the gradient. -/
theorem result_grad (g : FVec Ideal S1024x832 .f32) (w m v : FVec Ideal S1x1024x832 .f32) :
    Read.val_main_v25 (F := Ideal) g = Cert.AdamInIdeal.Arr.grad g := by
  funext i
  obtain ⟨a, r, d, rfl⟩ : ∃ (a : Fin 1) (r : Fin 832) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24, Read.val_main_v25, Read.val_main_v26, Read.val_main_v27, Read.val_main_v28]
  rfl

/-- The reference's result that holds the change. -/
theorem result_delta (g : FVec Ideal S1024x832 .f32) (w m v : FVec Ideal S1x1024x832 .f32) :
    Read.val_main_v26 (F := Ideal) g w m v = Cert.AdamInIdeal.Arr.delta w g m v := by
  funext i
  obtain ⟨a, r, d, rfl⟩ : ∃ (a : Fin 1) (r : Fin 832) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24, Read.val_main_v25, Read.val_main_v26, Read.val_main_v27, Read.val_main_v28]
  rfl

/-- The reference's result that holds the new mean. -/
theorem result_mean (g : FVec Ideal S1024x832 .f32) (w m v : FVec Ideal S1x1024x832 .f32) :
    Read.val_main_v27 (F := Ideal) g m = Cert.AdamInIdeal.Arr.mean g m := by
  funext i
  obtain ⟨a, r, d, rfl⟩ : ∃ (a : Fin 1) (r : Fin 832) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24, Read.val_main_v25, Read.val_main_v26, Read.val_main_v27, Read.val_main_v28]
  rfl

/-- The reference's result that holds the new mean square. -/
theorem result_sq (g : FVec Ideal S1024x832 .f32) (w m v : FVec Ideal S1x1024x832 .f32) :
    Read.val_main_v28 (F := Ideal) g v = Cert.AdamInIdeal.Arr.sq g v := by
  funext i
  obtain ⟨a, r, d, rfl⟩ : ∃ (a : Fin 1) (r : Fin 832) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24, Read.val_main_v25, Read.val_main_v26, Read.val_main_v27, Read.val_main_v28]
  rfl

end Cert.AdamInRefIdeal

namespace Cert.AdamInJoin

/-- The kernel's results are the reference's. -/
theorem algebraic : Cert.algebraic_AdamInIdeal_AdamInRefIdeal := by
  pair_intro
  · run_from Cert.AdamInIdeal.Value.run_blocks m g
  · run_from Cert.AdamInRefIdeal.Value.run m' g'
    · exact ((Cert.AdamInRefIdeal.Read.val_main_v25_eq _).trans (Cert.AdamInRefIdeal.result_grad (m ((c.tc : Thread Cert.AdamInIdeal.nD Cert.AdamInIdeal.τ).loc Cert.AdamInIdeal.main_arg0))
        (m ((c.tc : Thread Cert.AdamInIdeal.nD Cert.AdamInIdeal.τ).loc Cert.AdamInIdeal.main_arg1))
        (m ((c.tc : Thread Cert.AdamInIdeal.nD Cert.AdamInIdeal.τ).loc Cert.AdamInIdeal.main_arg2))
        (m ((c.tc : Thread Cert.AdamInIdeal.nD Cert.AdamInIdeal.τ).loc Cert.AdamInIdeal.main_arg3)))).trans
        (Cert.AdamInIdeal.Arr.result_grad m c).symm
    · exact ((Cert.AdamInRefIdeal.Read.val_main_v26_eq _ _ _ _).trans (Cert.AdamInRefIdeal.result_delta (m ((c.tc : Thread Cert.AdamInIdeal.nD Cert.AdamInIdeal.τ).loc Cert.AdamInIdeal.main_arg0))
        (m ((c.tc : Thread Cert.AdamInIdeal.nD Cert.AdamInIdeal.τ).loc Cert.AdamInIdeal.main_arg1))
        (m ((c.tc : Thread Cert.AdamInIdeal.nD Cert.AdamInIdeal.τ).loc Cert.AdamInIdeal.main_arg2))
        (m ((c.tc : Thread Cert.AdamInIdeal.nD Cert.AdamInIdeal.τ).loc Cert.AdamInIdeal.main_arg3)))).trans
        (Cert.AdamInIdeal.Arr.result_delta m c).symm
    · exact ((Cert.AdamInRefIdeal.Read.val_main_v27_eq _ _).trans (Cert.AdamInRefIdeal.result_mean (m ((c.tc : Thread Cert.AdamInIdeal.nD Cert.AdamInIdeal.τ).loc Cert.AdamInIdeal.main_arg0))
        (m ((c.tc : Thread Cert.AdamInIdeal.nD Cert.AdamInIdeal.τ).loc Cert.AdamInIdeal.main_arg1))
        (m ((c.tc : Thread Cert.AdamInIdeal.nD Cert.AdamInIdeal.τ).loc Cert.AdamInIdeal.main_arg2))
        (m ((c.tc : Thread Cert.AdamInIdeal.nD Cert.AdamInIdeal.τ).loc Cert.AdamInIdeal.main_arg3)))).trans
        (Cert.AdamInIdeal.Arr.result_mean m c).symm
    · exact ((Cert.AdamInRefIdeal.Read.val_main_v28_eq _ _).trans (Cert.AdamInRefIdeal.result_sq (m ((c.tc : Thread Cert.AdamInIdeal.nD Cert.AdamInIdeal.τ).loc Cert.AdamInIdeal.main_arg0))
        (m ((c.tc : Thread Cert.AdamInIdeal.nD Cert.AdamInIdeal.τ).loc Cert.AdamInIdeal.main_arg1))
        (m ((c.tc : Thread Cert.AdamInIdeal.nD Cert.AdamInIdeal.τ).loc Cert.AdamInIdeal.main_arg2))
        (m ((c.tc : Thread Cert.AdamInIdeal.nD Cert.AdamInIdeal.τ).loc Cert.AdamInIdeal.main_arg3)))).trans
        (Cert.AdamInIdeal.Arr.result_sq m c).symm

end Cert.AdamInJoin
-- ==== Proof.AdamOut.lean ====
/- The AdamW step of the out matrix. Entry by entry, both the kernel, a block of 256 rows at a time, and the
   reference make the same step. -/
module

public import proofs.«01_k».proof.Defs
public import proofs.«01_k».proof.Proof.Adam
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.AdamOutIdeal.Arr

open Cert.AdamOutIdeal Cert.AdamOutIdeal.Gen

/-- The number of grid points is 1. -/
theorem lt (t : Fin cfg0.N) : t.val < 1 := lt_of_lt_of_eq t.isLt N_0

/-- The block index of every window at every point. -/
theorem idx : ∀ t : Fin cfg0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The results, from the gradient g, the weight w and the moments m and v: the gradient itself; -/
def grad (g : FVec Ideal S256x1024 .f32) : FVec Ideal S1x256x1024 .f32 := fun i => g (ix2 (i 1) (i 2))
/-- the change of the weight; -/
def delta (w : FVec Ideal S1x256x1024 .f32) (g : FVec Ideal S256x1024 .f32) (m v : FVec Ideal S1x256x1024 .f32) : FVec Ideal S1x256x1024 .f32 :=
  fun i => Adam.delta (w (ix3 (i 0) (i 1) (i 2))) (g (ix2 (i 1) (i 2))) (m (ix3 (i 0) (i 1) (i 2))) (v (ix3 (i 0) (i 1) (i 2)))
/-- the new mean; -/
def mean (g : FVec Ideal S256x1024 .f32) (m : FVec Ideal S1x256x1024 .f32) : FVec Ideal S1x256x1024 .f32 :=
  fun i => Adam.mean (g (ix2 (i 1) (i 2))) (m (ix3 (i 0) (i 1) (i 2)))
/-- the new mean square. -/
def sq (g : FVec Ideal S256x1024 .f32) (v : FVec Ideal S1x256x1024 .f32) : FVec Ideal S1x256x1024 .f32 :=
  fun i => Adam.sq (g (ix2 (i 1) (i 2))) (v (ix3 (i 0) (i 1) (i 2)))

variable (m : (ℓ : Loc nD τ sig) → Buf (Elt Ideal) ℓ) (c : Dev nD)

/-- The gradient's block at point t: its rows from 256 t on. -/
theorem b0 (t : Fin cfg0.N) (r : Fin 256) (d : Fin 1024) : (iblk m c 0 t : FVec Ideal S256x1024 .f32) (ix2 r d)
    = (m ((c : Thread nD τ).loc main_arg0) : FVec Ideal S256x1024 .f32) (ix2 (⟨t.val * 256 + r.val, by have := lt t; omega⟩ : Fin 256) d) := by
  blk_ext [iblk, V, idx t]

/-- The weight's block at point t. -/
theorem b1 (t : Fin cfg0.N) (a : Fin 1) (r : Fin 256) (d : Fin 1024) : (iblk m c 1 t : FVec Ideal S1x256x1024 .f32) (ix3 a r d)
    = (m ((c : Thread nD τ).loc main_arg1) : FVec Ideal S1x256x1024 .f32) (ix3 a (⟨t.val * 256 + r.val, by have := lt t; omega⟩ : Fin 256) d) := by
  blk_ext [iblk, V, idx t]

/-- The mean's block at point t. -/
theorem b2 (t : Fin cfg0.N) (a : Fin 1) (r : Fin 256) (d : Fin 1024) : (iblk m c 2 t : FVec Ideal S1x256x1024 .f32) (ix3 a r d)
    = (m ((c : Thread nD τ).loc main_arg2) : FVec Ideal S1x256x1024 .f32) (ix3 a (⟨t.val * 256 + r.val, by have := lt t; omega⟩ : Fin 256) d) := by
  blk_ext [iblk, V, idx t]

/-- The mean square's block at point t. -/
theorem b3 (t : Fin cfg0.N) (a : Fin 1) (r : Fin 256) (d : Fin 1024) : (iblk m c 3 t : FVec Ideal S1x256x1024 .f32) (ix3 a r d)
    = (m ((c : Thread nD τ).loc main_arg3) : FVec Ideal S1x256x1024 .f32) (ix3 a (⟨t.val * 256 + r.val, by have := lt t; omega⟩ : Fin 256) d) := by
  blk_ext [iblk, V, idx t]

/-- The body leaves the gradient. -/
theorem body_grad (x0 : FVec Ideal S256x1024 .f32) (x1 x2 x3 : FVec Ideal S1x256x1024 .f32) (a : Fin 1) (r : Fin 256) (d : Fin 1024) :
    out0_4 (F := Ideal) x0 x1 x2 x3 (ix3 a r d) = x0 (ix2 r d) := by
  obtain rfl : a = 0 := Subsingleton.elim _ _
  frame_out
  pointwise [k0_pay1, k0_pay2, k0_pay3, k0_pay4, k0_pay5, k0_pay6, k0_pay7]

/-- The kernel's result that holds the gradient. -/
theorem result_grad : (dats m 0 c).arrAt 4 cfg0.N = grad (m ((c : Thread nD τ).loc main_arg0)) := by
  refine (dats m 0 c).arrAt_eq_of_covers 4 _ (by decide +kernel) fun t _ y => ?_
  blk_simp
  rw [after0_4]
  obtain ⟨a, r, d, rfl⟩ : ∃ (a : Fin 1) (r : Fin 256) (d : Fin 1024), y = ix3 a r d := ⟨y 0, y 1, y 2, eq_ix3 y⟩
  refine (body_grad (iblk m c 0 t) (iblk m c 1 t) (iblk m c 2 t) (iblk m c 3 t) a r d).trans ?_
  refine Eq.trans (b := grad (m ((c : Thread nD τ).loc main_arg0)) (ix3 a (⟨t.val * 256 + r.val, by have := lt t; omega⟩ : Fin 256) d)) ?_ ?_
  · exact b0 m c t r d
  · blk_ext [idx t]

/-- The body leaves the change. -/
theorem body_delta (x0 : FVec Ideal S256x1024 .f32) (x1 x2 x3 : FVec Ideal S1x256x1024 .f32) (a : Fin 1) (r : Fin 256) (d : Fin 1024) :
    out0_5 (F := Ideal) x0 x1 x2 x3 (ix3 a r d) = Adam.delta (x1 (ix3 a r d)) (x0 (ix2 r d)) (x2 (ix3 a r d)) (x3 (ix3 a r d)) := by
  obtain rfl : a = 0 := Subsingleton.elim _ _
  frame_out
  pointwise [k0_pay1, k0_pay2, k0_pay3, k0_pay4, k0_pay5, k0_pay6, k0_pay7]
  rfl

/-- The kernel's result that holds the change. -/
theorem result_delta : (dats m 0 c).arrAt 5 cfg0.N = delta (m ((c : Thread nD τ).loc main_arg1)) (m ((c : Thread nD τ).loc main_arg0)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨a, r, d, rfl⟩ : ∃ (a : Fin 1) (r : Fin 256) (d : Fin 1024), y = ix3 a r d := ⟨y 0, y 1, y 2, eq_ix3 y⟩
  refine (body_delta (iblk m c 0 t) (iblk m c 1 t) (iblk m c 2 t) (iblk m c 3 t) a r d).trans ?_
  refine Eq.trans (b := delta (m ((c : Thread nD τ).loc main_arg1)) (m ((c : Thread nD τ).loc main_arg0)) (m ((c : Thread nD τ).loc main_arg2)) (m ((c : Thread nD τ).loc main_arg3)) (ix3 a (⟨t.val * 256 + r.val, by have := lt t; omega⟩ : Fin 256) d)) ?_ ?_
  · show Adam.delta _ _ _ _ = Adam.delta _ _ _ _
    exact Adam.delta_congr (b1 m c t a r d) (b0 m c t r d) (b2 m c t a r d) (b3 m c t a r d)
  · blk_ext [idx t]

/-- The body leaves the new mean. -/
theorem body_mean (x0 : FVec Ideal S256x1024 .f32) (x1 x2 x3 : FVec Ideal S1x256x1024 .f32) (a : Fin 1) (r : Fin 256) (d : Fin 1024) :
    out0_6 (F := Ideal) x0 x1 x2 x3 (ix3 a r d) = Adam.mean (x0 (ix2 r d)) (x2 (ix3 a r d)) := by
  obtain rfl : a = 0 := Subsingleton.elim _ _
  frame_out
  pointwise [k0_pay1, k0_pay2, k0_pay3, k0_pay4, k0_pay5, k0_pay6, k0_pay7]
  rfl

/-- The kernel's result that holds the new mean. -/
theorem result_mean : (dats m 0 c).arrAt 6 cfg0.N = mean (m ((c : Thread nD τ).loc main_arg0)) (m ((c : Thread nD τ).loc main_arg2)) := by
  refine (dats m 0 c).arrAt_eq_of_covers 6 _ (by decide +kernel) fun t _ y => ?_
  blk_simp
  rw [after0_6]
  obtain ⟨a, r, d, rfl⟩ : ∃ (a : Fin 1) (r : Fin 256) (d : Fin 1024), y = ix3 a r d := ⟨y 0, y 1, y 2, eq_ix3 y⟩
  refine (body_mean (iblk m c 0 t) (iblk m c 1 t) (iblk m c 2 t) (iblk m c 3 t) a r d).trans ?_
  refine Eq.trans (b := mean (m ((c : Thread nD τ).loc main_arg0)) (m ((c : Thread nD τ).loc main_arg2)) (ix3 a (⟨t.val * 256 + r.val, by have := lt t; omega⟩ : Fin 256) d)) ?_ ?_
  · exact congrArg₂ Adam.mean (b0 m c t r d) (b2 m c t a r d)
  · blk_ext [idx t]

/-- The body leaves the new mean square. -/
theorem body_sq (x0 : FVec Ideal S256x1024 .f32) (x1 x2 x3 : FVec Ideal S1x256x1024 .f32) (a : Fin 1) (r : Fin 256) (d : Fin 1024) :
    out0_7 (F := Ideal) x0 x1 x2 x3 (ix3 a r d) = Adam.sq (x0 (ix2 r d)) (x3 (ix3 a r d)) := by
  obtain rfl : a = 0 := Subsingleton.elim _ _
  frame_out
  pointwise [k0_pay1, k0_pay2, k0_pay3, k0_pay4, k0_pay5, k0_pay6, k0_pay7]
  rfl

/-- The kernel's result that holds the new mean square. -/
theorem result_sq : (dats m 0 c).arrAt 7 cfg0.N = sq (m ((c : Thread nD τ).loc main_arg0)) (m ((c : Thread nD τ).loc main_arg3)) := by
  refine (dats m 0 c).arrAt_eq_of_covers 7 _ (by decide +kernel) fun t _ y => ?_
  blk_simp
  rw [after0_7]
  obtain ⟨a, r, d, rfl⟩ : ∃ (a : Fin 1) (r : Fin 256) (d : Fin 1024), y = ix3 a r d := ⟨y 0, y 1, y 2, eq_ix3 y⟩
  refine (body_sq (iblk m c 0 t) (iblk m c 1 t) (iblk m c 2 t) (iblk m c 3 t) a r d).trans ?_
  refine Eq.trans (b := sq (m ((c : Thread nD τ).loc main_arg0)) (m ((c : Thread nD τ).loc main_arg3)) (ix3 a (⟨t.val * 256 + r.val, by have := lt t; omega⟩ : Fin 256) d)) ?_ ?_
  · exact congrArg₂ Adam.sq (b0 m c t r d) (b3 m c t a r d)
  · blk_ext [idx t]

end Cert.AdamOutIdeal.Arr

namespace Cert.AdamOutRefIdeal

/-- The reference's result that holds the gradient. -/
theorem result_grad (g : FVec Ideal S256x1024 .f32) (w m v : FVec Ideal S1x256x1024 .f32) :
    Read.val_main_v0 (F := Ideal) g = Cert.AdamOutIdeal.Arr.grad g := by
  funext i
  obtain ⟨a, r, d, rfl⟩ : ∃ (a : Fin 1) (r : Fin 256) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24]
  rfl

/-- The reference's result that holds the change. -/
theorem result_delta (g : FVec Ideal S256x1024 .f32) (w m v : FVec Ideal S1x256x1024 .f32) :
    Read.val_main_v24 (F := Ideal) g w m v = Cert.AdamOutIdeal.Arr.delta w g m v := by
  funext i
  obtain ⟨a, r, d, rfl⟩ : ∃ (a : Fin 1) (r : Fin 256) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24]
  rfl

/-- The reference's result that holds the new mean. -/
theorem result_mean (g : FVec Ideal S256x1024 .f32) (w m v : FVec Ideal S1x256x1024 .f32) :
    Read.val_main_v5 (F := Ideal) g m = Cert.AdamOutIdeal.Arr.mean g m := by
  funext i
  obtain ⟨a, r, d, rfl⟩ : ∃ (a : Fin 1) (r : Fin 256) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24]
  rfl

/-- The reference's result that holds the new mean square. -/
theorem result_sq (g : FVec Ideal S256x1024 .f32) (w m v : FVec Ideal S1x256x1024 .f32) :
    Read.val_main_v11 (F := Ideal) g v = Cert.AdamOutIdeal.Arr.sq g v := by
  funext i
  obtain ⟨a, r, d, rfl⟩ : ∃ (a : Fin 1) (r : Fin 256) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24]
  rfl

end Cert.AdamOutRefIdeal

namespace Cert.AdamOutJoin

/-- The kernel's results are the reference's. -/
theorem algebraic : Cert.algebraic_AdamOutIdeal_AdamOutRefIdeal := by
  pair_intro
  · run_from Cert.AdamOutIdeal.Value.run_blocks m g
  · run_from Cert.AdamOutRefIdeal.Value.run m' g'
    · exact ((Cert.AdamOutRefIdeal.Read.val_main_v0_eq _).trans (Cert.AdamOutRefIdeal.result_grad (m ((c.tc : Thread Cert.AdamOutIdeal.nD Cert.AdamOutIdeal.τ).loc Cert.AdamOutIdeal.main_arg0))
        (m ((c.tc : Thread Cert.AdamOutIdeal.nD Cert.AdamOutIdeal.τ).loc Cert.AdamOutIdeal.main_arg1))
        (m ((c.tc : Thread Cert.AdamOutIdeal.nD Cert.AdamOutIdeal.τ).loc Cert.AdamOutIdeal.main_arg2))
        (m ((c.tc : Thread Cert.AdamOutIdeal.nD Cert.AdamOutIdeal.τ).loc Cert.AdamOutIdeal.main_arg3)))).trans
        (Cert.AdamOutIdeal.Arr.result_grad m c).symm
    · exact ((Cert.AdamOutRefIdeal.Read.val_main_v24_eq _ _ _ _).trans (Cert.AdamOutRefIdeal.result_delta (m ((c.tc : Thread Cert.AdamOutIdeal.nD Cert.AdamOutIdeal.τ).loc Cert.AdamOutIdeal.main_arg0))
        (m ((c.tc : Thread Cert.AdamOutIdeal.nD Cert.AdamOutIdeal.τ).loc Cert.AdamOutIdeal.main_arg1))
        (m ((c.tc : Thread Cert.AdamOutIdeal.nD Cert.AdamOutIdeal.τ).loc Cert.AdamOutIdeal.main_arg2))
        (m ((c.tc : Thread Cert.AdamOutIdeal.nD Cert.AdamOutIdeal.τ).loc Cert.AdamOutIdeal.main_arg3)))).trans
        (Cert.AdamOutIdeal.Arr.result_delta m c).symm
    · exact ((Cert.AdamOutRefIdeal.Read.val_main_v5_eq _ _).trans (Cert.AdamOutRefIdeal.result_mean (m ((c.tc : Thread Cert.AdamOutIdeal.nD Cert.AdamOutIdeal.τ).loc Cert.AdamOutIdeal.main_arg0))
        (m ((c.tc : Thread Cert.AdamOutIdeal.nD Cert.AdamOutIdeal.τ).loc Cert.AdamOutIdeal.main_arg1))
        (m ((c.tc : Thread Cert.AdamOutIdeal.nD Cert.AdamOutIdeal.τ).loc Cert.AdamOutIdeal.main_arg2))
        (m ((c.tc : Thread Cert.AdamOutIdeal.nD Cert.AdamOutIdeal.τ).loc Cert.AdamOutIdeal.main_arg3)))).trans
        (Cert.AdamOutIdeal.Arr.result_mean m c).symm
    · exact ((Cert.AdamOutRefIdeal.Read.val_main_v11_eq _ _).trans (Cert.AdamOutRefIdeal.result_sq (m ((c.tc : Thread Cert.AdamOutIdeal.nD Cert.AdamOutIdeal.τ).loc Cert.AdamOutIdeal.main_arg0))
        (m ((c.tc : Thread Cert.AdamOutIdeal.nD Cert.AdamOutIdeal.τ).loc Cert.AdamOutIdeal.main_arg1))
        (m ((c.tc : Thread Cert.AdamOutIdeal.nD Cert.AdamOutIdeal.τ).loc Cert.AdamOutIdeal.main_arg2))
        (m ((c.tc : Thread Cert.AdamOutIdeal.nD Cert.AdamOutIdeal.τ).loc Cert.AdamOutIdeal.main_arg3)))).trans
        (Cert.AdamOutIdeal.Arr.result_sq m c).symm

end Cert.AdamOutJoin
-- ==== Proof.AdamGate.lean ====
/- The AdamW step of the gate matrix (and of the up matrix), which is kept transposed. Entry by entry, both the kernel, a block of 176 rows at a time, and the
   reference make the same step. -/
module

public import proofs.«01_k».proof.Defs
public import proofs.«01_k».proof.Proof.Adam
public import proofs.«01_k».proof.Proof.Gen.AdamGateIdeal.Value
public import proofs.«01_k».proof.Proof.Gen.AdamGateRefIdeal.Run
public import proofs.«01_k».proof.Proof.Gen.AdamGateRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.AdamGateIdeal.Arr

open Cert.AdamGateIdeal Cert.AdamGateIdeal.Gen

/-- The number of grid points is 4. -/
theorem lt (t : Fin cfg0.N) : t.val < 4 := lt_of_lt_of_eq t.isLt N_0

/-- The block index of every window at every point. -/
theorem idx : ∀ t : Fin cfg0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The results, from the gradient g, the weight w and the moments m and v: the gradient itself; -/
def grad (g : FVec Ideal S1024x704 .f32) : FVec Ideal S1x704x1024 .f32 := fun i => g (ix2 (i 2) (i 1))
/-- the change of the weight; -/
def delta (w : FVec Ideal S1x1024x704 .f32) (g : FVec Ideal S1024x704 .f32) (m v : FVec Ideal S1x1024x704 .f32) : FVec Ideal S1x704x1024 .f32 :=
  fun i => Adam.delta (w (ix3 (i 0) (i 2) (i 1))) (g (ix2 (i 2) (i 1))) (m (ix3 (i 0) (i 2) (i 1))) (v (ix3 (i 0) (i 2) (i 1)))
/-- the new mean; -/
def mean (g : FVec Ideal S1024x704 .f32) (m : FVec Ideal S1x1024x704 .f32) : FVec Ideal S1x704x1024 .f32 :=
  fun i => Adam.mean (g (ix2 (i 2) (i 1))) (m (ix3 (i 0) (i 2) (i 1)))
/-- the new mean square. -/
def sq (g : FVec Ideal S1024x704 .f32) (v : FVec Ideal S1x1024x704 .f32) : FVec Ideal S1x704x1024 .f32 :=
  fun i => Adam.sq (g (ix2 (i 2) (i 1))) (v (ix3 (i 0) (i 2) (i 1)))

variable (m : (ℓ : Loc nD τ sig) → Buf (Elt Ideal) ℓ) (c : Dev nD)

/-- The gradient's block at point t: its rows from 176 t on. -/
theorem b0 (t : Fin cfg0.N) (r : Fin 176) (d : Fin 1024) : (iblk m c 0 t : FVec Ideal S176x1024 .f32) (ix2 r d)
    = (m ((c : Thread nD τ).loc main_arg0) : FVec Ideal S1024x704 .f32) (ix2 d (⟨t.val * 176 + r.val, by have := lt t; omega⟩ : Fin 704)) := by
  blk_simp [iblk, idx t]
  entry_read
  pointwise []
  blk_ext [idx t]

/-- The weight's block at point t. -/
theorem b1 (t : Fin cfg0.N) (a : Fin 1) (r : Fin 176) (d : Fin 1024) : (iblk m c 1 t : FVec Ideal S1x176x1024 .f32) (ix3 a r d)
    = (m ((c : Thread nD τ).loc main_arg1) : FVec Ideal S1x1024x704 .f32) (ix3 a d (⟨t.val * 176 + r.val, by have := lt t; omega⟩ : Fin 704)) := by
  blk_simp [iblk, idx t]
  entry_read
  pointwise []
  blk_ext [idx t]

/-- The mean's block at point t. -/
theorem b2 (t : Fin cfg0.N) (a : Fin 1) (r : Fin 176) (d : Fin 1024) : (iblk m c 2 t : FVec Ideal S1x176x1024 .f32) (ix3 a r d)
    = (m ((c : Thread nD τ).loc main_arg2) : FVec Ideal S1x1024x704 .f32) (ix3 a d (⟨t.val * 176 + r.val, by have := lt t; omega⟩ : Fin 704)) := by
  blk_simp [iblk, idx t]
  entry_read
  pointwise []
  blk_ext [idx t]

/-- The mean square's block at point t. -/
theorem b3 (t : Fin cfg0.N) (a : Fin 1) (r : Fin 176) (d : Fin 1024) : (iblk m c 3 t : FVec Ideal S1x176x1024 .f32) (ix3 a r d)
    = (m ((c : Thread nD τ).loc main_arg3) : FVec Ideal S1x1024x704 .f32) (ix3 a d (⟨t.val * 176 + r.val, by have := lt t; omega⟩ : Fin 704)) := by
  blk_simp [iblk, idx t]
  entry_read
  pointwise []
  blk_ext [idx t]

/-- The body leaves the gradient. -/
theorem body_grad (x0 : FVec Ideal S176x1024 .f32) (x1 x2 x3 : FVec Ideal S1x176x1024 .f32) (a : Fin 1) (r : Fin 176) (d : Fin 1024) :
    out0_4 (F := Ideal) x0 x1 x2 x3 (ix3 a r d) = x0 (ix2 r d) := by
  obtain rfl : a = 0 := Subsingleton.elim _ _
  frame_out
  pointwise [k0_pay1, k0_pay2, k0_pay3, k0_pay4, k0_pay5, k0_pay6, k0_pay7, k0_pay8]

/-- The kernel's result that holds the gradient. -/
theorem result_grad : (dats m 0 c).arrAt 4 cfg0.N = grad (m ((c : Thread nD τ).loc main_arg0)) := by
  refine (dats m 0 c).arrAt_eq_of_covers 4 _ (by decide +kernel) fun t _ y => ?_
  blk_simp
  rw [after0_4]
  obtain ⟨a, r, d, rfl⟩ : ∃ (a : Fin 1) (r : Fin 176) (d : Fin 1024), y = ix3 a r d := ⟨y 0, y 1, y 2, eq_ix3 y⟩
  refine (body_grad (iblk m c 0 t) (iblk m c 1 t) (iblk m c 2 t) (iblk m c 3 t) a r d).trans ?_
  refine Eq.trans (b := grad (m ((c : Thread nD τ).loc main_arg0)) (ix3 a (⟨t.val * 176 + r.val, by have := lt t; omega⟩ : Fin 704) d)) ?_ ?_
  · exact b0 m c t r d
  · blk_ext [idx t]

/-- The body leaves the change. -/
theorem body_delta (x0 : FVec Ideal S176x1024 .f32) (x1 x2 x3 : FVec Ideal S1x176x1024 .f32) (a : Fin 1) (r : Fin 176) (d : Fin 1024) :
    out0_5 (F := Ideal) x0 x1 x2 x3 (ix3 a r d) = Adam.delta (x1 (ix3 a r d)) (x0 (ix2 r d)) (x2 (ix3 a r d)) (x3 (ix3 a r d)) := by
  obtain rfl : a = 0 := Subsingleton.elim _ _
  frame_out
  pointwise [k0_pay1, k0_pay2, k0_pay3, k0_pay4, k0_pay5, k0_pay6, k0_pay7, k0_pay8]
  rfl

/-- The kernel's result that holds the change. -/
theorem result_delta : (dats m 0 c).arrAt 5 cfg0.N = delta (m ((c : Thread nD τ).loc main_arg1)) (m ((c : Thread nD τ).loc main_arg0)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨a, r, d, rfl⟩ : ∃ (a : Fin 1) (r : Fin 176) (d : Fin 1024), y = ix3 a r d := ⟨y 0, y 1, y 2, eq_ix3 y⟩
  refine (body_delta (iblk m c 0 t) (iblk m c 1 t) (iblk m c 2 t) (iblk m c 3 t) a r d).trans ?_
  refine Eq.trans (b := delta (m ((c : Thread nD τ).loc main_arg1)) (m ((c : Thread nD τ).loc main_arg0)) (m ((c : Thread nD τ).loc main_arg2)) (m ((c : Thread nD τ).loc main_arg3)) (ix3 a (⟨t.val * 176 + r.val, by have := lt t; omega⟩ : Fin 704) d)) ?_ ?_
  · show Adam.delta _ _ _ _ = Adam.delta _ _ _ _
    exact Adam.delta_congr (b1 m c t a r d) (b0 m c t r d) (b2 m c t a r d) (b3 m c t a r d)
  · blk_ext [idx t]

/-- The body leaves the new mean. -/
theorem body_mean (x0 : FVec Ideal S176x1024 .f32) (x1 x2 x3 : FVec Ideal S1x176x1024 .f32) (a : Fin 1) (r : Fin 176) (d : Fin 1024) :
    out0_6 (F := Ideal) x0 x1 x2 x3 (ix3 a r d) = Adam.mean (x0 (ix2 r d)) (x2 (ix3 a r d)) := by
  obtain rfl : a = 0 := Subsingleton.elim _ _
  frame_out
  pointwise [k0_pay1, k0_pay2, k0_pay3, k0_pay4, k0_pay5, k0_pay6, k0_pay7, k0_pay8]
  rfl

/-- The kernel's result that holds the new mean. -/
theorem result_mean : (dats m 0 c).arrAt 6 cfg0.N = mean (m ((c : Thread nD τ).loc main_arg0)) (m ((c : Thread nD τ).loc main_arg2)) := by
  refine (dats m 0 c).arrAt_eq_of_covers 6 _ (by decide +kernel) fun t _ y => ?_
  blk_simp
  rw [after0_6]
  obtain ⟨a, r, d, rfl⟩ : ∃ (a : Fin 1) (r : Fin 176) (d : Fin 1024), y = ix3 a r d := ⟨y 0, y 1, y 2, eq_ix3 y⟩
  refine (body_mean (iblk m c 0 t) (iblk m c 1 t) (iblk m c 2 t) (iblk m c 3 t) a r d).trans ?_
  refine Eq.trans (b := mean (m ((c : Thread nD τ).loc main_arg0)) (m ((c : Thread nD τ).loc main_arg2)) (ix3 a (⟨t.val * 176 + r.val, by have := lt t; omega⟩ : Fin 704) d)) ?_ ?_
  · exact congrArg₂ Adam.mean (b0 m c t r d) (b2 m c t a r d)
  · blk_ext [idx t]

/-- The body leaves the new mean square. -/
theorem body_sq (x0 : FVec Ideal S176x1024 .f32) (x1 x2 x3 : FVec Ideal S1x176x1024 .f32) (a : Fin 1) (r : Fin 176) (d : Fin 1024) :
    out0_7 (F := Ideal) x0 x1 x2 x3 (ix3 a r d) = Adam.sq (x0 (ix2 r d)) (x3 (ix3 a r d)) := by
  obtain rfl : a = 0 := Subsingleton.elim _ _
  frame_out
  pointwise [k0_pay1, k0_pay2, k0_pay3, k0_pay4, k0_pay5, k0_pay6, k0_pay7, k0_pay8]
  rfl

/-- The kernel's result that holds the new mean square. -/
theorem result_sq : (dats m 0 c).arrAt 7 cfg0.N = sq (m ((c : Thread nD τ).loc main_arg0)) (m ((c : Thread nD τ).loc main_arg3)) := by
  refine (dats m 0 c).arrAt_eq_of_covers 7 _ (by decide +kernel) fun t _ y => ?_
  blk_simp
  rw [after0_7]
  obtain ⟨a, r, d, rfl⟩ : ∃ (a : Fin 1) (r : Fin 176) (d : Fin 1024), y = ix3 a r d := ⟨y 0, y 1, y 2, eq_ix3 y⟩
  refine (body_sq (iblk m c 0 t) (iblk m c 1 t) (iblk m c 2 t) (iblk m c 3 t) a r d).trans ?_
  refine Eq.trans (b := sq (m ((c : Thread nD τ).loc main_arg0)) (m ((c : Thread nD τ).loc main_arg3)) (ix3 a (⟨t.val * 176 + r.val, by have := lt t; omega⟩ : Fin 704) d)) ?_ ?_
  · exact congrArg₂ Adam.sq (b0 m c t r d) (b3 m c t a r d)
  · blk_ext [idx t]

end Cert.AdamGateIdeal.Arr

namespace Cert.AdamGateRefIdeal

/-- The reference's result that holds the gradient. -/
theorem result_grad (g : FVec Ideal S1024x704 .f32) (w m v : FVec Ideal S1x1024x704 .f32) :
    Read.val_main_v25 (F := Ideal) g = Cert.AdamGateIdeal.Arr.grad g := by
  funext i
  obtain ⟨a, r, d, rfl⟩ : ∃ (a : Fin 1) (r : Fin 704) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24, Read.val_main_v25, Read.val_main_v26, Read.val_main_v27, Read.val_main_v28]
  rfl

/-- The reference's result that holds the change. -/
theorem result_delta (g : FVec Ideal S1024x704 .f32) (w m v : FVec Ideal S1x1024x704 .f32) :
    Read.val_main_v26 (F := Ideal) g w m v = Cert.AdamGateIdeal.Arr.delta w g m v := by
  funext i
  obtain ⟨a, r, d, rfl⟩ : ∃ (a : Fin 1) (r : Fin 704) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24, Read.val_main_v25, Read.val_main_v26, Read.val_main_v27, Read.val_main_v28]
  rfl

/-- The reference's result that holds the new mean. -/
theorem result_mean (g : FVec Ideal S1024x704 .f32) (w m v : FVec Ideal S1x1024x704 .f32) :
    Read.val_main_v27 (F := Ideal) g m = Cert.AdamGateIdeal.Arr.mean g m := by
  funext i
  obtain ⟨a, r, d, rfl⟩ : ∃ (a : Fin 1) (r : Fin 704) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24, Read.val_main_v25, Read.val_main_v26, Read.val_main_v27, Read.val_main_v28]
  rfl

/-- The reference's result that holds the new mean square. -/
theorem result_sq (g : FVec Ideal S1024x704 .f32) (w m v : FVec Ideal S1x1024x704 .f32) :
    Read.val_main_v28 (F := Ideal) g v = Cert.AdamGateIdeal.Arr.sq g v := by
  funext i
  obtain ⟨a, r, d, rfl⟩ : ∃ (a : Fin 1) (r : Fin 704) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24, Read.val_main_v25, Read.val_main_v26, Read.val_main_v27, Read.val_main_v28]
  rfl

end Cert.AdamGateRefIdeal

namespace Cert.AdamGateJoin

/-- The kernel's results are the reference's. -/
theorem algebraic : Cert.algebraic_AdamGateIdeal_AdamGateRefIdeal := by
  pair_intro
  · run_from Cert.AdamGateIdeal.Value.run_blocks m g
  · run_from Cert.AdamGateRefIdeal.Value.run m' g'
    · exact ((Cert.AdamGateRefIdeal.Read.val_main_v25_eq _).trans (Cert.AdamGateRefIdeal.result_grad (m ((c.tc : Thread Cert.AdamGateIdeal.nD Cert.AdamGateIdeal.τ).loc Cert.AdamGateIdeal.main_arg0))
        (m ((c.tc : Thread Cert.AdamGateIdeal.nD Cert.AdamGateIdeal.τ).loc Cert.AdamGateIdeal.main_arg1))
        (m ((c.tc : Thread Cert.AdamGateIdeal.nD Cert.AdamGateIdeal.τ).loc Cert.AdamGateIdeal.main_arg2))
        (m ((c.tc : Thread Cert.AdamGateIdeal.nD Cert.AdamGateIdeal.τ).loc Cert.AdamGateIdeal.main_arg3)))).trans
        (Cert.AdamGateIdeal.Arr.result_grad m c).symm
    · exact ((Cert.AdamGateRefIdeal.Read.val_main_v26_eq _ _ _ _).trans (Cert.AdamGateRefIdeal.result_delta (m ((c.tc : Thread Cert.AdamGateIdeal.nD Cert.AdamGateIdeal.τ).loc Cert.AdamGateIdeal.main_arg0))
        (m ((c.tc : Thread Cert.AdamGateIdeal.nD Cert.AdamGateIdeal.τ).loc Cert.AdamGateIdeal.main_arg1))
        (m ((c.tc : Thread Cert.AdamGateIdeal.nD Cert.AdamGateIdeal.τ).loc Cert.AdamGateIdeal.main_arg2))
        (m ((c.tc : Thread Cert.AdamGateIdeal.nD Cert.AdamGateIdeal.τ).loc Cert.AdamGateIdeal.main_arg3)))).trans
        (Cert.AdamGateIdeal.Arr.result_delta m c).symm
    · exact ((Cert.AdamGateRefIdeal.Read.val_main_v27_eq _ _).trans (Cert.AdamGateRefIdeal.result_mean (m ((c.tc : Thread Cert.AdamGateIdeal.nD Cert.AdamGateIdeal.τ).loc Cert.AdamGateIdeal.main_arg0))
        (m ((c.tc : Thread Cert.AdamGateIdeal.nD Cert.AdamGateIdeal.τ).loc Cert.AdamGateIdeal.main_arg1))
        (m ((c.tc : Thread Cert.AdamGateIdeal.nD Cert.AdamGateIdeal.τ).loc Cert.AdamGateIdeal.main_arg2))
        (m ((c.tc : Thread Cert.AdamGateIdeal.nD Cert.AdamGateIdeal.τ).loc Cert.AdamGateIdeal.main_arg3)))).trans
        (Cert.AdamGateIdeal.Arr.result_mean m c).symm
    · exact ((Cert.AdamGateRefIdeal.Read.val_main_v28_eq _ _).trans (Cert.AdamGateRefIdeal.result_sq (m ((c.tc : Thread Cert.AdamGateIdeal.nD Cert.AdamGateIdeal.τ).loc Cert.AdamGateIdeal.main_arg0))
        (m ((c.tc : Thread Cert.AdamGateIdeal.nD Cert.AdamGateIdeal.τ).loc Cert.AdamGateIdeal.main_arg1))
        (m ((c.tc : Thread Cert.AdamGateIdeal.nD Cert.AdamGateIdeal.τ).loc Cert.AdamGateIdeal.main_arg2))
        (m ((c.tc : Thread Cert.AdamGateIdeal.nD Cert.AdamGateIdeal.τ).loc Cert.AdamGateIdeal.main_arg3)))).trans
        (Cert.AdamGateIdeal.Arr.result_sq m c).symm

end Cert.AdamGateJoin
-- ==== Proof.AdamDown.lean ====
/- The AdamW step of the down matrix. Entry by entry, both the kernel, a block of 176 rows at a time, and the
   reference make the same step. -/
module

public import proofs.«01_k».proof.Defs
public import proofs.«01_k».proof.Proof.Adam
public import proofs.«01_k».proof.Proof.Gen.AdamDownIdeal.Value
public import proofs.«01_k».proof.Proof.Gen.AdamDownRefIdeal.Run
public import proofs.«01_k».proof.Proof.Gen.AdamDownRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.AdamDownIdeal.Arr

open Cert.AdamDownIdeal Cert.AdamDownIdeal.Gen

/-- The number of grid points is 4. -/
theorem lt (t : Fin cfg0.N) : t.val < 4 := lt_of_lt_of_eq t.isLt N_0

/-- The block index of every window at every point. -/
theorem idx : ∀ t : Fin cfg0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The results, from the gradient g, the weight w and the moments m and v: the gradient itself; -/
def grad (g : FVec Ideal S704x1024 .f32) : FVec Ideal S1x704x1024 .f32 := fun i => g (ix2 (i 1) (i 2))
/-- the change of the weight; -/
def delta (w : FVec Ideal S1x704x1024 .f32) (g : FVec Ideal S704x1024 .f32) (m v : FVec Ideal S1x704x1024 .f32) : FVec Ideal S1x704x1024 .f32 :=
  fun i => Adam.delta (w (ix3 (i 0) (i 1) (i 2))) (g (ix2 (i 1) (i 2))) (m (ix3 (i 0) (i 1) (i 2))) (v (ix3 (i 0) (i 1) (i 2)))
/-- the new mean; -/
def mean (g : FVec Ideal S704x1024 .f32) (m : FVec Ideal S1x704x1024 .f32) : FVec Ideal S1x704x1024 .f32 :=
  fun i => Adam.mean (g (ix2 (i 1) (i 2))) (m (ix3 (i 0) (i 1) (i 2)))
/-- the new mean square. -/
def sq (g : FVec Ideal S704x1024 .f32) (v : FVec Ideal S1x704x1024 .f32) : FVec Ideal S1x704x1024 .f32 :=
  fun i => Adam.sq (g (ix2 (i 1) (i 2))) (v (ix3 (i 0) (i 1) (i 2)))

variable (m : (ℓ : Loc nD τ sig) → Buf (Elt Ideal) ℓ) (c : Dev nD)

/-- The gradient's block at point t: its rows from 176 t on. -/
theorem b0 (t : Fin cfg0.N) (r : Fin 176) (d : Fin 1024) : (iblk m c 0 t : FVec Ideal S176x1024 .f32) (ix2 r d)
    = (m ((c : Thread nD τ).loc main_arg0) : FVec Ideal S704x1024 .f32) (ix2 (⟨t.val * 176 + r.val, by have := lt t; omega⟩ : Fin 704) d) := by
  blk_ext [iblk, V, idx t]

/-- The weight's block at point t. -/
theorem b1 (t : Fin cfg0.N) (a : Fin 1) (r : Fin 176) (d : Fin 1024) : (iblk m c 1 t : FVec Ideal S1x176x1024 .f32) (ix3 a r d)
    = (m ((c : Thread nD τ).loc main_arg1) : FVec Ideal S1x704x1024 .f32) (ix3 a (⟨t.val * 176 + r.val, by have := lt t; omega⟩ : Fin 704) d) := by
  blk_ext [iblk, V, idx t]

/-- The mean's block at point t. -/
theorem b2 (t : Fin cfg0.N) (a : Fin 1) (r : Fin 176) (d : Fin 1024) : (iblk m c 2 t : FVec Ideal S1x176x1024 .f32) (ix3 a r d)
    = (m ((c : Thread nD τ).loc main_arg2) : FVec Ideal S1x704x1024 .f32) (ix3 a (⟨t.val * 176 + r.val, by have := lt t; omega⟩ : Fin 704) d) := by
  blk_ext [iblk, V, idx t]

/-- The mean square's block at point t. -/
theorem b3 (t : Fin cfg0.N) (a : Fin 1) (r : Fin 176) (d : Fin 1024) : (iblk m c 3 t : FVec Ideal S1x176x1024 .f32) (ix3 a r d)
    = (m ((c : Thread nD τ).loc main_arg3) : FVec Ideal S1x704x1024 .f32) (ix3 a (⟨t.val * 176 + r.val, by have := lt t; omega⟩ : Fin 704) d) := by
  blk_ext [iblk, V, idx t]

/-- The body leaves the gradient. -/
theorem body_grad (x0 : FVec Ideal S176x1024 .f32) (x1 x2 x3 : FVec Ideal S1x176x1024 .f32) (a : Fin 1) (r : Fin 176) (d : Fin 1024) :
    out0_4 (F := Ideal) x0 x1 x2 x3 (ix3 a r d) = x0 (ix2 r d) := by
  obtain rfl : a = 0 := Subsingleton.elim _ _
  frame_out
  pointwise [k0_pay1, k0_pay2, k0_pay3, k0_pay4, k0_pay5, k0_pay6, k0_pay7]

/-- The kernel's result that holds the gradient. -/
theorem result_grad : (dats m 0 c).arrAt 4 cfg0.N = grad (m ((c : Thread nD τ).loc main_arg0)) := by
  refine (dats m 0 c).arrAt_eq_of_covers 4 _ (by decide +kernel) fun t _ y => ?_
  blk_simp
  rw [after0_4]
  obtain ⟨a, r, d, rfl⟩ : ∃ (a : Fin 1) (r : Fin 176) (d : Fin 1024), y = ix3 a r d := ⟨y 0, y 1, y 2, eq_ix3 y⟩
  refine (body_grad (iblk m c 0 t) (iblk m c 1 t) (iblk m c 2 t) (iblk m c 3 t) a r d).trans ?_
  refine Eq.trans (b := grad (m ((c : Thread nD τ).loc main_arg0)) (ix3 a (⟨t.val * 176 + r.val, by have := lt t; omega⟩ : Fin 704) d)) ?_ ?_
  · exact b0 m c t r d
  · blk_ext [idx t]

/-- The body leaves the change. -/
theorem body_delta (x0 : FVec Ideal S176x1024 .f32) (x1 x2 x3 : FVec Ideal S1x176x1024 .f32) (a : Fin 1) (r : Fin 176) (d : Fin 1024) :
    out0_5 (F := Ideal) x0 x1 x2 x3 (ix3 a r d) = Adam.delta (x1 (ix3 a r d)) (x0 (ix2 r d)) (x2 (ix3 a r d)) (x3 (ix3 a r d)) := by
  obtain rfl : a = 0 := Subsingleton.elim _ _
  frame_out
  pointwise [k0_pay1, k0_pay2, k0_pay3, k0_pay4, k0_pay5, k0_pay6, k0_pay7]
  rfl

/-- The kernel's result that holds the change. -/
theorem result_delta : (dats m 0 c).arrAt 5 cfg0.N = delta (m ((c : Thread nD τ).loc main_arg1)) (m ((c : Thread nD τ).loc main_arg0)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨a, r, d, rfl⟩ : ∃ (a : Fin 1) (r : Fin 176) (d : Fin 1024), y = ix3 a r d := ⟨y 0, y 1, y 2, eq_ix3 y⟩
  refine (body_delta (iblk m c 0 t) (iblk m c 1 t) (iblk m c 2 t) (iblk m c 3 t) a r d).trans ?_
  refine Eq.trans (b := delta (m ((c : Thread nD τ).loc main_arg1)) (m ((c : Thread nD τ).loc main_arg0)) (m ((c : Thread nD τ).loc main_arg2)) (m ((c : Thread nD τ).loc main_arg3)) (ix3 a (⟨t.val * 176 + r.val, by have := lt t; omega⟩ : Fin 704) d)) ?_ ?_
  · show Adam.delta _ _ _ _ = Adam.delta _ _ _ _
    exact Adam.delta_congr (b1 m c t a r d) (b0 m c t r d) (b2 m c t a r d) (b3 m c t a r d)
  · blk_ext [idx t]

/-- The body leaves the new mean. -/
theorem body_mean (x0 : FVec Ideal S176x1024 .f32) (x1 x2 x3 : FVec Ideal S1x176x1024 .f32) (a : Fin 1) (r : Fin 176) (d : Fin 1024) :
    out0_6 (F := Ideal) x0 x1 x2 x3 (ix3 a r d) = Adam.mean (x0 (ix2 r d)) (x2 (ix3 a r d)) := by
  obtain rfl : a = 0 := Subsingleton.elim _ _
  frame_out
  pointwise [k0_pay1, k0_pay2, k0_pay3, k0_pay4, k0_pay5, k0_pay6, k0_pay7]
  rfl

/-- The kernel's result that holds the new mean. -/
theorem result_mean : (dats m 0 c).arrAt 6 cfg0.N = mean (m ((c : Thread nD τ).loc main_arg0)) (m ((c : Thread nD τ).loc main_arg2)) := by
  refine (dats m 0 c).arrAt_eq_of_covers 6 _ (by decide +kernel) fun t _ y => ?_
  blk_simp
  rw [after0_6]
  obtain ⟨a, r, d, rfl⟩ : ∃ (a : Fin 1) (r : Fin 176) (d : Fin 1024), y = ix3 a r d := ⟨y 0, y 1, y 2, eq_ix3 y⟩
  refine (body_mean (iblk m c 0 t) (iblk m c 1 t) (iblk m c 2 t) (iblk m c 3 t) a r d).trans ?_
  refine Eq.trans (b := mean (m ((c : Thread nD τ).loc main_arg0)) (m ((c : Thread nD τ).loc main_arg2)) (ix3 a (⟨t.val * 176 + r.val, by have := lt t; omega⟩ : Fin 704) d)) ?_ ?_
  · exact congrArg₂ Adam.mean (b0 m c t r d) (b2 m c t a r d)
  · blk_ext [idx t]

/-- The body leaves the new mean square. -/
theorem body_sq (x0 : FVec Ideal S176x1024 .f32) (x1 x2 x3 : FVec Ideal S1x176x1024 .f32) (a : Fin 1) (r : Fin 176) (d : Fin 1024) :
    out0_7 (F := Ideal) x0 x1 x2 x3 (ix3 a r d) = Adam.sq (x0 (ix2 r d)) (x3 (ix3 a r d)) := by
  obtain rfl : a = 0 := Subsingleton.elim _ _
  frame_out
  pointwise [k0_pay1, k0_pay2, k0_pay3, k0_pay4, k0_pay5, k0_pay6, k0_pay7]
  rfl

/-- The kernel's result that holds the new mean square. -/
theorem result_sq : (dats m 0 c).arrAt 7 cfg0.N = sq (m ((c : Thread nD τ).loc main_arg0)) (m ((c : Thread nD τ).loc main_arg3)) := by
  refine (dats m 0 c).arrAt_eq_of_covers 7 _ (by decide +kernel) fun t _ y => ?_
  blk_simp
  rw [after0_7]
  obtain ⟨a, r, d, rfl⟩ : ∃ (a : Fin 1) (r : Fin 176) (d : Fin 1024), y = ix3 a r d := ⟨y 0, y 1, y 2, eq_ix3 y⟩
  refine (body_sq (iblk m c 0 t) (iblk m c 1 t) (iblk m c 2 t) (iblk m c 3 t) a r d).trans ?_
  refine Eq.trans (b := sq (m ((c : Thread nD τ).loc main_arg0)) (m ((c : Thread nD τ).loc main_arg3)) (ix3 a (⟨t.val * 176 + r.val, by have := lt t; omega⟩ : Fin 704) d)) ?_ ?_
  · exact congrArg₂ Adam.sq (b0 m c t r d) (b3 m c t a r d)
  · blk_ext [idx t]

end Cert.AdamDownIdeal.Arr

namespace Cert.AdamDownRefIdeal

/-- The reference's result that holds the gradient. -/
theorem result_grad (g : FVec Ideal S704x1024 .f32) (w m v : FVec Ideal S1x704x1024 .f32) :
    Read.val_main_v0 (F := Ideal) g = Cert.AdamDownIdeal.Arr.grad g := by
  funext i
  obtain ⟨a, r, d, rfl⟩ : ∃ (a : Fin 1) (r : Fin 704) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24]
  rfl

/-- The reference's result that holds the change. -/
theorem result_delta (g : FVec Ideal S704x1024 .f32) (w m v : FVec Ideal S1x704x1024 .f32) :
    Read.val_main_v24 (F := Ideal) g w m v = Cert.AdamDownIdeal.Arr.delta w g m v := by
  funext i
  obtain ⟨a, r, d, rfl⟩ : ∃ (a : Fin 1) (r : Fin 704) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24]
  rfl

/-- The reference's result that holds the new mean. -/
theorem result_mean (g : FVec Ideal S704x1024 .f32) (w m v : FVec Ideal S1x704x1024 .f32) :
    Read.val_main_v5 (F := Ideal) g m = Cert.AdamDownIdeal.Arr.mean g m := by
  funext i
  obtain ⟨a, r, d, rfl⟩ : ∃ (a : Fin 1) (r : Fin 704) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24]
  rfl

/-- The reference's result that holds the new mean square. -/
theorem result_sq (g : FVec Ideal S704x1024 .f32) (w m v : FVec Ideal S1x704x1024 .f32) :
    Read.val_main_v11 (F := Ideal) g v = Cert.AdamDownIdeal.Arr.sq g v := by
  funext i
  obtain ⟨a, r, d, rfl⟩ : ∃ (a : Fin 1) (r : Fin 704) (d : Fin 1024), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24]
  rfl

end Cert.AdamDownRefIdeal

namespace Cert.AdamDownJoin

/-- The kernel's results are the reference's. -/
theorem algebraic : Cert.algebraic_AdamDownIdeal_AdamDownRefIdeal := by
  pair_intro
  · run_from Cert.AdamDownIdeal.Value.run_blocks m g
  · run_from Cert.AdamDownRefIdeal.Value.run m' g'
    · exact ((Cert.AdamDownRefIdeal.Read.val_main_v0_eq _).trans (Cert.AdamDownRefIdeal.result_grad (m ((c.tc : Thread Cert.AdamDownIdeal.nD Cert.AdamDownIdeal.τ).loc Cert.AdamDownIdeal.main_arg0))
        (m ((c.tc : Thread Cert.AdamDownIdeal.nD Cert.AdamDownIdeal.τ).loc Cert.AdamDownIdeal.main_arg1))
        (m ((c.tc : Thread Cert.AdamDownIdeal.nD Cert.AdamDownIdeal.τ).loc Cert.AdamDownIdeal.main_arg2))
        (m ((c.tc : Thread Cert.AdamDownIdeal.nD Cert.AdamDownIdeal.τ).loc Cert.AdamDownIdeal.main_arg3)))).trans
        (Cert.AdamDownIdeal.Arr.result_grad m c).symm
    · exact ((Cert.AdamDownRefIdeal.Read.val_main_v24_eq _ _ _ _).trans (Cert.AdamDownRefIdeal.result_delta (m ((c.tc : Thread Cert.AdamDownIdeal.nD Cert.AdamDownIdeal.τ).loc Cert.AdamDownIdeal.main_arg0))
        (m ((c.tc : Thread Cert.AdamDownIdeal.nD Cert.AdamDownIdeal.τ).loc Cert.AdamDownIdeal.main_arg1))
        (m ((c.tc : Thread Cert.AdamDownIdeal.nD Cert.AdamDownIdeal.τ).loc Cert.AdamDownIdeal.main_arg2))
        (m ((c.tc : Thread Cert.AdamDownIdeal.nD Cert.AdamDownIdeal.τ).loc Cert.AdamDownIdeal.main_arg3)))).trans
        (Cert.AdamDownIdeal.Arr.result_delta m c).symm
    · exact ((Cert.AdamDownRefIdeal.Read.val_main_v5_eq _ _).trans (Cert.AdamDownRefIdeal.result_mean (m ((c.tc : Thread Cert.AdamDownIdeal.nD Cert.AdamDownIdeal.τ).loc Cert.AdamDownIdeal.main_arg0))
        (m ((c.tc : Thread Cert.AdamDownIdeal.nD Cert.AdamDownIdeal.τ).loc Cert.AdamDownIdeal.main_arg1))
        (m ((c.tc : Thread Cert.AdamDownIdeal.nD Cert.AdamDownIdeal.τ).loc Cert.AdamDownIdeal.main_arg2))
        (m ((c.tc : Thread Cert.AdamDownIdeal.nD Cert.AdamDownIdeal.τ).loc Cert.AdamDownIdeal.main_arg3)))).trans
        (Cert.AdamDownIdeal.Arr.result_mean m c).symm
    · exact ((Cert.AdamDownRefIdeal.Read.val_main_v11_eq _ _).trans (Cert.AdamDownRefIdeal.result_sq (m ((c.tc : Thread Cert.AdamDownIdeal.nD Cert.AdamDownIdeal.τ).loc Cert.AdamDownIdeal.main_arg0))
        (m ((c.tc : Thread Cert.AdamDownIdeal.nD Cert.AdamDownIdeal.τ).loc Cert.AdamDownIdeal.main_arg1))
        (m ((c.tc : Thread Cert.AdamDownIdeal.nD Cert.AdamDownIdeal.τ).loc Cert.AdamDownIdeal.main_arg2))
        (m ((c.tc : Thread Cert.AdamDownIdeal.nD Cert.AdamDownIdeal.τ).loc Cert.AdamDownIdeal.main_arg3)))).trans
        (Cert.AdamDownIdeal.Arr.result_sq m c).symm

end Cert.AdamDownJoin
-- ==== Proof.AdamLora.lean ====
/- The AdamW step of the three low-rank matrices. Their gradients are put one under another before the call, which has no grid and takes
   them apart again. Entry by entry, both the kernel and the reference make the same step. -/
module

public import proofs.«01_k».proof.Defs
public import proofs.«01_k».proof.Proof.Adam
public import proofs.«01_k».proof.Proof.Gen.AdamLoraIdeal.Value
public import proofs.«01_k».proof.Proof.Gen.AdamLoraRefIdeal.Run
public import proofs.«01_k».proof.Proof.Gen.AdamLoraRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.AdamLoraIdeal.Arr

open Cert.AdamLoraIdeal Cert.AdamLoraIdeal.Gen

/-- The only point's block index: every window is its whole array. -/
theorem idx : ∀ t : Fin cfg0.N, win0_0.index t = ![0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ win0_8.index t = ![0, 0, 0] ∧ win0_9.index t = ![0, 0, 0] ∧ win0_10.index t = ![0, 0, 0] ∧ win0_11.index t = ![0, 0, 0] ∧ win0_12.index t = ![0, 0, 0] ∧ win0_13.index t = ![0, 0, 0] ∧ win0_14.index t = ![0, 0, 0] ∧ win0_15.index t = ![0, 0, 0] ∧ win0_16.index t = ![0, 0, 0] ∧ win0_17.index t = ![0, 0, 0] ∧ win0_18.index t = ![0, 0, 0] ∧ win0_19.index t = ![0, 0, 0] ∧ win0_20.index t = ![0, 0, 0] ∧ win0_21.index t = ![0, 0, 0] :=
  (by decide +kernel : ∀ t : Fin grid0.N, _)

/-- The shape of a gradient of r rows; -/
abbrev Sh (r : ℕ) : Shape := ⟨2, ![r, 128]⟩
/-- and of its weight and moments. -/
abbrev Sh1 (r : ℕ) : Shape := ⟨3, ![1, r, 128]⟩

/-- The results of a matrix of r rows, from its gradient g, the weight w and the moments m and v: the gradient itself; -/
def grad {r : ℕ} (g : FVec Ideal (Sh r) .f32) : FVec Ideal (Sh1 r) .f32 := fun i => g (ix2 (i 1) (i 2))
/-- the change of the weight; -/
def delta {r : ℕ} (w : FVec Ideal (Sh1 r) .f32) (g : FVec Ideal (Sh r) .f32) (m v : FVec Ideal (Sh1 r) .f32) :
    FVec Ideal (Sh1 r) .f32 := fun i => Adam.delta (w i) (g (ix2 (i 1) (i 2))) (m i) (v i)
/-- the new mean; -/
def mean {r : ℕ} (g : FVec Ideal (Sh r) .f32) (m : FVec Ideal (Sh1 r) .f32) : FVec Ideal (Sh1 r) .f32 :=
  fun i => Adam.mean (g (ix2 (i 1) (i 2))) (m i)
/-- the new mean square. -/
def sq {r : ℕ} (g : FVec Ideal (Sh r) .f32) (v : FVec Ideal (Sh1 r) .f32) : FVec Ideal (Sh1 r) .f32 :=
  fun i => Adam.sq (g (ix2 (i 1) (i 2))) (v i)

variable (m : (ℓ : Loc nD τ sig) → Buf (Elt Ideal) ℓ) (c : Dev nD)

/-- Of the three gradients put one under another, the rows from 0 on are the decay gradient's. -/
theorem rows0 (x0 x1 : FVec Ideal S64x128 .f32) (x2 : FVec Ideal S128x128 .f32) (r : Fin 64) (d : Fin 128) :
    concatenate S256x128 0 [⟨S64x128, x0⟩, ⟨S64x128, x1⟩, ⟨S128x128, x2⟩] facts.concatenates_S64x128_S64x128_S128x128_S256x128_d0
      (ix2 (⟨0 + r.val, by omega⟩ : Fin 256) d) = x0 (ix2 r d) := by
  pointwise []

/-- The gradients' block holds the decay gradient from row 0 on. -/
theorem bg0 (t : Fin cfg0.N) (r : Fin 64) (d : Fin 128) : (iblk m c 0 t : FVec Ideal S256x128 .f32) (ix2 (⟨0 + r.val, by omega⟩ : Fin 256) d)
    = (m ((c : Thread nD τ).loc main_arg0) : FVec Ideal S64x128 .f32) (ix2 r d) := by
  blk_simp [iblk, idx t]
  entry_read
  refine Eq.trans ?_ (rows0 (m ((c : Thread nD τ).loc main_arg0)) (m ((c : Thread nD τ).loc main_arg1)) (m ((c : Thread nD τ).loc main_arg2)) r d)
  blk_ext [idx t]

/-- Of the three gradients put one under another, the rows from 64 on are the iclr gradient's. -/
theorem rows1 (x0 x1 : FVec Ideal S64x128 .f32) (x2 : FVec Ideal S128x128 .f32) (r : Fin 64) (d : Fin 128) :
    concatenate S256x128 0 [⟨S64x128, x0⟩, ⟨S64x128, x1⟩, ⟨S128x128, x2⟩] facts.concatenates_S64x128_S64x128_S128x128_S256x128_d0
      (ix2 (⟨64 + r.val, by omega⟩ : Fin 256) d) = x1 (ix2 r d) := by
  pointwise []

/-- The gradients' block holds the iclr gradient from row 64 on. -/
theorem bg1 (t : Fin cfg0.N) (r : Fin 64) (d : Fin 128) : (iblk m c 0 t : FVec Ideal S256x128 .f32) (ix2 (⟨64 + r.val, by omega⟩ : Fin 256) d)
    = (m ((c : Thread nD τ).loc main_arg1) : FVec Ideal S64x128 .f32) (ix2 r d) := by
  blk_simp [iblk, idx t]
  entry_read
  refine Eq.trans ?_ (rows1 (m ((c : Thread nD τ).loc main_arg0)) (m ((c : Thread nD τ).loc main_arg1)) (m ((c : Thread nD τ).loc main_arg2)) r d)
  blk_ext [idx t]

/-- Of the three gradients put one under another, the rows from 128 on are the gate gradient's. -/
theorem rows2 (x0 x1 : FVec Ideal S64x128 .f32) (x2 : FVec Ideal S128x128 .f32) (r : Fin 128) (d : Fin 128) :
    concatenate S256x128 0 [⟨S64x128, x0⟩, ⟨S64x128, x1⟩, ⟨S128x128, x2⟩] facts.concatenates_S64x128_S64x128_S128x128_S256x128_d0
      (ix2 (⟨128 + r.val, by omega⟩ : Fin 256) d) = x2 (ix2 r d) := by
  pointwise []
  refine (dif_neg (show ¬ 128 + r.val < 64 by omega)).trans ((dif_neg (show ¬ 128 + r.val - 64 < 64 by omega)).trans ?_)
  congr 2
  exact Fin.ext (by dsimp only; omega)

/-- The gradients' block holds the gate gradient from row 128 on. -/
theorem bg2 (t : Fin cfg0.N) (r : Fin 128) (d : Fin 128) : (iblk m c 0 t : FVec Ideal S256x128 .f32) (ix2 (⟨128 + r.val, by omega⟩ : Fin 256) d)
    = (m ((c : Thread nD τ).loc main_arg2) : FVec Ideal S128x128 .f32) (ix2 r d) := by
  blk_simp [iblk, idx t]
  entry_read
  refine Eq.trans ?_ (rows2 (m ((c : Thread nD τ).loc main_arg0)) (m ((c : Thread nD τ).loc main_arg1)) (m ((c : Thread nD τ).loc main_arg2)) r d)
  blk_ext [idx t]

/-- Window 1 is its whole argument. -/
theorem b1 (t : Fin cfg0.N) (a : Fin 1) (r : Fin 64) (d : Fin 128) : (iblk m c 1 t : FVec Ideal S1x64x128 .f32) (ix3 a r d)
    = (m ((c : Thread nD τ).loc main_arg3) : FVec Ideal S1x64x128 .f32) (ix3 a r d) := by
  blk_ext [iblk, V, idx t]

/-- Window 2 is its whole argument. -/
theorem b2 (t : Fin cfg0.N) (a : Fin 1) (r : Fin 64) (d : Fin 128) : (iblk m c 2 t : FVec Ideal S1x64x128 .f32) (ix3 a r d)
    = (m ((c : Thread nD τ).loc main_arg4) : FVec Ideal S1x64x128 .f32) (ix3 a r d) := by
  blk_ext [iblk, V, idx t]

/-- Window 3 is its whole argument. -/
theorem b3 (t : Fin cfg0.N) (a : Fin 1) (r : Fin 128) (d : Fin 128) : (iblk m c 3 t : FVec Ideal S1x128x128 .f32) (ix3 a r d)
    = (m ((c : Thread nD τ).loc main_arg5) : FVec Ideal S1x128x128 .f32) (ix3 a r d) := by
  blk_ext [iblk, V, idx t]

/-- Window 4 is its whole argument. -/
theorem b4 (t : Fin cfg0.N) (a : Fin 1) (r : Fin 64) (d : Fin 128) : (iblk m c 4 t : FVec Ideal S1x64x128 .f32) (ix3 a r d)
    = (m ((c : Thread nD τ).loc main_arg6) : FVec Ideal S1x64x128 .f32) (ix3 a r d) := by
  blk_ext [iblk, V, idx t]

/-- Window 5 is its whole argument. -/
theorem b5 (t : Fin cfg0.N) (a : Fin 1) (r : Fin 64) (d : Fin 128) : (iblk m c 5 t : FVec Ideal S1x64x128 .f32) (ix3 a r d)
    = (m ((c : Thread nD τ).loc main_arg7) : FVec Ideal S1x64x128 .f32) (ix3 a r d) := by
  blk_ext [iblk, V, idx t]

/-- Window 6 is its whole argument. -/
theorem b6 (t : Fin cfg0.N) (a : Fin 1) (r : Fin 128) (d : Fin 128) : (iblk m c 6 t : FVec Ideal S1x128x128 .f32) (ix3 a r d)
    = (m ((c : Thread nD τ).loc main_arg8) : FVec Ideal S1x128x128 .f32) (ix3 a r d) := by
  blk_ext [iblk, V, idx t]

/-- Window 7 is its whole argument. -/
theorem b7 (t : Fin cfg0.N) (a : Fin 1) (r : Fin 64) (d : Fin 128) : (iblk m c 7 t : FVec Ideal S1x64x128 .f32) (ix3 a r d)
    = (m ((c : Thread nD τ).loc main_arg9) : FVec Ideal S1x64x128 .f32) (ix3 a r d) := by
  blk_ext [iblk, V, idx t]

/-- Window 8 is its whole argument. -/
theorem b8 (t : Fin cfg0.N) (a : Fin 1) (r : Fin 64) (d : Fin 128) : (iblk m c 8 t : FVec Ideal S1x64x128 .f32) (ix3 a r d)
    = (m ((c : Thread nD τ).loc main_arg10) : FVec Ideal S1x64x128 .f32) (ix3 a r d) := by
  blk_ext [iblk, V, idx t]

/-- Window 9 is its whole argument. -/
theorem b9 (t : Fin cfg0.N) (a : Fin 1) (r : Fin 128) (d : Fin 128) : (iblk m c 9 t : FVec Ideal S1x128x128 .f32) (ix3 a r d)
    = (m ((c : Thread nD τ).loc main_arg11) : FVec Ideal S1x128x128 .f32) (ix3 a r d) := by
  blk_ext [iblk, V, idx t]

/-- The body leaves the gradient (decay). -/
theorem body_grad0 (x0 : FVec Ideal S256x128 .f32) (x1 x2 : FVec Ideal S1x64x128 .f32) (x3 : FVec Ideal S1x128x128 .f32)
    (x4 x5 : FVec Ideal S1x64x128 .f32) (x6 : FVec Ideal S1x128x128 .f32) (x7 x8 : FVec Ideal S1x64x128 .f32) (x9 : FVec Ideal S1x128x128 .f32)
    (a : Fin 1) (r : Fin 64) (d : Fin 128) : out0_10 (F := Ideal) x0 x1 x2 x3 x4 x5 x6 x7 x8 x9 (ix3 a r d) = x0 (ix2 (⟨0 + r.val, by omega⟩ : Fin 256) d) := by
  obtain rfl : a = 0 := Subsingleton.elim _ _
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  try rfl

/-- The kernel's result that holds the gradient (decay). -/
theorem result_grad0 : (dats m 0 c).arrAt 10 cfg0.N = grad (r := 64) (m ((c : Thread nD τ).loc main_arg0)) := by
  refine (dats m 0 c).arrAt_eq_of_covers 10 _ (by decide +kernel) fun t _ y => ?_
  blk_simp
  rw [after0_10]
  obtain ⟨a, r, d, rfl⟩ : ∃ (a : Fin 1) (r : Fin 64) (d : Fin 128), y = ix3 a r d := ⟨y 0, y 1, y 2, eq_ix3 y⟩
  refine (body_grad0 (iblk m c 0 t) (iblk m c 1 t) (iblk m c 2 t) (iblk m c 3 t) (iblk m c 4 t) (iblk m c 5 t) (iblk m c 6 t) (iblk m c 7 t) (iblk m c 8 t) (iblk m c 9 t) a r d).trans ?_
  refine Eq.trans (b := grad (r := 64) (m ((c : Thread nD τ).loc main_arg0)) (ix3 a r d)) ?_ ?_
  · exact bg0 m c t r d
  · blk_ext [idx t]

/-- The body leaves the gradient (iclr). -/
theorem body_grad1 (x0 : FVec Ideal S256x128 .f32) (x1 x2 : FVec Ideal S1x64x128 .f32) (x3 : FVec Ideal S1x128x128 .f32)
    (x4 x5 : FVec Ideal S1x64x128 .f32) (x6 : FVec Ideal S1x128x128 .f32) (x7 x8 : FVec Ideal S1x64x128 .f32) (x9 : FVec Ideal S1x128x128 .f32)
    (a : Fin 1) (r : Fin 64) (d : Fin 128) : out0_11 (F := Ideal) x0 x1 x2 x3 x4 x5 x6 x7 x8 x9 (ix3 a r d) = x0 (ix2 (⟨64 + r.val, by omega⟩ : Fin 256) d) := by
  obtain rfl : a = 0 := Subsingleton.elim _ _
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  try rfl

/-- The kernel's result that holds the gradient (iclr). -/
theorem result_grad1 : (dats m 0 c).arrAt 11 cfg0.N = grad (r := 64) (m ((c : Thread nD τ).loc main_arg1)) := by
  refine (dats m 0 c).arrAt_eq_of_covers 11 _ (by decide +kernel) fun t _ y => ?_
  blk_simp
  rw [after0_11]
  obtain ⟨a, r, d, rfl⟩ : ∃ (a : Fin 1) (r : Fin 64) (d : Fin 128), y = ix3 a r d := ⟨y 0, y 1, y 2, eq_ix3 y⟩
  refine (body_grad1 (iblk m c 0 t) (iblk m c 1 t) (iblk m c 2 t) (iblk m c 3 t) (iblk m c 4 t) (iblk m c 5 t) (iblk m c 6 t) (iblk m c 7 t) (iblk m c 8 t) (iblk m c 9 t) a r d).trans ?_
  refine Eq.trans (b := grad (r := 64) (m ((c : Thread nD τ).loc main_arg1)) (ix3 a r d)) ?_ ?_
  · exact bg1 m c t r d
  · blk_ext [idx t]

/-- The body leaves the gradient (gate). -/
theorem body_grad2 (x0 : FVec Ideal S256x128 .f32) (x1 x2 : FVec Ideal S1x64x128 .f32) (x3 : FVec Ideal S1x128x128 .f32)
    (x4 x5 : FVec Ideal S1x64x128 .f32) (x6 : FVec Ideal S1x128x128 .f32) (x7 x8 : FVec Ideal S1x64x128 .f32) (x9 : FVec Ideal S1x128x128 .f32)
    (a : Fin 1) (r : Fin 128) (d : Fin 128) : out0_12 (F := Ideal) x0 x1 x2 x3 x4 x5 x6 x7 x8 x9 (ix3 a r d) = x0 (ix2 (⟨128 + r.val, by omega⟩ : Fin 256) d) := by
  obtain rfl : a = 0 := Subsingleton.elim _ _
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  try rfl

/-- The kernel's result that holds the gradient (gate). -/
theorem result_grad2 : (dats m 0 c).arrAt 12 cfg0.N = grad (r := 128) (m ((c : Thread nD τ).loc main_arg2)) := by
  refine (dats m 0 c).arrAt_eq_of_covers 12 _ (by decide +kernel) fun t _ y => ?_
  blk_simp
  rw [after0_12]
  obtain ⟨a, r, d, rfl⟩ : ∃ (a : Fin 1) (r : Fin 128) (d : Fin 128), y = ix3 a r d := ⟨y 0, y 1, y 2, eq_ix3 y⟩
  refine (body_grad2 (iblk m c 0 t) (iblk m c 1 t) (iblk m c 2 t) (iblk m c 3 t) (iblk m c 4 t) (iblk m c 5 t) (iblk m c 6 t) (iblk m c 7 t) (iblk m c 8 t) (iblk m c 9 t) a r d).trans ?_
  refine Eq.trans (b := grad (r := 128) (m ((c : Thread nD τ).loc main_arg2)) (ix3 a r d)) ?_ ?_
  · exact bg2 m c t r d
  · blk_ext [idx t]

/-- The body leaves the change (decay). -/
theorem body_delta0 (x0 : FVec Ideal S256x128 .f32) (x1 x2 : FVec Ideal S1x64x128 .f32) (x3 : FVec Ideal S1x128x128 .f32)
    (x4 x5 : FVec Ideal S1x64x128 .f32) (x6 : FVec Ideal S1x128x128 .f32) (x7 x8 : FVec Ideal S1x64x128 .f32) (x9 : FVec Ideal S1x128x128 .f32)
    (a : Fin 1) (r : Fin 64) (d : Fin 128) : out0_13 (F := Ideal) x0 x1 x2 x3 x4 x5 x6 x7 x8 x9 (ix3 a r d) = Adam.delta (x1 (ix3 a r d)) (x0 (ix2 (⟨0 + r.val, by omega⟩ : Fin 256) d)) (x4 (ix3 a r d)) (x7 (ix3 a r d)) := by
  obtain rfl : a = 0 := Subsingleton.elim _ _
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  try rfl

/-- The kernel's result that holds the change (decay). -/
theorem result_delta0 : (dats m 0 c).arrAt 13 cfg0.N = delta (r := 64) (m ((c : Thread nD τ).loc main_arg3)) (m ((c : Thread nD τ).loc main_arg0)) (m ((c : Thread nD τ).loc main_arg6)) (m ((c : Thread nD τ).loc main_arg9)) := by
  refine (dats m 0 c).arrAt_eq_of_covers 13 _ (by decide +kernel) fun t _ y => ?_
  blk_simp
  rw [after0_13]
  obtain ⟨a, r, d, rfl⟩ : ∃ (a : Fin 1) (r : Fin 64) (d : Fin 128), y = ix3 a r d := ⟨y 0, y 1, y 2, eq_ix3 y⟩
  refine (body_delta0 (iblk m c 0 t) (iblk m c 1 t) (iblk m c 2 t) (iblk m c 3 t) (iblk m c 4 t) (iblk m c 5 t) (iblk m c 6 t) (iblk m c 7 t) (iblk m c 8 t) (iblk m c 9 t) a r d).trans ?_
  refine Eq.trans (b := delta (r := 64) (m ((c : Thread nD τ).loc main_arg3)) (m ((c : Thread nD τ).loc main_arg0)) (m ((c : Thread nD τ).loc main_arg6)) (m ((c : Thread nD τ).loc main_arg9)) (ix3 a r d)) ?_ ?_
  · exact Adam.delta_congr (b1 m c t a r d) (bg0 m c t r d) (b4 m c t a r d) (b7 m c t a r d)
  · blk_ext [idx t]

/-- The body leaves the change (iclr). -/
theorem body_delta1 (x0 : FVec Ideal S256x128 .f32) (x1 x2 : FVec Ideal S1x64x128 .f32) (x3 : FVec Ideal S1x128x128 .f32)
    (x4 x5 : FVec Ideal S1x64x128 .f32) (x6 : FVec Ideal S1x128x128 .f32) (x7 x8 : FVec Ideal S1x64x128 .f32) (x9 : FVec Ideal S1x128x128 .f32)
    (a : Fin 1) (r : Fin 64) (d : Fin 128) : out0_14 (F := Ideal) x0 x1 x2 x3 x4 x5 x6 x7 x8 x9 (ix3 a r d) = Adam.delta (x2 (ix3 a r d)) (x0 (ix2 (⟨64 + r.val, by omega⟩ : Fin 256) d)) (x5 (ix3 a r d)) (x8 (ix3 a r d)) := by
  obtain rfl : a = 0 := Subsingleton.elim _ _
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  try rfl

/-- The kernel's result that holds the change (iclr). -/
theorem result_delta1 : (dats m 0 c).arrAt 14 cfg0.N = delta (r := 64) (m ((c : Thread nD τ).loc main_arg4)) (m ((c : Thread nD τ).loc main_arg1)) (m ((c : Thread nD τ).loc main_arg7)) (m ((c : Thread nD τ).loc main_arg10)) := by
  refine (dats m 0 c).arrAt_eq_of_covers 14 _ (by decide +kernel) fun t _ y => ?_
  blk_simp
  rw [after0_14]
  obtain ⟨a, r, d, rfl⟩ : ∃ (a : Fin 1) (r : Fin 64) (d : Fin 128), y = ix3 a r d := ⟨y 0, y 1, y 2, eq_ix3 y⟩
  refine (body_delta1 (iblk m c 0 t) (iblk m c 1 t) (iblk m c 2 t) (iblk m c 3 t) (iblk m c 4 t) (iblk m c 5 t) (iblk m c 6 t) (iblk m c 7 t) (iblk m c 8 t) (iblk m c 9 t) a r d).trans ?_
  refine Eq.trans (b := delta (r := 64) (m ((c : Thread nD τ).loc main_arg4)) (m ((c : Thread nD τ).loc main_arg1)) (m ((c : Thread nD τ).loc main_arg7)) (m ((c : Thread nD τ).loc main_arg10)) (ix3 a r d)) ?_ ?_
  · exact Adam.delta_congr (b2 m c t a r d) (bg1 m c t r d) (b5 m c t a r d) (b8 m c t a r d)
  · blk_ext [idx t]

/-- The body leaves the change (gate). -/
theorem body_delta2 (x0 : FVec Ideal S256x128 .f32) (x1 x2 : FVec Ideal S1x64x128 .f32) (x3 : FVec Ideal S1x128x128 .f32)
    (x4 x5 : FVec Ideal S1x64x128 .f32) (x6 : FVec Ideal S1x128x128 .f32) (x7 x8 : FVec Ideal S1x64x128 .f32) (x9 : FVec Ideal S1x128x128 .f32)
    (a : Fin 1) (r : Fin 128) (d : Fin 128) : out0_15 (F := Ideal) x0 x1 x2 x3 x4 x5 x6 x7 x8 x9 (ix3 a r d) = Adam.delta (x3 (ix3 a r d)) (x0 (ix2 (⟨128 + r.val, by omega⟩ : Fin 256) d)) (x6 (ix3 a r d)) (x9 (ix3 a r d)) := by
  obtain rfl : a = 0 := Subsingleton.elim _ _
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  try rfl

/-- The kernel's result that holds the change (gate). -/
theorem result_delta2 : (dats m 0 c).arrAt 15 cfg0.N = delta (r := 128) (m ((c : Thread nD τ).loc main_arg5)) (m ((c : Thread nD τ).loc main_arg2)) (m ((c : Thread nD τ).loc main_arg8)) (m ((c : Thread nD τ).loc main_arg11)) := by
  refine (dats m 0 c).arrAt_eq_of_covers 15 _ (by decide +kernel) fun t _ y => ?_
  blk_simp
  rw [after0_15]
  obtain ⟨a, r, d, rfl⟩ : ∃ (a : Fin 1) (r : Fin 128) (d : Fin 128), y = ix3 a r d := ⟨y 0, y 1, y 2, eq_ix3 y⟩
  refine (body_delta2 (iblk m c 0 t) (iblk m c 1 t) (iblk m c 2 t) (iblk m c 3 t) (iblk m c 4 t) (iblk m c 5 t) (iblk m c 6 t) (iblk m c 7 t) (iblk m c 8 t) (iblk m c 9 t) a r d).trans ?_
  refine Eq.trans (b := delta (r := 128) (m ((c : Thread nD τ).loc main_arg5)) (m ((c : Thread nD τ).loc main_arg2)) (m ((c : Thread nD τ).loc main_arg8)) (m ((c : Thread nD τ).loc main_arg11)) (ix3 a r d)) ?_ ?_
  · exact Adam.delta_congr (b3 m c t a r d) (bg2 m c t r d) (b6 m c t a r d) (b9 m c t a r d)
  · blk_ext [idx t]

/-- The body leaves the new mean (decay). -/
theorem body_mean0 (x0 : FVec Ideal S256x128 .f32) (x1 x2 : FVec Ideal S1x64x128 .f32) (x3 : FVec Ideal S1x128x128 .f32)
    (x4 x5 : FVec Ideal S1x64x128 .f32) (x6 : FVec Ideal S1x128x128 .f32) (x7 x8 : FVec Ideal S1x64x128 .f32) (x9 : FVec Ideal S1x128x128 .f32)
    (a : Fin 1) (r : Fin 64) (d : Fin 128) : out0_16 (F := Ideal) x0 x1 x2 x3 x4 x5 x6 x7 x8 x9 (ix3 a r d) = Adam.mean (x0 (ix2 (⟨0 + r.val, by omega⟩ : Fin 256) d)) (x4 (ix3 a r d)) := by
  obtain rfl : a = 0 := Subsingleton.elim _ _
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  try rfl

/-- The kernel's result that holds the new mean (decay). -/
theorem result_mean0 : (dats m 0 c).arrAt 16 cfg0.N = mean (r := 64) (m ((c : Thread nD τ).loc main_arg0)) (m ((c : Thread nD τ).loc main_arg6)) := by
  refine (dats m 0 c).arrAt_eq_of_covers 16 _ (by decide +kernel) fun t _ y => ?_
  blk_simp
  rw [after0_16]
  obtain ⟨a, r, d, rfl⟩ : ∃ (a : Fin 1) (r : Fin 64) (d : Fin 128), y = ix3 a r d := ⟨y 0, y 1, y 2, eq_ix3 y⟩
  refine (body_mean0 (iblk m c 0 t) (iblk m c 1 t) (iblk m c 2 t) (iblk m c 3 t) (iblk m c 4 t) (iblk m c 5 t) (iblk m c 6 t) (iblk m c 7 t) (iblk m c 8 t) (iblk m c 9 t) a r d).trans ?_
  refine Eq.trans (b := mean (r := 64) (m ((c : Thread nD τ).loc main_arg0)) (m ((c : Thread nD τ).loc main_arg6)) (ix3 a r d)) ?_ ?_
  · exact congrArg₂ Adam.mean (bg0 m c t r d) (b4 m c t a r d)
  · blk_ext [idx t]

/-- The body leaves the new mean (iclr). -/
theorem body_mean1 (x0 : FVec Ideal S256x128 .f32) (x1 x2 : FVec Ideal S1x64x128 .f32) (x3 : FVec Ideal S1x128x128 .f32)
    (x4 x5 : FVec Ideal S1x64x128 .f32) (x6 : FVec Ideal S1x128x128 .f32) (x7 x8 : FVec Ideal S1x64x128 .f32) (x9 : FVec Ideal S1x128x128 .f32)
    (a : Fin 1) (r : Fin 64) (d : Fin 128) : out0_17 (F := Ideal) x0 x1 x2 x3 x4 x5 x6 x7 x8 x9 (ix3 a r d) = Adam.mean (x0 (ix2 (⟨64 + r.val, by omega⟩ : Fin 256) d)) (x5 (ix3 a r d)) := by
  obtain rfl : a = 0 := Subsingleton.elim _ _
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  try rfl

/-- The kernel's result that holds the new mean (iclr). -/
theorem result_mean1 : (dats m 0 c).arrAt 17 cfg0.N = mean (r := 64) (m ((c : Thread nD τ).loc main_arg1)) (m ((c : Thread nD τ).loc main_arg7)) := by
  refine (dats m 0 c).arrAt_eq_of_covers 17 _ (by decide +kernel) fun t _ y => ?_
  blk_simp
  rw [after0_17]
  obtain ⟨a, r, d, rfl⟩ : ∃ (a : Fin 1) (r : Fin 64) (d : Fin 128), y = ix3 a r d := ⟨y 0, y 1, y 2, eq_ix3 y⟩
  refine (body_mean1 (iblk m c 0 t) (iblk m c 1 t) (iblk m c 2 t) (iblk m c 3 t) (iblk m c 4 t) (iblk m c 5 t) (iblk m c 6 t) (iblk m c 7 t) (iblk m c 8 t) (iblk m c 9 t) a r d).trans ?_
  refine Eq.trans (b := mean (r := 64) (m ((c : Thread nD τ).loc main_arg1)) (m ((c : Thread nD τ).loc main_arg7)) (ix3 a r d)) ?_ ?_
  · exact congrArg₂ Adam.mean (bg1 m c t r d) (b5 m c t a r d)
  · blk_ext [idx t]

/-- The body leaves the new mean (gate). -/
theorem body_mean2 (x0 : FVec Ideal S256x128 .f32) (x1 x2 : FVec Ideal S1x64x128 .f32) (x3 : FVec Ideal S1x128x128 .f32)
    (x4 x5 : FVec Ideal S1x64x128 .f32) (x6 : FVec Ideal S1x128x128 .f32) (x7 x8 : FVec Ideal S1x64x128 .f32) (x9 : FVec Ideal S1x128x128 .f32)
    (a : Fin 1) (r : Fin 128) (d : Fin 128) : out0_18 (F := Ideal) x0 x1 x2 x3 x4 x5 x6 x7 x8 x9 (ix3 a r d) = Adam.mean (x0 (ix2 (⟨128 + r.val, by omega⟩ : Fin 256) d)) (x6 (ix3 a r d)) := by
  obtain rfl : a = 0 := Subsingleton.elim _ _
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  try rfl

/-- The kernel's result that holds the new mean (gate). -/
theorem result_mean2 : (dats m 0 c).arrAt 18 cfg0.N = mean (r := 128) (m ((c : Thread nD τ).loc main_arg2)) (m ((c : Thread nD τ).loc main_arg8)) := by
  refine (dats m 0 c).arrAt_eq_of_covers 18 _ (by decide +kernel) fun t _ y => ?_
  blk_simp
  rw [after0_18]
  obtain ⟨a, r, d, rfl⟩ : ∃ (a : Fin 1) (r : Fin 128) (d : Fin 128), y = ix3 a r d := ⟨y 0, y 1, y 2, eq_ix3 y⟩
  refine (body_mean2 (iblk m c 0 t) (iblk m c 1 t) (iblk m c 2 t) (iblk m c 3 t) (iblk m c 4 t) (iblk m c 5 t) (iblk m c 6 t) (iblk m c 7 t) (iblk m c 8 t) (iblk m c 9 t) a r d).trans ?_
  refine Eq.trans (b := mean (r := 128) (m ((c : Thread nD τ).loc main_arg2)) (m ((c : Thread nD τ).loc main_arg8)) (ix3 a r d)) ?_ ?_
  · exact congrArg₂ Adam.mean (bg2 m c t r d) (b6 m c t a r d)
  · blk_ext [idx t]

/-- The body leaves the new mean square (decay). -/
theorem body_sq0 (x0 : FVec Ideal S256x128 .f32) (x1 x2 : FVec Ideal S1x64x128 .f32) (x3 : FVec Ideal S1x128x128 .f32)
    (x4 x5 : FVec Ideal S1x64x128 .f32) (x6 : FVec Ideal S1x128x128 .f32) (x7 x8 : FVec Ideal S1x64x128 .f32) (x9 : FVec Ideal S1x128x128 .f32)
    (a : Fin 1) (r : Fin 64) (d : Fin 128) : out0_19 (F := Ideal) x0 x1 x2 x3 x4 x5 x6 x7 x8 x9 (ix3 a r d) = Adam.sq (x0 (ix2 (⟨0 + r.val, by omega⟩ : Fin 256) d)) (x7 (ix3 a r d)) := by
  obtain rfl : a = 0 := Subsingleton.elim _ _
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  try rfl

/-- The kernel's result that holds the new mean square (decay). -/
theorem result_sq0 : (dats m 0 c).arrAt 19 cfg0.N = sq (r := 64) (m ((c : Thread nD τ).loc main_arg0)) (m ((c : Thread nD τ).loc main_arg9)) := by
  refine (dats m 0 c).arrAt_eq_of_covers 19 _ (by decide +kernel) fun t _ y => ?_
  blk_simp
  rw [after0_19]
  obtain ⟨a, r, d, rfl⟩ : ∃ (a : Fin 1) (r : Fin 64) (d : Fin 128), y = ix3 a r d := ⟨y 0, y 1, y 2, eq_ix3 y⟩
  refine (body_sq0 (iblk m c 0 t) (iblk m c 1 t) (iblk m c 2 t) (iblk m c 3 t) (iblk m c 4 t) (iblk m c 5 t) (iblk m c 6 t) (iblk m c 7 t) (iblk m c 8 t) (iblk m c 9 t) a r d).trans ?_
  refine Eq.trans (b := sq (r := 64) (m ((c : Thread nD τ).loc main_arg0)) (m ((c : Thread nD τ).loc main_arg9)) (ix3 a r d)) ?_ ?_
  · exact congrArg₂ Adam.sq (bg0 m c t r d) (b7 m c t a r d)
  · blk_ext [idx t]

/-- The body leaves the new mean square (iclr). -/
theorem body_sq1 (x0 : FVec Ideal S256x128 .f32) (x1 x2 : FVec Ideal S1x64x128 .f32) (x3 : FVec Ideal S1x128x128 .f32)
    (x4 x5 : FVec Ideal S1x64x128 .f32) (x6 : FVec Ideal S1x128x128 .f32) (x7 x8 : FVec Ideal S1x64x128 .f32) (x9 : FVec Ideal S1x128x128 .f32)
    (a : Fin 1) (r : Fin 64) (d : Fin 128) : out0_20 (F := Ideal) x0 x1 x2 x3 x4 x5 x6 x7 x8 x9 (ix3 a r d) = Adam.sq (x0 (ix2 (⟨64 + r.val, by omega⟩ : Fin 256) d)) (x8 (ix3 a r d)) := by
  obtain rfl : a = 0 := Subsingleton.elim _ _
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  try rfl

/-- The kernel's result that holds the new mean square (iclr). -/
theorem result_sq1 : (dats m 0 c).arrAt 20 cfg0.N = sq (r := 64) (m ((c : Thread nD τ).loc main_arg1)) (m ((c : Thread nD τ).loc main_arg10)) := by
  refine (dats m 0 c).arrAt_eq_of_covers 20 _ (by decide +kernel) fun t _ y => ?_
  blk_simp
  rw [after0_20]
  obtain ⟨a, r, d, rfl⟩ : ∃ (a : Fin 1) (r : Fin 64) (d : Fin 128), y = ix3 a r d := ⟨y 0, y 1, y 2, eq_ix3 y⟩
  refine (body_sq1 (iblk m c 0 t) (iblk m c 1 t) (iblk m c 2 t) (iblk m c 3 t) (iblk m c 4 t) (iblk m c 5 t) (iblk m c 6 t) (iblk m c 7 t) (iblk m c 8 t) (iblk m c 9 t) a r d).trans ?_
  refine Eq.trans (b := sq (r := 64) (m ((c : Thread nD τ).loc main_arg1)) (m ((c : Thread nD τ).loc main_arg10)) (ix3 a r d)) ?_ ?_
  · exact congrArg₂ Adam.sq (bg1 m c t r d) (b8 m c t a r d)
  · blk_ext [idx t]

/-- The body leaves the new mean square (gate). -/
theorem body_sq2 (x0 : FVec Ideal S256x128 .f32) (x1 x2 : FVec Ideal S1x64x128 .f32) (x3 : FVec Ideal S1x128x128 .f32)
    (x4 x5 : FVec Ideal S1x64x128 .f32) (x6 : FVec Ideal S1x128x128 .f32) (x7 x8 : FVec Ideal S1x64x128 .f32) (x9 : FVec Ideal S1x128x128 .f32)
    (a : Fin 1) (r : Fin 128) (d : Fin 128) : out0_21 (F := Ideal) x0 x1 x2 x3 x4 x5 x6 x7 x8 x9 (ix3 a r d) = Adam.sq (x0 (ix2 (⟨128 + r.val, by omega⟩ : Fin 256) d)) (x9 (ix3 a r d)) := by
  obtain rfl : a = 0 := Subsingleton.elim _ _
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  try rfl

/-- The kernel's result that holds the new mean square (gate). -/
theorem result_sq2 : (dats m 0 c).arrAt 21 cfg0.N = sq (r := 128) (m ((c : Thread nD τ).loc main_arg2)) (m ((c : Thread nD τ).loc main_arg11)) := by
  refine (dats m 0 c).arrAt_eq_of_covers 21 _ (by decide +kernel) fun t _ y => ?_
  blk_simp
  rw [after0_21]
  obtain ⟨a, r, d, rfl⟩ : ∃ (a : Fin 1) (r : Fin 128) (d : Fin 128), y = ix3 a r d := ⟨y 0, y 1, y 2, eq_ix3 y⟩
  refine (body_sq2 (iblk m c 0 t) (iblk m c 1 t) (iblk m c 2 t) (iblk m c 3 t) (iblk m c 4 t) (iblk m c 5 t) (iblk m c 6 t) (iblk m c 7 t) (iblk m c 8 t) (iblk m c 9 t) a r d).trans ?_
  refine Eq.trans (b := sq (r := 128) (m ((c : Thread nD τ).loc main_arg2)) (m ((c : Thread nD τ).loc main_arg11)) (ix3 a r d)) ?_ ?_
  · exact congrArg₂ Adam.sq (bg2 m c t r d) (b9 m c t a r d)
  · blk_ext [idx t]

end Cert.AdamLoraIdeal.Arr

namespace Cert.AdamLoraRefIdeal

/-- The reference's result that holds the gradient (decay). -/
theorem result_grad0 (x0 : FVec Ideal S64x128 .f32) :
    Read.val_main_v0 (F := Ideal) x0 = Cert.AdamLoraIdeal.Arr.grad (r := 64) x0 := by
  funext i
  obtain ⟨a, r, d, rfl⟩ : ∃ (a : Fin 1) (r : Fin 64) (d : Fin 128), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24]
  try rfl

/-- The reference's result that holds the gradient (iclr). -/
theorem result_grad1 (x1 : FVec Ideal S64x128 .f32) :
    Read.val_main_v25 (F := Ideal) x1 = Cert.AdamLoraIdeal.Arr.grad (r := 64) x1 := by
  funext i
  obtain ⟨a, r, d, rfl⟩ : ∃ (a : Fin 1) (r : Fin 64) (d : Fin 128), i = ix3 a r d := ⟨i 0, i 1, i 2, eq_ix3 i⟩
  obtain rfl : a = 0 := Subsingleton.elim _ _
  pointwise [Read.val_main_v25, Read.val_main_cst_8, Read.val_main_v26, Read.val_main_v27, Read.val_main_cst_9, Read.val_main_v28, Read.val_main_v29, Read.val_main_v30, Read.val_main_cst_10, Read.val_main_v31, Read.val_main_v32, Read.val_main_v33, Read.val_main_cst_11, Read.val_main_v34, Read.val_main_v35, Read.val_main_v36, Read.val_main_cst_12, Read.val_main_v37, Read.val_main_v38, Read.val_main_cst_13, Read.val_main_v39, Read.val_main_v40, Read.val_main_v41, Read.val_main_cst_14, Read.val_main_v42, Read.val_main_v43, Read.val_main_v44, Read.val_main_cst_15, Read.val_main_v45, Read.val_main_v46, Read.val_main_v47, Read.val_main_cst_16, Read.val_main_v48, Read.val_main_v49]
  try rfl

/-- The reference's result that holds the gradient (gate). -/
theorem result_grad2 (x2 : FVec Ideal S128x128 .f32) :
    Read.val_main_v50 (F := Ideal) x2 = Cert.AdamLoraIdeal.Arr.grad (r := 128) x2 := by
  funext i
  obtain ⟨a, r, d, rfl⟩ : ∃ (a : Fin 1) (r : Fin 128) (d : Fin 128), i = ix3 a r d := ⟨i 0, i 1, i 2, eq_ix3 i⟩
  obtain rfl : a = 0 := Subsingleton.elim _ _
  pointwise [Read.val_main_v50, Read.val_main_cst_17, Read.val_main_v51, Read.val_main_v52, Read.val_main_cst_18, Read.val_main_v53, Read.val_main_v54, Read.val_main_v55, Read.val_main_cst_19, Read.val_main_v56, Read.val_main_v57, Read.val_main_v58, Read.val_main_cst_20, Read.val_main_v59, Read.val_main_v60, Read.val_main_v61, Read.val_main_cst_21, Read.val_main_v62, Read.val_main_v63, Read.val_main_cst_22, Read.val_main_v64, Read.val_main_v65, Read.val_main_v66, Read.val_main_cst_23, Read.val_main_v67, Read.val_main_v68, Read.val_main_v69, Read.val_main_cst_24, Read.val_main_v70, Read.val_main_v71, Read.val_main_v72, Read.val_main_cst_25, Read.val_main_v73, Read.val_main_v74]
  try rfl

/-- The reference's result that holds the change (decay). -/
theorem result_delta0 (x0 : FVec Ideal S64x128 .f32) (x3 : FVec Ideal S1x64x128 .f32) (x6 : FVec Ideal S1x64x128 .f32) (x9 : FVec Ideal S1x64x128 .f32) :
    Read.val_main_v24 (F := Ideal) x0 x3 x6 x9 = Cert.AdamLoraIdeal.Arr.delta (r := 64) x3 x0 x6 x9 := by
  funext i
  obtain ⟨a, r, d, rfl⟩ : ∃ (a : Fin 1) (r : Fin 64) (d : Fin 128), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24]
  try rfl

/-- The reference's result that holds the change (iclr). -/
theorem result_delta1 (x1 : FVec Ideal S64x128 .f32) (x4 : FVec Ideal S1x64x128 .f32) (x7 : FVec Ideal S1x64x128 .f32) (x10 : FVec Ideal S1x64x128 .f32) :
    Read.val_main_v49 (F := Ideal) x1 x4 x7 x10 = Cert.AdamLoraIdeal.Arr.delta (r := 64) x4 x1 x7 x10 := by
  funext i
  obtain ⟨a, r, d, rfl⟩ : ∃ (a : Fin 1) (r : Fin 64) (d : Fin 128), i = ix3 a r d := ⟨i 0, i 1, i 2, eq_ix3 i⟩
  obtain rfl : a = 0 := Subsingleton.elim _ _
  pointwise [Read.val_main_v25, Read.val_main_cst_8, Read.val_main_v26, Read.val_main_v27, Read.val_main_cst_9, Read.val_main_v28, Read.val_main_v29, Read.val_main_v30, Read.val_main_cst_10, Read.val_main_v31, Read.val_main_v32, Read.val_main_v33, Read.val_main_cst_11, Read.val_main_v34, Read.val_main_v35, Read.val_main_v36, Read.val_main_cst_12, Read.val_main_v37, Read.val_main_v38, Read.val_main_cst_13, Read.val_main_v39, Read.val_main_v40, Read.val_main_v41, Read.val_main_cst_14, Read.val_main_v42, Read.val_main_v43, Read.val_main_v44, Read.val_main_cst_15, Read.val_main_v45, Read.val_main_v46, Read.val_main_v47, Read.val_main_cst_16, Read.val_main_v48, Read.val_main_v49]
  try rfl

/-- The reference's result that holds the change (gate). -/
theorem result_delta2 (x2 : FVec Ideal S128x128 .f32) (x5 : FVec Ideal S1x128x128 .f32) (x8 : FVec Ideal S1x128x128 .f32) (x11 : FVec Ideal S1x128x128 .f32) :
    Read.val_main_v74 (F := Ideal) x2 x5 x8 x11 = Cert.AdamLoraIdeal.Arr.delta (r := 128) x5 x2 x8 x11 := by
  funext i
  obtain ⟨a, r, d, rfl⟩ : ∃ (a : Fin 1) (r : Fin 128) (d : Fin 128), i = ix3 a r d := ⟨i 0, i 1, i 2, eq_ix3 i⟩
  obtain rfl : a = 0 := Subsingleton.elim _ _
  pointwise [Read.val_main_v50, Read.val_main_cst_17, Read.val_main_v51, Read.val_main_v52, Read.val_main_cst_18, Read.val_main_v53, Read.val_main_v54, Read.val_main_v55, Read.val_main_cst_19, Read.val_main_v56, Read.val_main_v57, Read.val_main_v58, Read.val_main_cst_20, Read.val_main_v59, Read.val_main_v60, Read.val_main_v61, Read.val_main_cst_21, Read.val_main_v62, Read.val_main_v63, Read.val_main_cst_22, Read.val_main_v64, Read.val_main_v65, Read.val_main_v66, Read.val_main_cst_23, Read.val_main_v67, Read.val_main_v68, Read.val_main_v69, Read.val_main_cst_24, Read.val_main_v70, Read.val_main_v71, Read.val_main_v72, Read.val_main_cst_25, Read.val_main_v73, Read.val_main_v74]
  try rfl

/-- The reference's result that holds the new mean (decay). -/
theorem result_mean0 (x0 : FVec Ideal S64x128 .f32) (x6 : FVec Ideal S1x64x128 .f32) :
    Read.val_main_v5 (F := Ideal) x0 x6 = Cert.AdamLoraIdeal.Arr.mean (r := 64) x0 x6 := by
  funext i
  obtain ⟨a, r, d, rfl⟩ : ∃ (a : Fin 1) (r : Fin 64) (d : Fin 128), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24]
  try rfl

/-- The reference's result that holds the new mean (iclr). -/
theorem result_mean1 (x1 : FVec Ideal S64x128 .f32) (x7 : FVec Ideal S1x64x128 .f32) :
    Read.val_main_v30 (F := Ideal) x1 x7 = Cert.AdamLoraIdeal.Arr.mean (r := 64) x1 x7 := by
  funext i
  obtain ⟨a, r, d, rfl⟩ : ∃ (a : Fin 1) (r : Fin 64) (d : Fin 128), i = ix3 a r d := ⟨i 0, i 1, i 2, eq_ix3 i⟩
  obtain rfl : a = 0 := Subsingleton.elim _ _
  pointwise [Read.val_main_v25, Read.val_main_cst_8, Read.val_main_v26, Read.val_main_v27, Read.val_main_cst_9, Read.val_main_v28, Read.val_main_v29, Read.val_main_v30, Read.val_main_cst_10, Read.val_main_v31, Read.val_main_v32, Read.val_main_v33, Read.val_main_cst_11, Read.val_main_v34, Read.val_main_v35, Read.val_main_v36, Read.val_main_cst_12, Read.val_main_v37, Read.val_main_v38, Read.val_main_cst_13, Read.val_main_v39, Read.val_main_v40, Read.val_main_v41, Read.val_main_cst_14, Read.val_main_v42, Read.val_main_v43, Read.val_main_v44, Read.val_main_cst_15, Read.val_main_v45, Read.val_main_v46, Read.val_main_v47, Read.val_main_cst_16, Read.val_main_v48, Read.val_main_v49]
  try rfl

/-- The reference's result that holds the new mean (gate). -/
theorem result_mean2 (x2 : FVec Ideal S128x128 .f32) (x8 : FVec Ideal S1x128x128 .f32) :
    Read.val_main_v55 (F := Ideal) x2 x8 = Cert.AdamLoraIdeal.Arr.mean (r := 128) x2 x8 := by
  funext i
  obtain ⟨a, r, d, rfl⟩ : ∃ (a : Fin 1) (r : Fin 128) (d : Fin 128), i = ix3 a r d := ⟨i 0, i 1, i 2, eq_ix3 i⟩
  obtain rfl : a = 0 := Subsingleton.elim _ _
  pointwise [Read.val_main_v50, Read.val_main_cst_17, Read.val_main_v51, Read.val_main_v52, Read.val_main_cst_18, Read.val_main_v53, Read.val_main_v54, Read.val_main_v55, Read.val_main_cst_19, Read.val_main_v56, Read.val_main_v57, Read.val_main_v58, Read.val_main_cst_20, Read.val_main_v59, Read.val_main_v60, Read.val_main_v61, Read.val_main_cst_21, Read.val_main_v62, Read.val_main_v63, Read.val_main_cst_22, Read.val_main_v64, Read.val_main_v65, Read.val_main_v66, Read.val_main_cst_23, Read.val_main_v67, Read.val_main_v68, Read.val_main_v69, Read.val_main_cst_24, Read.val_main_v70, Read.val_main_v71, Read.val_main_v72, Read.val_main_cst_25, Read.val_main_v73, Read.val_main_v74]
  try rfl

/-- The reference's result that holds the new mean square (decay). -/
theorem result_sq0 (x0 : FVec Ideal S64x128 .f32) (x9 : FVec Ideal S1x64x128 .f32) :
    Read.val_main_v11 (F := Ideal) x0 x9 = Cert.AdamLoraIdeal.Arr.sq (r := 64) x0 x9 := by
  funext i
  obtain ⟨a, r, d, rfl⟩ : ∃ (a : Fin 1) (r : Fin 64) (d : Fin 128), i = ix3 a r d := ⟨i 0, i 1, i 2, eq_ix3 i⟩
  obtain rfl : a = 0 := Subsingleton.elim _ _
  pointwise [Read.val_main_v0, Read.val_main_cst, Read.val_main_v1, Read.val_main_v2, Read.val_main_cst_0, Read.val_main_v3, Read.val_main_v4, Read.val_main_v5, Read.val_main_cst_1, Read.val_main_v6, Read.val_main_v7, Read.val_main_v8, Read.val_main_cst_2, Read.val_main_v9, Read.val_main_v10, Read.val_main_v11, Read.val_main_cst_3, Read.val_main_v12, Read.val_main_v13, Read.val_main_cst_4, Read.val_main_v14, Read.val_main_v15, Read.val_main_v16, Read.val_main_cst_5, Read.val_main_v17, Read.val_main_v18, Read.val_main_v19, Read.val_main_cst_6, Read.val_main_v20, Read.val_main_v21, Read.val_main_v22, Read.val_main_cst_7, Read.val_main_v23, Read.val_main_v24]
  try rfl

/-- The reference's result that holds the new mean square (iclr). -/
theorem result_sq1 (x1 : FVec Ideal S64x128 .f32) (x10 : FVec Ideal S1x64x128 .f32) :
    Read.val_main_v36 (F := Ideal) x1 x10 = Cert.AdamLoraIdeal.Arr.sq (r := 64) x1 x10 := by
  funext i
  obtain ⟨a, r, d, rfl⟩ : ∃ (a : Fin 1) (r : Fin 64) (d : Fin 128), i = ix3 a r d := ⟨i 0, i 1, i 2, eq_ix3 i⟩
  obtain rfl : a = 0 := Subsingleton.elim _ _
  pointwise [Read.val_main_v25, Read.val_main_cst_8, Read.val_main_v26, Read.val_main_v27, Read.val_main_cst_9, Read.val_main_v28, Read.val_main_v29, Read.val_main_v30, Read.val_main_cst_10, Read.val_main_v31, Read.val_main_v32, Read.val_main_v33, Read.val_main_cst_11, Read.val_main_v34, Read.val_main_v35, Read.val_main_v36, Read.val_main_cst_12, Read.val_main_v37, Read.val_main_v38, Read.val_main_cst_13, Read.val_main_v39, Read.val_main_v40, Read.val_main_v41, Read.val_main_cst_14, Read.val_main_v42, Read.val_main_v43, Read.val_main_v44, Read.val_main_cst_15, Read.val_main_v45, Read.val_main_v46, Read.val_main_v47, Read.val_main_cst_16, Read.val_main_v48, Read.val_main_v49]
  try rfl

/-- The reference's result that holds the new mean square (gate). -/
theorem result_sq2 (x2 : FVec Ideal S128x128 .f32) (x11 : FVec Ideal S1x128x128 .f32) :
    Read.val_main_v61 (F := Ideal) x2 x11 = Cert.AdamLoraIdeal.Arr.sq (r := 128) x2 x11 := by
  funext i
  obtain ⟨a, r, d, rfl⟩ : ∃ (a : Fin 1) (r : Fin 128) (d : Fin 128), i = ix3 a r d := ⟨i 0, i 1, i 2, eq_ix3 i⟩
  obtain rfl : a = 0 := Subsingleton.elim _ _
  pointwise [Read.val_main_v50, Read.val_main_cst_17, Read.val_main_v51, Read.val_main_v52, Read.val_main_cst_18, Read.val_main_v53, Read.val_main_v54, Read.val_main_v55, Read.val_main_cst_19, Read.val_main_v56, Read.val_main_v57, Read.val_main_v58, Read.val_main_cst_20, Read.val_main_v59, Read.val_main_v60, Read.val_main_v61, Read.val_main_cst_21, Read.val_main_v62, Read.val_main_v63, Read.val_main_cst_22, Read.val_main_v64, Read.val_main_v65, Read.val_main_v66, Read.val_main_cst_23, Read.val_main_v67, Read.val_main_v68, Read.val_main_v69, Read.val_main_cst_24, Read.val_main_v70, Read.val_main_v71, Read.val_main_v72, Read.val_main_cst_25, Read.val_main_v73, Read.val_main_v74]
  try rfl

end Cert.AdamLoraRefIdeal

namespace Cert.AdamLoraJoin

/-- The kernel's results are the reference's. -/
theorem algebraic : Cert.algebraic_AdamLoraIdeal_AdamLoraRefIdeal := by
  pair_intro
  · run_from Cert.AdamLoraIdeal.Value.run_blocks m g
  · run_from Cert.AdamLoraRefIdeal.Value.run m' g'
    · exact ((Cert.AdamLoraRefIdeal.Read.val_main_v0_eq _).trans (Cert.AdamLoraRefIdeal.result_grad0
        (m ((c.tc : Thread Cert.AdamLoraIdeal.nD Cert.AdamLoraIdeal.τ).loc Cert.AdamLoraIdeal.main_arg0)))).trans
        (Cert.AdamLoraIdeal.Arr.result_grad0 m c).symm
    · exact ((Cert.AdamLoraRefIdeal.Read.val_main_v25_eq _).trans (Cert.AdamLoraRefIdeal.result_grad1
        (m ((c.tc : Thread Cert.AdamLoraIdeal.nD Cert.AdamLoraIdeal.τ).loc Cert.AdamLoraIdeal.main_arg1)))).trans
        (Cert.AdamLoraIdeal.Arr.result_grad1 m c).symm
    · exact ((Cert.AdamLoraRefIdeal.Read.val_main_v50_eq _).trans (Cert.AdamLoraRefIdeal.result_grad2
        (m ((c.tc : Thread Cert.AdamLoraIdeal.nD Cert.AdamLoraIdeal.τ).loc Cert.AdamLoraIdeal.main_arg2)))).trans
        (Cert.AdamLoraIdeal.Arr.result_grad2 m c).symm
    · exact ((Cert.AdamLoraRefIdeal.Read.val_main_v24_eq _ _ _ _).trans (Cert.AdamLoraRefIdeal.result_delta0
        (m ((c.tc : Thread Cert.AdamLoraIdeal.nD Cert.AdamLoraIdeal.τ).loc Cert.AdamLoraIdeal.main_arg0)) (m ((c.tc : Thread Cert.AdamLoraIdeal.nD Cert.AdamLoraIdeal.τ).loc Cert.AdamLoraIdeal.main_arg3)) (m ((c.tc : Thread Cert.AdamLoraIdeal.nD Cert.AdamLoraIdeal.τ).loc Cert.AdamLoraIdeal.main_arg6)) (m ((c.tc : Thread Cert.AdamLoraIdeal.nD Cert.AdamLoraIdeal.τ).loc Cert.AdamLoraIdeal.main_arg9)))).trans
        (Cert.AdamLoraIdeal.Arr.result_delta0 m c).symm
    · exact ((Cert.AdamLoraRefIdeal.Read.val_main_v49_eq _ _ _ _).trans (Cert.AdamLoraRefIdeal.result_delta1
        (m ((c.tc : Thread Cert.AdamLoraIdeal.nD Cert.AdamLoraIdeal.τ).loc Cert.AdamLoraIdeal.main_arg1)) (m ((c.tc : Thread Cert.AdamLoraIdeal.nD Cert.AdamLoraIdeal.τ).loc Cert.AdamLoraIdeal.main_arg4)) (m ((c.tc : Thread Cert.AdamLoraIdeal.nD Cert.AdamLoraIdeal.τ).loc Cert.AdamLoraIdeal.main_arg7)) (m ((c.tc : Thread Cert.AdamLoraIdeal.nD Cert.AdamLoraIdeal.τ).loc Cert.AdamLoraIdeal.main_arg10)))).trans
        (Cert.AdamLoraIdeal.Arr.result_delta1 m c).symm
    · exact ((Cert.AdamLoraRefIdeal.Read.val_main_v74_eq _ _ _ _).trans (Cert.AdamLoraRefIdeal.result_delta2
        (m ((c.tc : Thread Cert.AdamLoraIdeal.nD Cert.AdamLoraIdeal.τ).loc Cert.AdamLoraIdeal.main_arg2)) (m ((c.tc : Thread Cert.AdamLoraIdeal.nD Cert.AdamLoraIdeal.τ).loc Cert.AdamLoraIdeal.main_arg5)) (m ((c.tc : Thread Cert.AdamLoraIdeal.nD Cert.AdamLoraIdeal.τ).loc Cert.AdamLoraIdeal.main_arg8)) (m ((c.tc : Thread Cert.AdamLoraIdeal.nD Cert.AdamLoraIdeal.τ).loc Cert.AdamLoraIdeal.main_arg11)))).trans
        (Cert.AdamLoraIdeal.Arr.result_delta2 m c).symm
    · exact ((Cert.AdamLoraRefIdeal.Read.val_main_v5_eq _ _).trans (Cert.AdamLoraRefIdeal.result_mean0
        (m ((c.tc : Thread Cert.AdamLoraIdeal.nD Cert.AdamLoraIdeal.τ).loc Cert.AdamLoraIdeal.main_arg0)) (m ((c.tc : Thread Cert.AdamLoraIdeal.nD Cert.AdamLoraIdeal.τ).loc Cert.AdamLoraIdeal.main_arg6)))).trans
        (Cert.AdamLoraIdeal.Arr.result_mean0 m c).symm
    · exact ((Cert.AdamLoraRefIdeal.Read.val_main_v30_eq _ _).trans (Cert.AdamLoraRefIdeal.result_mean1
        (m ((c.tc : Thread Cert.AdamLoraIdeal.nD Cert.AdamLoraIdeal.τ).loc Cert.AdamLoraIdeal.main_arg1)) (m ((c.tc : Thread Cert.AdamLoraIdeal.nD Cert.AdamLoraIdeal.τ).loc Cert.AdamLoraIdeal.main_arg7)))).trans
        (Cert.AdamLoraIdeal.Arr.result_mean1 m c).symm
    · exact ((Cert.AdamLoraRefIdeal.Read.val_main_v55_eq _ _).trans (Cert.AdamLoraRefIdeal.result_mean2
        (m ((c.tc : Thread Cert.AdamLoraIdeal.nD Cert.AdamLoraIdeal.τ).loc Cert.AdamLoraIdeal.main_arg2)) (m ((c.tc : Thread Cert.AdamLoraIdeal.nD Cert.AdamLoraIdeal.τ).loc Cert.AdamLoraIdeal.main_arg8)))).trans
        (Cert.AdamLoraIdeal.Arr.result_mean2 m c).symm
    · exact ((Cert.AdamLoraRefIdeal.Read.val_main_v11_eq _ _).trans (Cert.AdamLoraRefIdeal.result_sq0
        (m ((c.tc : Thread Cert.AdamLoraIdeal.nD Cert.AdamLoraIdeal.τ).loc Cert.AdamLoraIdeal.main_arg0)) (m ((c.tc : Thread Cert.AdamLoraIdeal.nD Cert.AdamLoraIdeal.τ).loc Cert.AdamLoraIdeal.main_arg9)))).trans
        (Cert.AdamLoraIdeal.Arr.result_sq0 m c).symm
    · exact ((Cert.AdamLoraRefIdeal.Read.val_main_v36_eq _ _).trans (Cert.AdamLoraRefIdeal.result_sq1
        (m ((c.tc : Thread Cert.AdamLoraIdeal.nD Cert.AdamLoraIdeal.τ).loc Cert.AdamLoraIdeal.main_arg1)) (m ((c.tc : Thread Cert.AdamLoraIdeal.nD Cert.AdamLoraIdeal.τ).loc Cert.AdamLoraIdeal.main_arg10)))).trans
        (Cert.AdamLoraIdeal.Arr.result_sq1 m c).symm
    · exact ((Cert.AdamLoraRefIdeal.Read.val_main_v61_eq _ _).trans (Cert.AdamLoraRefIdeal.result_sq2
        (m ((c.tc : Thread Cert.AdamLoraIdeal.nD Cert.AdamLoraIdeal.τ).loc Cert.AdamLoraIdeal.main_arg2)) (m ((c.tc : Thread Cert.AdamLoraIdeal.nD Cert.AdamLoraIdeal.τ).loc Cert.AdamLoraIdeal.main_arg11)))).trans
        (Cert.AdamLoraIdeal.Arr.result_sq2 m c).symm

end Cert.AdamLoraJoin
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.GradDown
public import proofs.«01_k».proof.Proof.Gen.GradDown.Skeleton
public import proofs.«01_k».proof.Proof.Gen.GradDown.Launch
public import proofs.«01_k».proof.Proof.Gen.GradDown.Points
public import proofs.«01_k».proof.Proof.Gen.GradDown.Frame
public import proofs.«01_k».proof.Proof.Gen.GradDownIdeal
public import proofs.«01_k».proof.Proof.Gen.GradDownIdeal.Skeleton
public import proofs.«01_k».proof.Proof.Gen.GradDownIdeal.Launch
public import proofs.«01_k».proof.Proof.Gen.GradDownIdeal.Points
public import proofs.«01_k».proof.Proof.Gen.GradDownIdeal.Frame
public import proofs.«01_k».proof.Proof.Gen.GradGate
public import proofs.«01_k».proof.Proof.Gen.GradGate.Skeleton
public import proofs.«01_k».proof.Proof.Gen.GradGate.Launch
public import proofs.«01_k».proof.Proof.Gen.GradGate.Points
public import proofs.«01_k».proof.Proof.Gen.GradGate.Frame
public import proofs.«01_k».proof.Proof.Gen.GradGateIdeal
public import proofs.«01_k».proof.Proof.Gen.GradGateIdeal.Skeleton
public import proofs.«01_k».proof.Proof.Gen.GradGateIdeal.Launch
public import proofs.«01_k».proof.Proof.Gen.GradGateIdeal.Points
public import proofs.«01_k».proof.Proof.Gen.GradGateIdeal.Frame
public import proofs.«01_k».proof.Proof.Gen.GradOut
public import proofs.«01_k».proof.Proof.Gen.GradOut.Skeleton
public import proofs.«01_k».proof.Proof.Gen.GradOut.Launch
public import proofs.«01_k».proof.Proof.Gen.GradOut.Points
public import proofs.«01_k».proof.Proof.Gen.GradOut.Frame
public import proofs.«01_k».proof.Proof.Gen.GradOutIdeal
public import proofs.«01_k».proof.Proof.Gen.GradOutIdeal.Skeleton
public import proofs.«01_k».proof.Proof.Gen.GradOutIdeal.Launch
public import proofs.«01_k».proof.Proof.Gen.GradOutIdeal.Points
public import proofs.«01_k».proof.Proof.Gen.GradOutIdeal.Frame
public import proofs.«01_k».proof.Proof.Gen.GradIn
public import proofs.«01_k».proof.Proof.Gen.GradIn.Skeleton
public import proofs.«01_k».proof.Proof.Gen.GradIn.Launch
public import proofs.«01_k».proof.Proof.Gen.GradIn.Points
public import proofs.«01_k».proof.Proof.Gen.GradIn.Frame
public import proofs.«01_k».proof.Proof.Gen.GradInIdeal
public import proofs.«01_k».proof.Proof.Gen.GradInIdeal.Skeleton
public import proofs.«01_k».proof.Proof.Gen.GradInIdeal.Launch
public import proofs.«01_k».proof.Proof.Gen.GradInIdeal.Points
public import proofs.«01_k».proof.Proof.Gen.GradInIdeal.Frame
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamGate
public import proofs.«01_k».proof.Proof.Gen.AdamGate.Skeleton
public import proofs.«01_k».proof.Proof.Gen.AdamGate.Launch
public import proofs.«01_k».proof.Proof.Gen.AdamGate.Points
public import proofs.«01_k».proof.Proof.Gen.AdamGate.Frame
public import proofs.«01_k».proof.Proof.Gen.AdamGateIdeal
public import proofs.«01_k».proof.Proof.Gen.AdamGateIdeal.Skeleton
public import proofs.«01_k».proof.Proof.Gen.AdamGateIdeal.Launch
public import proofs.«01_k».proof.Proof.Gen.AdamGateIdeal.Points
public import proofs.«01_k».proof.Proof.Gen.AdamGateIdeal.Frame
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamLora
public import proofs.«01_k».proof.Proof.Gen.AdamLora.Skeleton
public import proofs.«01_k».proof.Proof.Gen.AdamLora.Launch
public import proofs.«01_k».proof.Proof.Gen.AdamLora.Points
public import proofs.«01_k».proof.Proof.Gen.AdamLora.Frame
public import proofs.«01_k».proof.Proof.Gen.AdamLoraIdeal
public import proofs.«01_k».proof.Proof.Gen.AdamLoraIdeal.Skeleton
public import proofs.«01_k».proof.Proof.Gen.AdamLoraIdeal.Launch
public import proofs.«01_k».proof.Proof.Gen.AdamLoraIdeal.Points
public import proofs.«01_k».proof.Proof.Gen.AdamLoraIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Join
public import proofs.«01_k».proof.Proof.Gen.GradDownIdeal.Value
public import proofs.«01_k».proof.Proof.Gen.GradDownRefIdeal
public import proofs.«01_k».proof.Proof.Gen.GradDownRefIdeal.Run
public import proofs.«01_k».proof.Proof.Gen.GradDownRefIdeal.Read
public import proofs.«01_k».proof.Proof.GradDown
public import proofs.«01_k».proof.Proof.Gen.GradGateIdeal.Value
public import proofs.«01_k».proof.Proof.Gen.GradGateRefIdeal
public import proofs.«01_k».proof.Proof.Gen.GradGateRefIdeal.Run
public import proofs.«01_k».proof.Proof.Gen.GradGateRefIdeal.Read
public import proofs.«01_k».proof.Proof.GradGate
public import proofs.«01_k».proof.Proof.Gen.GradOutIdeal.Value
public import proofs.«01_k».proof.Proof.Gen.GradOutRefIdeal
public import proofs.«01_k».proof.Proof.Gen.GradOutRefIdeal.Run
public import proofs.«01_k».proof.Proof.Gen.GradOutRefIdeal.Read
public import proofs.«01_k».proof.Proof.GradOut
public import proofs.«01_k».proof.Proof.Gen.GradInIdeal.Value
public import proofs.«01_k».proof.Proof.Gen.GradInRefIdeal
public import proofs.«01_k».proof.Proof.Gen.GradInRefIdeal.Run
public import proofs.«01_k».proof.Proof.Gen.GradInRefIdeal.Read
public import proofs.«01_k».proof.Proof.GradIn
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.AdamIn
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.AdamOut
public import proofs.«01_k».proof.Proof.Gen.AdamGateIdeal.Value
public import proofs.«01_k».proof.Proof.Gen.AdamGateRefIdeal
public import proofs.«01_k».proof.Proof.Gen.AdamGateRefIdeal.Run
public import proofs.«01_k».proof.Proof.Gen.AdamGateRefIdeal.Read
public import proofs.«01_k».proof.Proof.AdamGate
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.AdamDown
public import proofs.«01_k».proof.Proof.Gen.AdamLoraIdeal.Value
public import proofs.«01_k».proof.Proof.Gen.AdamLoraRefIdeal
public import proofs.«01_k».proof.Proof.Gen.AdamLoraRefIdeal.Run
public import proofs.«01_k».proof.Proof.Gen.AdamLoraRefIdeal.Read
public import proofs.«01_k».proof.Proof.AdamLora
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and every counter at zero: its run, and it declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0) :=
  (θ_run Cert.ReferenceIdeal.defs _ _).mono
    (fun r h => ⟨fun c => (h c).2.2.2.2.2.2.2.2.2.2.2.2, Idealize.ShloMosaic.sem_eq_zero_of_no_sems (by decide) r.2⟩)
    (Cert.ReferenceIdeal.Value.run (F := Ideal) m ρ)

/-- The reference of GradDown ends with its arguments unchanged and every counter at zero. -/
theorem frame_GradDown (m : (ℓ : Loc Cert.GradDownRefIdeal.nD Cert.GradDownRefIdeal.τ Cert.GradDownRefIdeal.sig) → Buf (Elt Ideal) ℓ) (ρ : Dev Cert.GradDownRefIdeal.nD → PrngReg) :
    θ_run (Cert.GradDownRefIdeal.defs (F := Ideal)) (onTc (τ := Cert.GradDownRefIdeal.τ) (Cert.GradDownRefIdeal.main (F := Ideal)))
      ⟨m, fun _ => 0, ρ⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0) :=
  (θ_run Cert.GradDownRefIdeal.defs _ _).mono
    (fun r h => ⟨fun c => (h c).2, Idealize.ShloMosaic.sem_eq_zero_of_no_sems (by decide) r.2⟩)
    (Cert.GradDownRefIdeal.Value.run (F := Ideal) m ρ)

/-- The reference of GradGate ends with its arguments unchanged and every counter at zero. -/
theorem frame_GradGate (m : (ℓ : Loc Cert.GradGateRefIdeal.nD Cert.GradGateRefIdeal.τ Cert.GradGateRefIdeal.sig) → Buf (Elt Ideal) ℓ) (ρ : Dev Cert.GradGateRefIdeal.nD → PrngReg) :
    θ_run (Cert.GradGateRefIdeal.defs (F := Ideal)) (onTc (τ := Cert.GradGateRefIdeal.τ) (Cert.GradGateRefIdeal.main (F := Ideal)))
      ⟨m, fun _ => 0, ρ⟩ (fun r => (∀ c : Dev Cert.GradGateRefIdeal.nD,
      r.2.mem ((c.tc : Thread Cert.GradGateRefIdeal.nD Cert.GradGateRefIdeal.τ).loc Cert.GradGateRefIdeal.main_arg0) = m ((c.tc : Thread Cert.GradGateRefIdeal.nD Cert.GradGateRefIdeal.τ).loc Cert.GradGateRefIdeal.main_arg0)
      ∧ r.2.mem ((c.tc : Thread Cert.GradGateRefIdeal.nD Cert.GradGateRefIdeal.τ).loc Cert.GradGateRefIdeal.main_arg1) = m ((c.tc : Thread Cert.GradGateRefIdeal.nD Cert.GradGateRefIdeal.τ).loc Cert.GradGateRefIdeal.main_arg1))
      ∧ r.2.sem = fun _ => 0) :=
  (θ_run Cert.GradGateRefIdeal.defs _ _).mono
    (fun r h => ⟨fun c => (h c).2, Idealize.ShloMosaic.sem_eq_zero_of_no_sems (by decide) r.2⟩)
    (Cert.GradGateRefIdeal.Value.run (F := Ideal) m ρ)

/-- The reference of GradOut ends with its arguments unchanged and every counter at zero. -/
theorem frame_GradOut (m : (ℓ : Loc Cert.GradOutRefIdeal.nD Cert.GradOutRefIdeal.τ Cert.GradOutRefIdeal.sig) → Buf (Elt Ideal) ℓ) (ρ : Dev Cert.GradOutRefIdeal.nD → PrngReg) :
    θ_run (Cert.GradOutRefIdeal.defs (F := Ideal)) (onTc (τ := Cert.GradOutRefIdeal.τ) (Cert.GradOutRefIdeal.main (F := Ideal)))
      ⟨m, fun _ => 0, ρ⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0) :=
  (θ_run Cert.GradOutRefIdeal.defs _ _).mono
    (fun r h => ⟨fun c => (h c).2, Idealize.ShloMosaic.sem_eq_zero_of_no_sems (by decide) r.2⟩)
    (Cert.GradOutRefIdeal.Value.run (F := Ideal) m ρ)

/-- The reference of GradIn ends with its arguments unchanged and every counter at zero. -/
theorem frame_GradIn (m : (ℓ : Loc Cert.GradInRefIdeal.nD Cert.GradInRefIdeal.τ Cert.GradInRefIdeal.sig) → Buf (Elt Ideal) ℓ) (ρ : Dev Cert.GradInRefIdeal.nD → PrngReg) :
    θ_run (Cert.GradInRefIdeal.defs (F := Ideal)) (onTc (τ := Cert.GradInRefIdeal.τ) (Cert.GradInRefIdeal.main (F := Ideal)))
      ⟨m, fun _ => 0, ρ⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0) :=
  (θ_run Cert.GradInRefIdeal.defs _ _).mono
    (fun r h => ⟨fun c => (h c).2, Idealize.ShloMosaic.sem_eq_zero_of_no_sems (by decide) r.2⟩)
    (Cert.GradInRefIdeal.Value.run (F := Ideal) m ρ)

/-- The reference of AdamIn ends with its arguments unchanged and every counter at zero. -/
theorem frame_AdamIn (m : (ℓ : Loc Cert.AdamInRefIdeal.nD Cert.AdamInRefIdeal.τ Cert.AdamInRefIdeal.sig) → Buf (Elt Ideal) ℓ) (ρ : Dev Cert.AdamInRefIdeal.nD → PrngReg) :
    θ_run (Cert.AdamInRefIdeal.defs (F := Ideal)) (onTc (τ := Cert.AdamInRefIdeal.τ) (Cert.AdamInRefIdeal.main (F := Ideal)))
      ⟨m, fun _ => 0, ρ⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0) :=
  (θ_run Cert.AdamInRefIdeal.defs _ _).mono
    (fun r h => ⟨fun c => (h c).2.2.2.2, Idealize.ShloMosaic.sem_eq_zero_of_no_sems (by decide) r.2⟩)
    (Cert.AdamInRefIdeal.Value.run (F := Ideal) m ρ)

/-- The reference of AdamOut ends with its arguments unchanged and every counter at zero. -/
theorem frame_AdamOut (m : (ℓ : Loc Cert.AdamOutRefIdeal.nD Cert.AdamOutRefIdeal.τ Cert.AdamOutRefIdeal.sig) → Buf (Elt Ideal) ℓ) (ρ : Dev Cert.AdamOutRefIdeal.nD → PrngReg) :
    θ_run (Cert.AdamOutRefIdeal.defs (F := Ideal)) (onTc (τ := Cert.AdamOutRefIdeal.τ) (Cert.AdamOutRefIdeal.main (F := Ideal)))
      ⟨m, fun _ => 0, ρ⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0) :=
  (θ_run Cert.AdamOutRefIdeal.defs _ _).mono
    (fun r h => ⟨fun c => (h c).2.2.2.2, Idealize.ShloMosaic.sem_eq_zero_of_no_sems (by decide) r.2⟩)
    (Cert.AdamOutRefIdeal.Value.run (F := Ideal) m ρ)

/-- The reference of AdamGate ends with its arguments unchanged and every counter at zero. -/
theorem frame_AdamGate (m : (ℓ : Loc Cert.AdamGateRefIdeal.nD Cert.AdamGateRefIdeal.τ Cert.AdamGateRefIdeal.sig) → Buf (Elt Ideal) ℓ) (ρ : Dev Cert.AdamGateRefIdeal.nD → PrngReg) :
    θ_run (Cert.AdamGateRefIdeal.defs (F := Ideal)) (onTc (τ := Cert.AdamGateRefIdeal.τ) (Cert.AdamGateRefIdeal.main (F := Ideal)))
      ⟨m, fun _ => 0, ρ⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0) :=
  (θ_run Cert.AdamGateRefIdeal.defs _ _).mono
    (fun r h => ⟨fun c => (h c).2.2.2.2, Idealize.ShloMosaic.sem_eq_zero_of_no_sems (by decide) r.2⟩)
    (Cert.AdamGateRefIdeal.Value.run (F := Ideal) m ρ)

/-- The reference of AdamDown ends with its arguments unchanged and every counter at zero. -/
theorem frame_AdamDown (m : (ℓ : Loc Cert.AdamDownRefIdeal.nD Cert.AdamDownRefIdeal.τ Cert.AdamDownRefIdeal.sig) → Buf (Elt Ideal) ℓ) (ρ : Dev Cert.AdamDownRefIdeal.nD → PrngReg) :
    θ_run (Cert.AdamDownRefIdeal.defs (F := Ideal)) (onTc (τ := Cert.AdamDownRefIdeal.τ) (Cert.AdamDownRefIdeal.main (F := Ideal)))
      ⟨m, fun _ => 0, ρ⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0) :=
  (θ_run Cert.AdamDownRefIdeal.defs _ _).mono
    (fun r h => ⟨fun c => (h c).2.2.2.2, Idealize.ShloMosaic.sem_eq_zero_of_no_sems (by decide) r.2⟩)
    (Cert.AdamDownRefIdeal.Value.run (F := Ideal) m ρ)

/-- The reference of AdamLora ends with its arguments unchanged and every counter at zero. -/
theorem frame_AdamLora (m : (ℓ : Loc Cert.AdamLoraRefIdeal.nD Cert.AdamLoraRefIdeal.τ Cert.AdamLoraRefIdeal.sig) → Buf (Elt Ideal) ℓ) (ρ : Dev Cert.AdamLoraRefIdeal.nD → PrngReg) :
    θ_run (Cert.AdamLoraRefIdeal.defs (F := Ideal)) (onTc (τ := Cert.AdamLoraRefIdeal.τ) (Cert.AdamLoraRefIdeal.main (F := Ideal)))
      ⟨m, fun _ => 0, ρ⟩ (fun r => (∀ c : Dev Cert.AdamLoraRefIdeal.nD,
      r.2.mem ((c.tc : Thread Cert.AdamLoraRefIdeal.nD Cert.AdamLoraRefIdeal.τ).loc Cert.AdamLoraRefIdeal.main_arg0) = m ((c.tc : Thread Cert.AdamLoraRefIdeal.nD Cert.AdamLoraRefIdeal.τ).loc Cert.AdamLoraRefIdeal.main_arg0)
      ∧ r.2.mem ((c.tc : Thread Cert.AdamLoraRefIdeal.nD Cert.AdamLoraRefIdeal.τ).loc Cert.AdamLoraRefIdeal.main_arg1) = m ((c.tc : Thread Cert.AdamLoraRefIdeal.nD Cert.AdamLoraRefIdeal.τ).loc Cert.AdamLoraRefIdeal.main_arg1)
      ∧ r.2.mem ((c.tc : Thread Cert.AdamLoraRefIdeal.nD Cert.AdamLoraRefIdeal.τ).loc Cert.AdamLoraRefIdeal.main_arg2) = m ((c.tc : Thread Cert.AdamLoraRefIdeal.nD Cert.AdamLoraRefIdeal.τ).loc Cert.AdamLoraRefIdeal.main_arg2)
      ∧ r.2.mem ((c.tc : Thread Cert.AdamLoraRefIdeal.nD Cert.AdamLoraRefIdeal.τ).loc Cert.AdamLoraRefIdeal.main_arg3) = m ((c.tc : Thread Cert.AdamLoraRefIdeal.nD Cert.AdamLoraRefIdeal.τ).loc Cert.AdamLoraRefIdeal.main_arg3)
      ∧ r.2.mem ((c.tc : Thread Cert.AdamLoraRefIdeal.nD Cert.AdamLoraRefIdeal.τ).loc Cert.AdamLoraRefIdeal.main_arg4) = m ((c.tc : Thread Cert.AdamLoraRefIdeal.nD Cert.AdamLoraRefIdeal.τ).loc Cert.AdamLoraRefIdeal.main_arg4)
      ∧ r.2.mem ((c.tc : Thread Cert.AdamLoraRefIdeal.nD Cert.AdamLoraRefIdeal.τ).loc Cert.AdamLoraRefIdeal.main_arg5) = m ((c.tc : Thread Cert.AdamLoraRefIdeal.nD Cert.AdamLoraRefIdeal.τ).loc Cert.AdamLoraRefIdeal.main_arg5)
      ∧ r.2.mem ((c.tc : Thread Cert.AdamLoraRefIdeal.nD Cert.AdamLoraRefIdeal.τ).loc Cert.AdamLoraRefIdeal.main_arg6) = m ((c.tc : Thread Cert.AdamLoraRefIdeal.nD Cert.AdamLoraRefIdeal.τ).loc Cert.AdamLoraRefIdeal.main_arg6)
      ∧ r.2.mem ((c.tc : Thread Cert.AdamLoraRefIdeal.nD Cert.AdamLoraRefIdeal.τ).loc Cert.AdamLoraRefIdeal.main_arg7) = m ((c.tc : Thread Cert.AdamLoraRefIdeal.nD Cert.AdamLoraRefIdeal.τ).loc Cert.AdamLoraRefIdeal.main_arg7)
      ∧ r.2.mem ((c.tc : Thread Cert.AdamLoraRefIdeal.nD Cert.AdamLoraRefIdeal.τ).loc Cert.AdamLoraRefIdeal.main_arg8) = m ((c.tc : Thread Cert.AdamLoraRefIdeal.nD Cert.AdamLoraRefIdeal.τ).loc Cert.AdamLoraRefIdeal.main_arg8)
      ∧ r.2.mem ((c.tc : Thread Cert.AdamLoraRefIdeal.nD Cert.AdamLoraRefIdeal.τ).loc Cert.AdamLoraRefIdeal.main_arg9) = m ((c.tc : Thread Cert.AdamLoraRefIdeal.nD Cert.AdamLoraRefIdeal.τ).loc Cert.AdamLoraRefIdeal.main_arg9)
      ∧ r.2.mem ((c.tc : Thread Cert.AdamLoraRefIdeal.nD Cert.AdamLoraRefIdeal.τ).loc Cert.AdamLoraRefIdeal.main_arg10) = m ((c.tc : Thread Cert.AdamLoraRefIdeal.nD Cert.AdamLoraRefIdeal.τ).loc Cert.AdamLoraRefIdeal.main_arg10)
      ∧ r.2.mem ((c.tc : Thread Cert.AdamLoraRefIdeal.nD Cert.AdamLoraRefIdeal.τ).loc Cert.AdamLoraRefIdeal.main_arg11) = m ((c.tc : Thread Cert.AdamLoraRefIdeal.nD Cert.AdamLoraRefIdeal.τ).loc Cert.AdamLoraRefIdeal.main_arg11))
      ∧ r.2.sem = fun _ => 0) :=
  (θ_run Cert.AdamLoraRefIdeal.defs _ _).mono
    (fun r h => ⟨fun c => (h c).2.2.2.2.2.2.2.2.2.2.2.2, Idealize.ShloMosaic.sem_eq_zero_of_no_sems (by decide) r.2⟩)
    (Cert.AdamLoraRefIdeal.Value.run (F := Ideal) m ρ)

/-- Everything certified: the frames are the generated ones, the idealizations rewrote nothing, and the values are those of the modules
    beside this one. -/
theorem claim : Cert.Claim := ⟨Cert.Kernel.Gen.facts,
  Cert.KernelIdeal.Gen.facts,
  Cert.ReferenceIdeal.Gen.facts,
  Cert.GradDown.Gen.facts,
  Cert.GradDownIdeal.Gen.facts,
  Cert.GradDownRefIdeal.Gen.facts,
  Cert.GradGate.Gen.facts,
  Cert.GradGateIdeal.Gen.facts,
  Cert.GradGateRefIdeal.Gen.facts,
  Cert.GradOut.Gen.facts,
  Cert.GradOutIdeal.Gen.facts,
  Cert.GradOutRefIdeal.Gen.facts,
  Cert.GradIn.Gen.facts,
  Cert.GradInIdeal.Gen.facts,
  Cert.GradInRefIdeal.Gen.facts,
  Cert.AdamIn.Gen.facts,
  Cert.AdamInIdeal.Gen.facts,
  Cert.AdamInRefIdeal.Gen.facts,
  Cert.AdamOut.Gen.facts,
  Cert.AdamOutIdeal.Gen.facts,
  Cert.AdamOutRefIdeal.Gen.facts,
  Cert.AdamGate.Gen.facts,
  Cert.AdamGateIdeal.Gen.facts,
  Cert.AdamGateRefIdeal.Gen.facts,
  Cert.AdamDown.Gen.facts,
  Cert.AdamDownIdeal.Gen.facts,
  Cert.AdamDownRefIdeal.Gen.facts,
  Cert.AdamLora.Gen.facts,
  Cert.AdamLoraIdeal.Gen.facts,
  Cert.AdamLoraRefIdeal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  fun m ρ _ => Cert.GradDown.Gen.frame m ρ,
  fun m ρ _ => Cert.GradDownIdeal.Gen.frame m ρ,
  fun m ρ _ => frame_GradDown m ρ,
  fun m ρ _ => Cert.GradGate.Gen.frame m ρ,
  fun m ρ _ => Cert.GradGateIdeal.Gen.frame m ρ,
  fun m ρ _ => frame_GradGate m ρ,
  fun m ρ _ => Cert.GradOut.Gen.frame m ρ,
  fun m ρ _ => Cert.GradOutIdeal.Gen.frame m ρ,
  fun m ρ _ => frame_GradOut m ρ,
  fun m ρ _ => Cert.GradIn.Gen.frame m ρ,
  fun m ρ _ => Cert.GradInIdeal.Gen.frame m ρ,
  fun m ρ _ => frame_GradIn m ρ,
  fun m ρ _ => Cert.AdamIn.Gen.frame m ρ,
  fun m ρ _ => Cert.AdamInIdeal.Gen.frame m ρ,
  fun m ρ _ => frame_AdamIn m ρ,
  fun m ρ _ => Cert.AdamOut.Gen.frame m ρ,
  fun m ρ _ => Cert.AdamOutIdeal.Gen.frame m ρ,
  fun m ρ _ => frame_AdamOut m ρ,
  fun m ρ _ => Cert.AdamGate.Gen.frame m ρ,
  fun m ρ _ => Cert.AdamGateIdeal.Gen.frame m ρ,
  fun m ρ _ => frame_AdamGate m ρ,
  fun m ρ _ => Cert.AdamDown.Gen.frame m ρ,
  fun m ρ _ => Cert.AdamDownIdeal.Gen.frame m ρ,
  fun m ρ _ => frame_AdamDown m ρ,
  fun m ρ _ => Cert.AdamLora.Gen.frame m ρ,
  fun m ρ _ => Cert.AdamLoraIdeal.Gen.frame m ρ,
  fun m ρ _ => frame_AdamLora m ρ,
  trivial,
  Cert.Join.algebraic,
  trivial,
  Cert.GradDownJoin.algebraic,
  trivial,
  Cert.GradGateJoin.algebraic,
  trivial,
  Cert.GradOutJoin.algebraic,
  trivial,
  Cert.GradInJoin.algebraic,
  trivial,
  Cert.AdamInJoin.algebraic,
  trivial,
  Cert.AdamOutJoin.algebraic,
  trivial,
  Cert.AdamGateJoin.algebraic,
  trivial,
  Cert.AdamDownJoin.algebraic,
  trivial,
  Cert.AdamLoraJoin.algebraic⟩

end Cert.Proof

end
